-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S256x2x256 Cert.KernelIdeal.S256x1x256
  ∧ IdealRules.bf16_pair.Statement Cert.KernelIdeal.S512x256 Cert.KernelIdeal.S256x256
  ∧ IdealRules.bf16_pair.HalfStatement Cert.KernelIdeal.S256x256
  ∧ IdealRules.bf16_pair.Statement Cert.KernelIdeal.S256x2x256 Cert.KernelIdeal.S256x1x256
  ∧ IdealRules.bf16_pair.Statement Cert.KernelIdeal.S8x2x256 Cert.KernelIdeal.S8x1x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x8192 : Shape := ⟨3, ![16, 1, 8192]⟩
abbrev S32000x4096 : Shape := ⟨2, ![32000, 4096]⟩
abbrev S32000x256 : Shape := ⟨2, ![32000, 256]⟩
abbrev S16x8192 : Shape := ⟨2, ![16, 8192]⟩
abbrev S16x1 : Shape := ⟨2, ![16, 1]⟩
abbrev S512x4096 : Shape := ⟨2, ![512, 4096]⟩
abbrev S512x256 : Shape := ⟨2, ![512, 256]⟩
abbrev S32x16384 : Shape := ⟨2, ![32, 16384]⟩
abbrev S256x256 : Shape := ⟨2, ![256, 256]⟩
abbrev S32x256 : Shape := ⟨2, ![32, 256]⟩
abbrev S16x256 : Shape := ⟨2, ![16, 256]⟩
abbrev S256x512 : Shape := ⟨2, ![256, 512]⟩
abbrev S512x512 : Shape := ⟨2, ![512, 512]⟩
abbrev S16x512 : Shape := ⟨2, ![16, 512]⟩
abbrev S8x256 : Shape := ⟨2, ![8, 256]⟩
abbrev S512x128 : Shape := ⟨2, ![512, 128]⟩
abbrev S128x128 : Shape := ⟨2, ![128, 128]⟩
abbrev S256x128 : Shape := ⟨2, ![256, 128]⟩
abbrev S128x256 : Shape := ⟨2, ![128, 256]⟩
abbrev S64x256 : Shape := ⟨2, ![64, 256]⟩
abbrev S64x1x256 : Shape := ⟨3, ![64, 1, 256]⟩
abbrev S64x8x256 : Shape := ⟨3, ![64, 8, 256]⟩
abbrev S1x256 : Shape := ⟨2, ![1, 256]⟩
abbrev S16 : Shape := ⟨1, ![16]⟩

abbrev nBuf : Space → Nat
  | .hbm => 7
  | .vmem => 15
  | .smem => 0
  | _ => 0

abbrev bufTy : (tb : Table) → Fin (tcTables nBuf tb) → BufTy
  | .hbm, ⟨0, _⟩ => ⟨S16x1x8192, .bf16⟩
  | .hbm, ⟨1, _⟩ => ⟨S32000x4096, .i8⟩
  | .hbm, ⟨2, _⟩ => ⟨S32000x256, .bf16⟩
  | .hbm, ⟨3, _⟩ => ⟨S16x8192, .bf16⟩
  | .hbm, ⟨4, _⟩ => ⟨S16x1, .i32⟩
  | .hbm, ⟨5, _⟩ => ⟨S16x1, .f32⟩
  | .hbm, ⟨6, _⟩ => ⟨S16x1, .f32⟩
  | .local _ .vmem, ⟨0, _⟩ => ⟨S16x8192, .bf16⟩
  | .local _ .vmem, ⟨1, _⟩ => ⟨S512x4096, .i8⟩
  | .local _ .vmem, ⟨2, _⟩ => ⟨S512x4096, .i8⟩
  | .local _ .vmem, ⟨3, _⟩ => ⟨S512x256, .bf16⟩
  | .local _ .vmem, ⟨4, _⟩ => ⟨S512x256, .bf16⟩
  | .local _ .vmem, ⟨5, _⟩ => ⟨S16x1, .i32⟩
  | .local _ .vmem, ⟨6, _⟩ => ⟨S16x1, .f32⟩
  | .local _ .vmem, ⟨7, _⟩ => ⟨S16x1, .f32⟩
  | .local _ .vmem, ⟨8, _⟩ => ⟨S512x256, .bf16⟩
  | .local _ .vmem, ⟨9, _⟩ => ⟨S32x16384, .bf16⟩
  | .local _ .vmem, ⟨10, _⟩ => ⟨S256x256, .i32⟩
  | .local _ .vmem, ⟨11, _⟩ => ⟨S256x256, .i32⟩
  | .local _ .vmem, ⟨12, _⟩ => ⟨S32x256, .f32⟩
  | .local _ .vmem, ⟨13, _⟩ => ⟨S32x256, .f32⟩
  | .local _ .vmem, ⟨14, _⟩ => ⟨S32x256, .i32⟩
  | _, _ => ⟨S16x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [BitOps F]

abbrev grid0 : Pipeline.Grid := ⟨1, ![63], ![false]⟩

def k0_cond2 (i : grid0.Coords) : BitVec 1 :=
  let arg0 : BitVec 32 := BitVec.ofNat 32 (i 0).val
  let c62_i32 : BitVec 32 := 62#32
  let v5615 : BitVec 1 := Scalar.cmpi .eq arg0 c62_i32
  let v5616 : BitVec 32 := Scalar.extui v5615
  let c0_i32_848 : BitVec 32 := 0#32
  let v5617 : BitVec 1 := Scalar.cmpi .ne v5616 c0_i32_848
  v5617

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
abbrev S256x2x256 : Shape := ⟨3, ![256, 2, 256]⟩
abbrev S256x1x256 : Shape := ⟨3, ![256, 1, 256]⟩
abbrev S8x2x256 : Shape := ⟨3, ![8, 2, 256]⟩
abbrev S8x1x256 : Shape := ⟨3, ![8, 1, 256]⟩
  | .local _ .vmem, ⟨10, _⟩ => ⟨S256x2x256, .bf16⟩
  | .local _ .vmem, ⟨11, _⟩ => ⟨S256x2x256, .bf16⟩
variable {F : FTy → Type} [FloatOps F]
-- ==== ReferenceIdeal.lean ====
abbrev S16x1x8192 : Shape := ⟨3, ![16, 1, 8192]⟩
abbrev S32000x4096 : Shape := ⟨2, ![32000, 4096]⟩
abbrev S32000x256 : Shape := ⟨2, ![32000, 256]⟩
abbrev S16x256x2x16 : Shape := ⟨4, ![16, 256, 2, 16]⟩
abbrev S16x256x1x16 : Shape := ⟨4, ![16, 256, 1, 16]⟩
abbrev S16x256x16 : Shape := ⟨3, ![16, 256, 16]⟩
abbrev S16x4096 : Shape := ⟨2, ![16, 4096]⟩
abbrev S32000x256x1 : Shape := ⟨3, ![32000, 256, 1]⟩
abbrev S32000x256x16 : Shape := ⟨3, ![32000, 256, 16]⟩
abbrev S_ : Shape := ⟨0, ![]⟩
abbrev S16x32000 : Shape := ⟨2, ![16, 32000]⟩
abbrev S16 : Shape := ⟨1, ![16]⟩
abbrev S16x1 : Shape := ⟨2, ![16, 1]⟩

abbrev nBuf : Space → Nat
  | .hbm => 61
  | .vmem => 0
  | .smem => 0
  | _ => 0

abbrev bufTy : (tb : Table) → Fin (tcTables nBuf tb) → BufTy
  | .hbm, ⟨0, _⟩ => ⟨S16x1x8192, .bf16⟩
  | .hbm, ⟨1, _⟩ => ⟨S32000x4096, .i8⟩
  | .hbm, ⟨2, _⟩ => ⟨S32000x256, .bf16⟩
  | .hbm, ⟨3, _⟩ => ⟨S16x256x2x16, .bf16⟩
  | .hbm, ⟨4, _⟩ => ⟨S16x256x1x16, .bf16⟩
  | .hbm, ⟨5, _⟩ => ⟨S16x256x16, .bf16⟩
  | .hbm, ⟨6, _⟩ => ⟨S16x4096, .bf16⟩
  | .hbm, ⟨7, _⟩ => ⟨S16x256x1x16, .bf16⟩
  | .hbm, ⟨8, _⟩ => ⟨S16x256x16, .bf16⟩
  | .hbm, ⟨9, _⟩ => ⟨S16x4096, .bf16⟩
  | .hbm, ⟨10, _⟩ => ⟨S32000x256x1, .bf16⟩
  | .hbm, ⟨11, _⟩ => ⟨S32000x256x16, .bf16⟩
  | .hbm, ⟨12, _⟩ => ⟨S32000x4096, .bf16⟩
  | .hbm, ⟨13, _⟩ => ⟨S32000x4096, .i32⟩
  | .hbm, ⟨14, _⟩ => ⟨S_, .i32⟩
  | .hbm, ⟨15, _⟩ => ⟨S32000x4096, .i32⟩
  | .hbm, ⟨16, _⟩ => ⟨S32000x4096, .i32⟩
  | .hbm, ⟨17, _⟩ => ⟨S_, .i32⟩
  | .hbm, ⟨18, _⟩ => ⟨S32000x4096, .i32⟩
  | .hbm, ⟨19, _⟩ => ⟨S32000x4096, .i32⟩
  | .hbm, ⟨20, _⟩ => ⟨S32000x4096, .bf16⟩
  | .hbm, ⟨21, _⟩ => ⟨S_, .bf16⟩
  | .hbm, ⟨22, _⟩ => ⟨S32000x4096, .bf16⟩
  | .hbm, ⟨23, _⟩ => ⟨S32000x4096, .bf16⟩
  | .hbm, ⟨24, _⟩ => ⟨S32000x4096, .bf16⟩
  | .hbm, ⟨25, _⟩ => ⟨S32000x4096, .i32⟩
  | .hbm, ⟨26, _⟩ => ⟨S_, .i32⟩
  | .hbm, ⟨27, _⟩ => ⟨S32000x4096, .i32⟩
  | .hbm, ⟨28, _⟩ => ⟨S32000x4096, .i32⟩
  | .hbm, ⟨29, _⟩ => ⟨S_, .i32⟩
  | .hbm, ⟨30, _⟩ => ⟨S32000x4096, .i32⟩
  | .hbm, ⟨31, _⟩ => ⟨S32000x4096, .i32⟩
  | .hbm, ⟨32, _⟩ => ⟨S32000x4096, .bf16⟩
  | .hbm, ⟨33, _⟩ => ⟨S_, .bf16⟩
  | .hbm, ⟨34, _⟩ => ⟨S32000x4096, .bf16⟩
  | .hbm, ⟨35, _⟩ => ⟨S32000x4096, .bf16⟩
  | .hbm, ⟨36, _⟩ => ⟨S32000x4096, .bf16⟩
  | .hbm, ⟨37, _⟩ => ⟨S16x32000, .f32⟩
  | .hbm, ⟨38, _⟩ => ⟨S16x32000, .f32⟩
  | .hbm, ⟨39, _⟩ => ⟨S16x32000, .f32⟩
  | .hbm, ⟨40, _⟩ => ⟨S_, .f32⟩
  | .hbm, ⟨41, _⟩ => ⟨S16, .f32⟩
  | .hbm, ⟨42, _⟩ => ⟨S16x32000, .i32⟩
  | .hbm, ⟨43, _⟩ => ⟨S_, .f32⟩
  | .hbm, ⟨44, _⟩ => ⟨S_, .i32⟩
  | .hbm, ⟨45, _⟩ => ⟨S16, .f32⟩
  | .hbm, ⟨46, _⟩ => ⟨S16, .i32⟩
  | .hbm, ⟨47, _⟩ => ⟨S16x32000, .i32⟩
  | .hbm, ⟨48, _⟩ => ⟨S16x1, .i32⟩
  | .hbm, ⟨49, _⟩ => ⟨S16x32000, .i32⟩
  | .hbm, ⟨50, _⟩ => ⟨S16x32000, .i1⟩
  | .hbm, ⟨51, _⟩ => ⟨S_, .f32⟩
  | .hbm, ⟨52, _⟩ => ⟨S_, .f32⟩
  | .hbm, ⟨53, _⟩ => ⟨S16x32000, .f32⟩
  | .hbm, ⟨54, _⟩ => ⟨S16x32000, .f32⟩
  | .hbm, ⟨55, _⟩ => ⟨S_, .f32⟩
  | .hbm, ⟨56, _⟩ => ⟨S16, .f32⟩
  | .hbm, ⟨57, _⟩ => ⟨S16x1, .i32⟩
  | .hbm, ⟨58, _⟩ => ⟨S16x1, .f32⟩
  | .hbm, ⟨59, _⟩ => ⟨S16, .f32⟩
  | .hbm, ⟨60, _⟩ => ⟨S16x1, .f32⟩
  | _, _ => ⟨S16x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_call0_v0 : Ref sig .tc := ⟨.hbm, 42, rfl⟩
abbrev main_call0_cst : Ref sig .tc := ⟨.hbm, 43, rfl⟩
abbrev main_call0_c : Ref sig .tc := ⟨.hbm, 44, rfl⟩
abbrev main_call0_v1_0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Proof.Mem.lean ====
/- Running a program over a state of owned memrefs: a state type with a separation-logic meaning, a `Slot` for each
   memref that the state holds, and the triples of loads, stores, sequences and loops over them. -/
module

public import Idealize.ShloMosaic.Lib.Pipeline.FrameBody
public import Idealize.ShloMosaic.Lib.Tactic

@[expose] public section

noncomputable section

namespace Cert.Mem

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Loops of 32 steps -/

/-- The step number when `n + 1` steps remain of 32. -/
def ix (n : Nat) : Fin 32 := ⟨31 - n, by omega⟩

/-- The last `n` of 32 steps, in order. -/
def each {E : Type → Type} (body : Fin 32 → Prog E PUnit) : Nat → Prog E PUnit
  | 0 => pure ⟨⟩
  | n + 1 => do
    body (ix n)
    each body n

/-- The last `n` of 32 steps, two values carried. -/
def carry {E : Type → Type} {α : Type} (body : Fin 32 → α → α → Prog E (α × α)) : Nat → α → α → Prog E (α × α)
  | 0, a, b => pure (a, b)
  | n + 1, a, b => do
    let r ← body (ix n) a b
    carry body n r.1 r.2

/-- What the last `n` of 32 steps make of a state. -/
def steps {S : Type} (step : Fin 32 → S → S) : Nat → S → S
  | 0, s => s
  | n + 1, s => steps step n (step (ix n) s)

/-! ## Owned memrefs -/

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl
variable [Preorder Lvl] {c : Thread nD τ} {defs : Defs nD τ sig Val Λ} {𝒱 : Variants} {bd : Option 𝒱.V} {E : Set Name}
variable {s : Shape} {e : EltTy} {cs : CoreSpace}

/-- A state's memref: how its contents are read off the state and put into it, and that the state's meaning lends it. -/
structure Slot {S : Type} (Own : S → sProp 𝕄) (m : Memref sig c.2.kind cs s e) where
  get : S → s.Idx → Val e
  put : S → (s.Idx → Val e) → S
  put_get : ∀ σ, put σ (get σ) = σ
  take : ∀ σ, Own σ ⊢ iprop(owns c m fullShare (get σ) ∗ (∀ y, owns c m fullShare y -∗ Own (put σ y)))

/-- No memref owned. -/
def Nil : Unit → sProp 𝕄 := fun _ => iprop(emp)

variable (c) in
/-- One memref owned beside the rest: the state is a pair of its contents and the rest's state. -/
def Cons {S : Type} (m : Memref sig c.2.kind cs s e) (R : S → sProp 𝕄) : (s.Idx → Val e) × S → sProp 𝕄 :=
  fun σ => iprop(owns c m fullShare σ.1 ∗ R σ.2)

/-- The first memref of a pair of a memref and the rest. -/
def Slot.head {S : Type} {R : S → sProp 𝕄} {m : Memref sig c.2.kind cs s e} : Slot (c := c) (Cons c m R) m where
  get σ := σ.1
  put σ y := (y, σ.2)
  put_get _ := rfl
  take σ := by
    unfold Cons
    iintro ⟨H, R⟩
    isplitl [H]; · iexact H
    iintro %y H
    isplitl [H]; · iexact H
    iexact R

/-- A memref of the rest. -/
def Slot.tail {S : Type} {R : S → sProp 𝕄} {m : Memref sig c.2.kind cs s e} {s' : Shape} {e' : EltTy} {cs' : CoreSpace}
    {m' : Memref sig c.2.kind cs' s' e'} (k : Slot (c := c) R m) : Slot (c := c) (Cons c m' R) m where
  get σ := k.get σ.2
  put σ y := (σ.1, k.put σ.2 y)
  put_get σ := by rw [k.put_get]
  take σ := by
    unfold Cons
    refine (sep_mono_right (k.take σ.2)).trans ?_
    iintro ⟨A, H, R⟩
    isplitl [H]; · iexact H
    iintro %y H
    isplitl [A]; · iexact A
    iapply R; iexact H

/-- A memref of a state that is another form of a second state. -/
def Slot.via {S T : Type} {R : T → sProp 𝕄} {m : Memref sig c.2.kind cs s e} (f : S → T) (g : T → S) (gf : ∀ σ, g (f σ) = σ)
    (fg : ∀ t, f (g t) = t) (k : Slot (c := c) R m) : Slot (c := c) (fun σ => R (f σ)) m where
  get σ := k.get (f σ)
  put σ y := g (k.put (f σ) y)
  put_get σ := by rw [k.put_get, gf]
  take σ := by simpa only [fg] using k.take (f σ)

/-- Reading an owned memref through a rectangle. -/
theorem wp_load_owns {m : Memref sig c.2.kind cs s e} {r : Rect s} {hl : m.view.LoadsAt r.toLoadRect} {X : s.Idx → Val e}
    {Q : (r.toLoadRect.shape.Idx → Val e) → sProp 𝕄} :
    iprop(owns c m fullShare X ∗ (owns c m fullShare X -∗ Q (fun j => X (r.emb j))))
      ⊢ wp frame (wpE defs 𝒱 c bd) E (Prog.lift (.load m r.toLoadRect hl)) Q := by
  unfold owns
  iintro ⟨⟨%f, %hf, H⟩, K⟩
  subst hf
  iapply (wp_load_rect 𝒱 c bd E (m := m) (r := r) (hl := hl) (S := m.view.set) (q := fullShare) (f := f)
    (View.set_slice_subset _ r)) $$ H
  iintro H
  iapply le_wp_ret
  ihave K : iprop(owns c m fullShare (m.view.read Val f) -∗ Q ((m.access r).read Val f)) $$ [K]
  · iexact K
  unfold owns
  iapply K
  iexists f
  isplitr; · ipureintro; rfl
  iexact H

/-- Writing an owned memref through a rectangle. -/
theorem wp_store_owns {m : Memref sig c.2.kind cs s e} {r : Rect s} {w : r.shape.Idx → Val e} {hx : (m.access r).Stores Finset.univ}
    {hm : Finset.univ = (Finset.univ : Finset r.shape.Idx) ∨ ∀ a, r.stride a = 1} {X : s.Idx → Val e} {Q : PUnit → sProp 𝕄} :
    iprop(owns c m fullShare X ∗ (owns c m fullShare (r.overlay X w) -∗ Q ⟨⟩))
      ⊢ wp frame (wpE defs 𝒱 c bd) E (Prog.lift (.store m r w Finset.univ hx hm)) Q := by
  unfold owns
  iintro ⟨⟨%f, %hf, H⟩, K⟩
  subst hf
  iapply (wp_store 𝒱 c bd E (m := m) (r := r) (w := w) (hx := hx) (hm := hm) (S := m.view.set) (f := f)
    (View.set_slice_subset _ r)) $$ H
  iintro H
  iapply le_wp_ret
  iapply K
  iexists (m.access r).write Val f w Finset.univ
  isplitr
  · ipureintro
    funext j
    by_cases h : j ∈ r.set
    · obtain ⟨i, rfl⟩ : ∃ i, r.emb i = j := by
        rw [← Rect.map_emb_univ] at h; obtain ⟨i, -, h⟩ := Finset.mem_map.mp h; exact ⟨i, h⟩
      rw [Rect.overlay_emb]; exact View.read_slice_write_emb r f w (Finset.mem_univ i)
    · rw [Rect.overlay_of_not_mem _ _ _ h]
      exact View.read_slice_write_of_not_mem r f w Finset.univ (by rwa [Rect.map_emb_univ])
  iexact H

/-! ## Triples that name the result and the state left -/

section Triple

variable {S α β : Type} {Own : S → sProp (MT nD τ sig Ix Val Name U Lvl)}

/-- From the state `σ` the program ends with the value `a` in the state `σ'`. -/
def Run (c : Thread nD τ) (defs : Defs nD τ sig Val Λ) (𝒱 : Variants) (bd : Option 𝒱.V) (E : Set Name) (Own : S → sProp 𝕄) (σ : S) (p : Prog (TpuEff nD τ sig Val Λ c.2) α) (a : α) (σ' : S) : Prop :=
  Own σ ⊢ wp frame (wpE defs 𝒱 c bd) E p (fun x => (iprop(⌜x = a⌝ ∗ Own σ') : sProp 𝕄))

theorem Run.pure (σ : S) (a : α) : Run c defs 𝒱 bd E Own σ (Pure.pure a) a σ := by
  refine BIBase.Entails.trans ?_ (le_wp_ret _ _ _ _ _)
  iintro H
  isplitr; · ipureintro; rfl
  iexact H

theorem Run.bind {σ σ' σ'' : S} {p : Prog (TpuEff nD τ sig Val Λ c.2) α} {a : α} {k : α → Prog (TpuEff nD τ sig Val Λ c.2) β} {b : β}
    (hp : Run c defs 𝒱 bd E Own σ p a σ') (hk : Run c defs 𝒱 bd E Own σ' (k a) b σ'') : Run c defs 𝒱 bd E Own σ (p >>= k) b σ'' := by
  unfold Run at *; rw [wp_bind]
  refine hp.trans (wp_mono _ _ _ fun x => ?_)
  iintro ⟨%h, H⟩
  subst h
  iapply hk; iexact H

/-- A sequence whose first part gives nothing. -/
theorem Run.seq {σ σ' σ'' : S} {p : Prog (TpuEff nD τ sig Val Λ c.2) PUnit} {k : PUnit → Prog (TpuEff nD τ sig Val Λ c.2) β} {b : β}
    (hp : Run c defs 𝒱 bd E Own σ p ⟨⟩ σ') (hk : Run c defs 𝒱 bd E Own σ' (k ⟨⟩) b σ'') : Run c defs 𝒱 bd E Own σ (p >>= k) b σ'' :=
  hp.bind hk

theorem Run.load {m : Memref sig c.2.kind cs s e} (k : Slot (c := c) Own m) (σ : S) {r : Rect s} {hl : m.view.LoadsAt r.toLoadRect} :
    Run c defs 𝒱 bd E Own σ (Prog.lift (.load m r.toLoadRect hl)) (fun j => k.get σ (r.emb j)) σ := by
  refine (k.take σ).trans (BIBase.Entails.trans ?_ (wp_load_owns (X := k.get σ)))
  iintro ⟨H, R⟩
  isplitl [H]; · iexact H
  iintro H
  isplitr; · ipureintro; rfl
  have h := k.put_get σ
  ihave R := R $$ %(k.get σ)
  rw [h]
  iapply R; iexact H

theorem Run.store {m : Memref sig c.2.kind cs s e} (k : Slot (c := c) Own m) (σ : S) {r : Rect s} {w : r.shape.Idx → Val e}
    {hx : (m.access r).Stores Finset.univ} {hm : Finset.univ = (Finset.univ : Finset r.shape.Idx) ∨ ∀ a, r.stride a = 1} :
    Run c defs 𝒱 bd E Own σ (Prog.lift (.store m r w Finset.univ hx hm)) ⟨⟩ (k.put σ (r.overlay (k.get σ) w)) := by
  refine (k.take σ).trans (BIBase.Entails.trans ?_ (wp_store_owns (X := k.get σ)))
  iintro ⟨H, R⟩
  isplitl [H]; · iexact H
  iintro H
  isplitr; · ipureintro; rfl
  iapply R; iexact H

/-- A loop of 32 steps, each step's effect on the state a function. -/
theorem Run.each {body : Fin 32 → Prog (TpuEff nD τ sig Val Λ c.2) PUnit} (step : Fin 32 → S → S)
    (h : ∀ i σ, Run c defs 𝒱 bd E Own σ (body i) ⟨⟩ (step i σ)) (n : Nat) (σ : S) :
    Run c defs 𝒱 bd E Own σ (each body n) ⟨⟩ (steps step n σ) := by
  induction n generalizing σ with
  | zero => exact Run.pure σ _
  | succ n ih => exact (h _ σ).bind (ih _)

/-- A loop of 32 steps that leaves the state and carries two values. -/
theorem Run.carry {body : Fin 32 → α → α → Prog (TpuEff nD τ sig Val Λ c.2) (α × α)} (step : Fin 32 → α × α → α × α) {σ : S}
    (h : ∀ i a b, Run c defs 𝒱 bd E Own σ (body i a b) (step i (a, b)) σ) (n : Nat) (a b : α) :
    Run c defs 𝒱 bd E Own σ (carry body n a b) (steps step n (a, b)) σ := by
  induction n generalizing a b with
  | zero => exact Run.pure σ _
  | succ n ih => exact (h _ a b).bind (ih _ _)

/-- The triple with what follows from it. -/
theorem Run.wand {σ σ' : S} {p : Prog (TpuEff nD τ sig Val Λ c.2) α} {a : α} (h : Run c defs 𝒱 bd E Own σ p a σ') {Q : α → sProp 𝕄} :
    iprop(Own σ ∗ (Own σ' -∗ Q a)) ⊢ wp frame (wpE defs 𝒱 c bd) E p Q := by
  unfold Run at h
  refine (sep_mono_left h).trans ((wp_frame_r _ _ _).trans (wp_mono _ _ _ fun x => ?_))
  iintro ⟨⟨%hx, H⟩, K⟩
  subst hx
  iapply K; iexact H

end Triple

/-! ## Triples that keep a property of the state -/

section Keep

variable {S α β : Type} {Own : S → sProp (MT nD τ sig Ix Val Name U Lvl)} {I : S → Prop}

/-- From a state with the property the program ends in a state with it. -/
def Keep (c : Thread nD τ) (defs : Defs nD τ sig Val Λ) (𝒱 : Variants) (bd : Option 𝒱.V) (E : Set Name) (Own : S → sProp 𝕄) (I : S → Prop) (p : Prog (TpuEff nD τ sig Val Λ c.2) α) : Prop :=
  iprop(∃ σ, ⌜I σ⌝ ∗ Own σ) ⊢ wp frame (wpE defs 𝒱 c bd) E p (fun _ => (iprop(∃ σ, ⌜I σ⌝ ∗ Own σ) : sProp 𝕄))

theorem Keep.pure (a : α) : Keep c defs 𝒱 bd E Own I (Pure.pure a) :=
  le_wp_ret frame (wpE defs 𝒱 c bd) E a (fun _ => (iprop(∃ σ, ⌜I σ⌝ ∗ Own σ) : sProp 𝕄))

theorem Keep.bind {p : Prog (TpuEff nD τ sig Val Λ c.2) α} {k : α → Prog (TpuEff nD τ sig Val Λ c.2) β}
    (hp : Keep c defs 𝒱 bd E Own I p) (hk : ∀ a, Keep c defs 𝒱 bd E Own I (k a)) : Keep c defs 𝒱 bd E Own I (p >>= k) := by
  unfold Keep; rw [wp_bind]
  exact hp.trans (wp_mono _ _ _ fun a => hk a)

theorem Keep.load {m : Memref sig c.2.kind cs s e} (k : Slot (c := c) Own m) {r : Rect s} {hl : m.view.LoadsAt r.toLoadRect} :
    Keep c defs 𝒱 bd E Own I (Prog.lift (.load m r.toLoadRect hl)) := by
  unfold Keep
  iintro ⟨%σ, %h, H⟩
  have hr : Run c defs 𝒱 bd E Own σ (Prog.lift (.load m r.toLoadRect hl)) _ σ := Run.load k σ
  unfold Run at hr
  iapply (hr.trans (wp_mono _ _ _ (fun x => by
    iintro ⟨-, H⟩
    iexists σ
    isplitr; · ipureintro; exact h
    iexact H)))
  iexact H

theorem Keep.store {m : Memref sig c.2.kind cs s e} (k : Slot (c := c) Own m) (hk : ∀ σ y, I σ → I (k.put σ y)) {r : Rect s} {w : r.shape.Idx → Val e}
    {hx : (m.access r).Stores Finset.univ} {hm : Finset.univ = (Finset.univ : Finset r.shape.Idx) ∨ ∀ a, r.stride a = 1} :
    Keep c defs 𝒱 bd E Own I (Prog.lift (.store m r w Finset.univ hx hm)) := by
  unfold Keep
  iintro ⟨%σ, %h, H⟩
  have hr : Run c defs 𝒱 bd E Own σ (Prog.lift (.store m r w Finset.univ hx hm)) ⟨⟩ _ := Run.store k σ
  unfold Run at hr
  iapply (hr.trans (wp_mono _ _ _ (fun x => by
    iintro ⟨-, H⟩
    iexists k.put σ (r.overlay (k.get σ) w)
    isplitr; · ipureintro; exact hk _ _ h
    iexact H)))
  iexact H

theorem Keep.each {body : Fin 32 → Prog (TpuEff nD τ sig Val Λ c.2) PUnit} (h : ∀ i, Keep c defs 𝒱 bd E Own I (body i)) (n : Nat) :
    Keep c defs 𝒱 bd E Own I (each body n) := by
  induction n with
  | zero => exact Keep.pure _
  | succ n ih => exact (h _).bind fun _ => ih

theorem Keep.carry {body : Fin 32 → α → α → Prog (TpuEff nD τ sig Val Λ c.2) (α × α)} (h : ∀ i a b, Keep c defs 𝒱 bd E Own I (body i a b)) (n : Nat)
    (a b : α) : Keep c defs 𝒱 bd E Own I (carry body n a b) := by
  induction n generalizing a b with
  | zero => exact Keep.pure _
  | succ n ih => exact (h _ a b).bind fun _ => ih _ _

/-- The triple with what follows from it. -/
theorem Keep.wand {p : Prog (TpuEff nD τ sig Val Λ c.2) α} (h : Keep c defs 𝒱 bd E Own I p) {Q : sProp 𝕄} :
    iprop((∃ σ, ⌜I σ⌝ ∗ Own σ) ∗ (∀ σ, ⌜I σ⌝ -∗ Own σ -∗ Q)) ⊢ wp frame (wpE defs 𝒱 c bd) E p (fun _ => Q) := by
  unfold Keep at h
  refine (sep_mono_left h).trans ((wp_frame_r _ _ _).trans (wp_mono _ _ _ fun x => ?_))
  iintro ⟨⟨%σ, %hσ, H⟩, K⟩
  iapply K
  · ipureintro; exact hσ
  iexact H

end Keep

end Cert.Mem

end
-- ==== Proof.KernelBody.lean ====
/- The kernel body written once more with its unrolled loops as loops: the same operations in
   the same order, the chunk number a parameter. `body_eq` says the printed body is this one. -/
module

public import proofs.«01_k».proof.Proof.Gen.Kernel.Frame
public import proofs.«01_k».proof.Proof.Mem

@[expose] public section

noncomputable section

namespace Cert.Kernel.Body

open Cert.Kernel
open Cert.Kernel.Facts₀ Cert.Kernel.Facts
open Idealize.ShloMosaic Idealize.SL.Sem
open Cert.Mem (ix each carry)

variable {F : FTy → Type} [BitOps F]

/-! ## Side conditions at a chunk number -/

theorem inbX : ∀ c : Fin 32, ∀ a, (![0, 256 * c.val] : Fin 2 → Nat) a + S16x256.size a ≤ S16x8192.size a := by decide
theorem inbXs : ∀ c : Fin 32, ∀ a, (![16 * c.val, 0] : Fin 2 → Nat) a + S16x256.size a ≤ S512x256.size a := by decide
theorem packedXs : ∀ c : Fin 32, (Rect.unit (s := S512x256) ![16 * c.val, 0] S16x256.size (inbXs c)).PackedRows (EltTy.packing .bf16) := by decide
theorem slicesXp : ∀ c : Fin 32, S512x512.Slices ![16 * c.val, 0] S16x512 := by decide
theorem inbXp : ∀ (m : Fin 2) (c : Fin 32), ∀ a, (![16 * m.val, 512 * c.val] : Fin 2 → Nat) a + S16x512.size a ≤ S32x16384.size a := by decide
theorem packedXp : ∀ (m : Fin 2) (c : Fin 32), (Rect.unit (s := S32x16384) ![16 * m.val, 512 * c.val] S16x512.size (inbXp m c)).PackedRows (EltTy.packing .bf16) := by decide
theorem inbW : ∀ c : Fin 32, ∀ a, (![0, 128 * c.val] : Fin 2 → Nat) a + S512x128.size a ≤ S512x4096.size a := by decide
theorem inbSc : ∀ c : Fin 32, ∀ a, (![8 * c.val, 0] : Fin 2 → Nat) a + S8x256.size a ≤ S256x256.size a := by decide
theorem inbXc : ∀ (c : Fin 32) (t : Fin 2), ∀ a, (![0, 512 * c.val + 256 * t.val] : Fin 2 → Nat) a + S32x256.size a ≤ S32x16384.size a := by decide
theorem slicesS : ∀ g : Fin 8, S8x256.Slices ![g.val, 0] S1x256 := by decide
theorem slicesQ : ∀ (g : Fin 8) (k : Fin 4), S512x256.Slices ![64 * g.val + 16 * k.val, 0] S16x256 := by decide

/-! ## The first step: the activations spread -/

/-- One slice of the activations copied beneath the others. -/
def copyX (arg1 : Memref sig .tc .vmem S16x8192 .bf16) (harg1 : arg1.IsWhole) (arg7 : Memref sig .tc .vmem S512x256 .bf16) (harg7 : arg7.IsWhole) (c : Fin 32) : Prog (TpuEff nD τ sig (Elt F) Λ₀ .tc) PUnit := do
  let v : Vec F S16x256 .bf16 ← Prog.lift (.load arg1 (Rect.unit (s := S16x8192) ![0, 256 * c.val] S16x256.size (inbX c)).toLoadRect (View.loadsAt_vmem h_S16x256))
  let _w : Vec F S16x256 .bf16 ← Prog.lift (.load arg7 (Rect.unit (s := S512x256) ![16 * c.val, 0] S16x256.size (inbXs c)).toLoadRect (View.loadsAt_vmem h_S16x256))
  Prog.lift (.store arg7 (Rect.unit (s := S512x256) ![16 * c.val, 0] S16x256.size (inbXs c)) (shapeCast S16x256 (shapeCast S16x256 v shapeCasts_S16x256_S16x256) shapeCasts_S16x256_S16x256) Finset.univ (View.stores_vmem h_S16x256 (harg7.storeExact_slice rfl _ (packedXs c)) (fun _ => rfl)) (.inl rfl))

/-- One slice of the spread activations stored: rows `16 m …`, columns `512 c …`. -/
def putX (arg8 : Memref sig .tc .vmem S32x16384 .bf16) (harg8 : arg8.IsWhole) (m : Fin 2) (o : FVec F S512x512 .bf16) (c : Fin 32) : Prog (TpuEff nD τ sig (Elt F) Λ₀ .tc) PUnit := do
  let _w : Vec F S16x512 .bf16 ← Prog.lift (.load arg8 (Rect.unit (s := S32x16384) ![16 * m.val, 512 * c.val] S16x512.size (inbXp m c)).toLoadRect (View.loadsAt_vmem h_S16x512))
  Prog.lift (.store arg8 (Rect.unit (s := S32x16384) ![16 * m.val, 512 * c.val] S16x512.size (inbXp m c)) (shapeCast S16x512 (extractStridedSlice S16x512 ![16 * c.val, 0] o (slicesXp c)) shapeCasts_S16x512_S16x512) Finset.univ (View.stores_vmem h_S16x512 (harg8.storeExact_slice rfl _ (packedXp m c)) (fun _ => rfl)) (.inl rfl))

/-- The column's expected number as the kernel computes it from the row: `4 (16 (p / 32) + p % 16) + 2 m + (p / 16) % 2`,
    `k` the word `2 m`. -/
def target (k : BitVec 32) : IVec S256x512 32 :=
  have v5778 : IVec S256x512 32 := iota .tc S256x512 32 [0] iota_S256x512_d0_w32
  have v5779 : IVec S256x512 32 := iota .tc S256x512 32 [1] iota_S256x512_d1_w32
  let c32_i32 : BitVec 32 := 32#32
  have v5780 : IVec S256x512 32 := broadcast S256x512 c32_i32
  have v5781 : IVec S256x512 32 := divsi v5778 v5780
  let c0_i32_963 : BitVec 32 := 0#32
  have v5782 : IVec S256x512 32 := broadcast S256x512 c0_i32_963
  have v5783 : IVec S256x512 1 := cmpi .sgt v5778 v5782
  have v5784 : IVec S256x512 32 := extui 32 v5783 natLt_1_32
  let c0_i32_964 : BitVec 32 := 0#32
  have v5785 : IVec S256x512 32 := broadcast S256x512 c0_i32_964
  have v5786 : IVec S256x512 1 := cmpi .slt v5778 v5785
  have v5787 : IVec S256x512 32 := extui 32 v5786 natLt_1_32
  have v5788 : IVec S256x512 32 := subi v5784 v5787
  let c0_i32_965 : BitVec 32 := 0#32
  let v5789 : BitVec 1 := Scalar.cmpi .sgt c32_i32 c0_i32_965
  let v5790 : BitVec 32 := Scalar.extui v5789
  let c0_i32_966 : BitVec 32 := 0#32
  let v5791 : BitVec 1 := Scalar.cmpi .slt c32_i32 c0_i32_966
  let v5792 : BitVec 32 := Scalar.extui v5791
  let v5793 : BitVec 32 := Scalar.subi v5790 v5792
  have v5794 : IVec S256x512 32 := broadcast S256x512 v5793
  have v5795 : IVec S256x512 1 := cmpi .ne v5788 v5794
  have v5796 : IVec S256x512 32 := broadcast S256x512 c32_i32
  have v5797 : IVec S256x512 32 := remsi v5778 v5796
  let c0_i32_967 : BitVec 32 := 0#32
  have v5798 : IVec S256x512 32 := broadcast S256x512 c0_i32_967
  have v5799 : IVec S256x512 1 := cmpi .ne v5797 v5798
  have v5800 : IVec S256x512 1 := andi v5795 v5799
  let c1_i32_968 : BitVec 32 := 1#32
  have v5801 : IVec S256x512 32 := broadcast S256x512 c1_i32_968
  have v5802 : IVec S256x512 32 := subi v5781 v5801
  have v5803 : IVec S256x512 32 := select v5800 v5802 v5781
  let c16_i32_969 : BitVec 32 := 16#32
  have v5804 : IVec S256x512 32 := broadcast S256x512 c16_i32_969
  have v5805 : IVec S256x512 32 := divsi v5778 v5804
  let c0_i32_970 : BitVec 32 := 0#32
  have v5806 : IVec S256x512 32 := broadcast S256x512 c0_i32_970
  have v5807 : IVec S256x512 1 := cmpi .sgt v5778 v5806
  have v5808 : IVec S256x512 32 := extui 32 v5807 natLt_1_32
  let c0_i32_971 : BitVec 32 := 0#32
  have v5809 : IVec S256x512 32 := broadcast S256x512 c0_i32_971
  have v5810 : IVec S256x512 1 := cmpi .slt v5778 v5809
  have v5811 : IVec S256x512 32 := extui 32 v5810 natLt_1_32
  have v5812 : IVec S256x512 32 := subi v5808 v5811
  let c0_i32_972 : BitVec 32 := 0#32
  let v5813 : BitVec 1 := Scalar.cmpi .sgt c16_i32_969 c0_i32_972
  let v5814 : BitVec 32 := Scalar.extui v5813
  let c0_i32_973 : BitVec 32 := 0#32
  let v5815 : BitVec 1 := Scalar.cmpi .slt c16_i32_969 c0_i32_973
  let v5816 : BitVec 32 := Scalar.extui v5815
  let v5817 : BitVec 32 := Scalar.subi v5814 v5816
  have v5818 : IVec S256x512 32 := broadcast S256x512 v5817
  have v5819 : IVec S256x512 1 := cmpi .ne v5812 v5818
  have v5820 : IVec S256x512 32 := broadcast S256x512 c16_i32_969
  have v5821 : IVec S256x512 32 := remsi v5778 v5820
  let c0_i32_974 : BitVec 32 := 0#32
  have v5822 : IVec S256x512 32 := broadcast S256x512 c0_i32_974
  have v5823 : IVec S256x512 1 := cmpi .ne v5821 v5822
  have v5824 : IVec S256x512 1 := andi v5819 v5823
  let c1_i32_975 : BitVec 32 := 1#32
  have v5825 : IVec S256x512 32 := broadcast S256x512 c1_i32_975
  have v5826 : IVec S256x512 32 := subi v5805 v5825
  have v5827 : IVec S256x512 32 := select v5824 v5826 v5805
  let c2_i32_976 : BitVec 32 := 2#32
  let c0_i32_977 : BitVec 32 := 0#32
  let v5828 : BitVec 1 := Scalar.cmpi .eq c2_i32_976 c0_i32_977
  let c1_i32_978 : BitVec 32 := 1#32
  let v5829 : BitVec 32 := Scalar.select v5828 c1_i32_978 c2_i32_976
  have v5830 : IVec S256x512 32 := broadcast S256x512 v5829
  have v5831 : IVec S256x512 32 := remsi v5827 v5830
  let c0_i32_979 : BitVec 32 := 0#32
  have v5832 : IVec S256x512 32 := broadcast S256x512 c0_i32_979
  have v5833 : IVec S256x512 1 := cmpi .ne v5831 v5832
  let c0_i32_980 : BitVec 32 := 0#32
  have v5834 : IVec S256x512 32 := broadcast S256x512 c0_i32_980
  have v5835 : IVec S256x512 1 := cmpi .slt v5831 v5834
  let c0_i32_981 : BitVec 32 := 0#32
  let v5836 : BitVec 1 := Scalar.cmpi .slt v5829 c0_i32_981
  have v5837 : IVec S256x512 1 := broadcast S256x512 v5836
  have v5838 : IVec S256x512 1 := broadcastTo S256x512 v5837 broadcasts_S256x512_S256x512
  have v5839 : IVec S256x512 1 := xori v5835 v5838
  have v5840 : IVec S256x512 1 := andi v5839 v5833
  have v5841 : IVec S256x512 32 := broadcast S256x512 v5829
  have v5842 : IVec S256x512 32 := addi v5831 v5841
  have v5843 : IVec S256x512 32 := select v5840 v5842 v5831
  let c16_i32_982 : BitVec 32 := 16#32
  let c0_i32_983 : BitVec 32 := 0#32
  let v5844 : BitVec 1 := Scalar.cmpi .eq c16_i32_982 c0_i32_983
  let c1_i32_984 : BitVec 32 := 1#32
  let v5845 : BitVec 32 := Scalar.select v5844 c1_i32_984 c16_i32_982
  have v5846 : IVec S256x512 32 := broadcast S256x512 v5845
  have v5847 : IVec S256x512 32 := remsi v5778 v5846
  let c0_i32_985 : BitVec 32 := 0#32
  have v5848 : IVec S256x512 32 := broadcast S256x512 c0_i32_985
  have v5849 : IVec S256x512 1 := cmpi .ne v5847 v5848
  let c0_i32_986 : BitVec 32 := 0#32
  have v5850 : IVec S256x512 32 := broadcast S256x512 c0_i32_986
  have v5851 : IVec S256x512 1 := cmpi .slt v5847 v5850
  let c0_i32_987 : BitVec 32 := 0#32
  let v5852 : BitVec 1 := Scalar.cmpi .slt v5845 c0_i32_987
  have v5853 : IVec S256x512 1 := broadcast S256x512 v5852
  have v5854 : IVec S256x512 1 := broadcastTo S256x512 v5853 broadcasts_S256x512_S256x512
  have v5855 : IVec S256x512 1 := xori v5851 v5854
  have v5856 : IVec S256x512 1 := andi v5855 v5849
  have v5857 : IVec S256x512 32 := broadcast S256x512 v5845
  have v5858 : IVec S256x512 32 := addi v5847 v5857
  have v5859 : IVec S256x512 32 := select v5856 v5858 v5847
  let c16_i32_988 : BitVec 32 := 16#32
  have v5860 : IVec S256x512 32 := broadcast S256x512 c16_i32_988
  have v5861 : IVec S256x512 32 := muli v5803 v5860
  have v5862 : IVec S256x512 32 := addi v5861 v5859
  let c4_i32_989 : BitVec 32 := 4#32
  have v5863 : IVec S256x512 32 := broadcast S256x512 c4_i32_989
  have v5864 : IVec S256x512 32 := muli v5863 v5862
  have v5865 : IVec S256x512 32 := broadcast S256x512 k
  have v5866 : IVec S256x512 32 := addi v5864 v5865
  have v5867 : IVec S256x512 32 := addi v5866 v5843
  v5867

/-- The one-hot selector at `k`. -/
def selector (k : BitVec 32) : FVec F S256x512 .bf16 :=
  truncf .bf16 (sitofp .f32 (extui 32 (cmpi .eq (iota .tc S256x512 32 [1] iota_S256x512_d1_w32) (target k)) natLt_1_32)) bitsLt_bf16_f32

/-- The activations through a selector. -/
def spread (k : BitVec 32) (x : Vec F S512x256 .bf16) : FVec F S512x512 .bf16 :=
  truncf .bf16 (matmul dot_S512x256_S256x512_S512x512_1_0_0_1_n_n none x (selector k) (constant S512x512 .f32 0x00000000#32)) bitsLt_bf16_f32

/-- The first step's own work. -/
def first (arg1 : Memref sig .tc .vmem S16x8192 .bf16) (harg1 : arg1.IsWhole) (arg7 : Memref sig .tc .vmem S512x256 .bf16) (harg7 : arg7.IsWhole) (arg8 : Memref sig .tc .vmem S32x16384 .bf16) (harg8 : arg8.IsWhole) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) : Prog (TpuEff nD τ sig (Elt F) Λ₀ .tc) PUnit := do
  each (copyX arg1 harg1 arg7 harg7) 32
  let x0 : Vec F S512x256 .bf16 ← Prog.lift (.load arg7 (Rect.unit (s := S512x256) ![0, 0] S512x256.size inb_S512x256_S512x256_0_0).toLoadRect (View.loadsAt_vmem h_S512x256))
  each (putX arg8 harg8 0 (spread 0#32 x0)) 32
  let x1 : Vec F S512x256 .bf16 ← Prog.lift (.load arg7 (Rect.unit (s := S512x256) ![0, 0] S512x256.size inb_S512x256_S512x256_0_0).toLoadRect (View.loadsAt_vmem h_S512x256))
  each (putX arg8 harg8 1 (spread 2#32 x1)) 32
  let _a : Vec F S32x256 .f32 ← Prog.lift (.load arg11 (Rect.unit (s := S32x256) ![0, 0] S32x256.size inb_S32x256_S32x256_0_0).toLoadRect (View.loadsAt_vmem h_S32x256))
  Prog.lift (.store arg11 (Rect.unit (s := S32x256) ![0, 0] S32x256.size inb_S32x256_S32x256_0_0) (shapeCast S32x256 (broadcast S32x256 (Scalar.ofBits .f32 0xFF800000#32 : F .f32)) shapeCasts_S32x256_S32x256) Finset.univ (View.stores_vmem_bits_univ h_S32x256 rfl) (.inl rfl))
  let _b : Vec F S32x256 .f32 ← Prog.lift (.load arg12 (Rect.unit (s := S32x256) ![0, 0] S32x256.size inb_S32x256_S32x256_0_0).toLoadRect (View.loadsAt_vmem h_S32x256))
  Prog.lift (.store arg12 (Rect.unit (s := S32x256) ![0, 0] S32x256.size inb_S32x256_S32x256_0_0) (shapeCast S32x256 (broadcast S32x256 (Scalar.ofBits .f32 0xFF800000#32 : F .f32)) shapeCasts_S32x256_S32x256) Finset.univ (View.stores_vmem_bits_univ h_S32x256 rfl) (.inl rfl))
  let _c : Vec F S32x256 .i32 ← Prog.lift (.load arg13 (Rect.unit (s := S32x256) ![0, 0] S32x256.size inb_S32x256_S32x256_0_0).toLoadRect (View.loadsAt_vmem h_S32x256))
  Prog.lift (.store arg13 (Rect.unit (s := S32x256) ![0, 0] S32x256.size inb_S32x256_S32x256_0_0) (shapeCast S32x256 (broadcast S32x256 0#32) shapeCasts_S32x256_S32x256) Finset.univ (View.stores_vmem_bits_univ h_S32x256 rfl) (.inl rfl))

/-! ## Every step: the scales transposed -/

/-- The scales of two rows, transposed, as the two halves of a word. -/
def scalePairs (v3 : Vec F S512x256 .bf16) : IVec S256x256 32 :=
  have v4 : IVec S256x256 32 := bitcast S256x256 32 (bitcastToInt v3) bitcasts_S512x256_w16_S256x256_w32
  let c16_i32 : BitVec 32 := 16#32
  have v5 : IVec S256x256 32 := broadcast S256x256 c16_i32
  have v6 : IVec S256x256 32 := shrui v4 v5
  have v7 : IVec S256x256 16 := trunci 16 v4 natLt_16_32
  have v8 : FVec F S256x256 .bf16 := bitcastToFloat .bf16 v7
  have v9 : FVec F S256x256 .bf16 := transpose S256x256 [1, 0] v8 transposes_S256x256_p1_0_S256x256
  have v10 : IVec S256x256 16 := trunci 16 v6 natLt_16_32
  have v11 : FVec F S256x256 .bf16 := bitcastToFloat .bf16 v10
  have v12 : FVec F S256x256 .bf16 := transpose S256x256 [1, 0] v11 transposes_S256x256_p1_0_S256x256
  have v13 : IVec S256x256 16 := bitcastToInt v9
  have v14 : IVec S256x256 32 := extui 32 v13 natLt_16_32
  have v15 : IVec S256x256 16 := bitcastToInt v12
  have v16 : IVec S256x256 32 := extui 32 v15 natLt_16_32
  let c16_i32_2 : BitVec 32 := 16#32
  have v17 : IVec S256x256 32 := broadcast S256x256 c16_i32_2
  have v18 : IVec S256x256 32 := shli v16 v17
  have v19 : IVec S256x256 32 := ori v14 v18
  v19

/-- The even rows' scales in both halves. -/
def scaleLo (v19 : IVec S256x256 32) : IVec S256x256 32 :=
  let c65535_i32 : BitVec 32 := 65535#32
  have v20 : IVec S256x256 32 := broadcast S256x256 c65535_i32
  have v21 : IVec S256x256 32 := andi v19 v20
  let c16_i32_3 : BitVec 32 := 16#32
  have v22 : IVec S256x256 32 := broadcast S256x256 c16_i32_3
  have v23 : IVec S256x256 32 := shli v19 v22
  have v24 : IVec S256x256 32 := ori v21 v23
  v24

/-- The odd rows' scales in both halves. -/
def scaleHi (v19 : IVec S256x256 32) : IVec S256x256 32 :=
  let c16_i32_6 : BitVec 32 := 16#32
  have v28 : IVec S256x256 32 := broadcast S256x256 c16_i32_6
  have v29 : IVec S256x256 32 := shrui v19 v28
  let c_m65536_i32 : BitVec 32 := 4294901760#32
  have v30 : IVec S256x256 32 := broadcast S256x256 c_m65536_i32
  have v31 : IVec S256x256 32 := andi v19 v30
  have v32 : IVec S256x256 32 := ori v29 v31
  v32

/-- Both parities' scales stored. -/
def scales (arg3 : Memref sig .tc .vmem S512x256 .bf16) (harg3 : arg3.IsWhole) (arg9 : Memref sig .tc .vmem S256x256 .i32) (harg9 : arg9.IsWhole) (arg10 : Memref sig .tc .vmem S256x256 .i32) (harg10 : arg10.IsWhole) : Prog (TpuEff nD τ sig (Elt F) Λ₀ .tc) PUnit := do
  let v3 : Vec F S512x256 .bf16 ← Prog.lift (.load arg3 (Rect.unit (s := S512x256) ![0, 0] S512x256.size inb_S512x256_S512x256_0_0).toLoadRect (View.loadsAt_vmem h_S512x256))
  let _a : Vec F S256x256 .i32 ← Prog.lift (.load arg9 (Rect.unit (s := S256x256) ![0, 0] S256x256.size inb_S256x256_S256x256_0_0).toLoadRect (View.loadsAt_vmem h_S256x256))
  Prog.lift (.store arg9 (Rect.unit (s := S256x256) ![0, 0] S256x256.size inb_S256x256_S256x256_0_0) (shapeCast S256x256 (scaleLo (scalePairs v3)) shapeCasts_S256x256_S256x256) Finset.univ (View.stores_vmem_bits_univ h_S256x256 rfl) (.inl rfl))
  let _b : Vec F S256x256 .i32 ← Prog.lift (.load arg10 (Rect.unit (s := S256x256) ![0, 0] S256x256.size inb_S256x256_S256x256_0_0).toLoadRect (View.loadsAt_vmem h_S256x256))
  Prog.lift (.store arg10 (Rect.unit (s := S256x256) ![0, 0] S256x256.size inb_S256x256_S256x256_0_0) (shapeCast S256x256 (scaleHi (scalePairs v3)) shapeCasts_S256x256_S256x256) Finset.univ (View.stores_vmem_bits_univ h_S256x256 rfl) (.inl rfl))

/-- Which rows of eight are even, as the kernel computes it. -/
def evenRows : IVec S8x256 1 :=
  have v36 : IVec S8x256 32 := iota .tc S8x256 32 [0] iota_S8x256_d0_w32
  let c2_i32 : BitVec 32 := 2#32
  let c0_i32_9 : BitVec 32 := 0#32
  let v37 : BitVec 1 := Scalar.cmpi .eq c2_i32 c0_i32_9
  let c1_i32 : BitVec 32 := 1#32
  let v38 : BitVec 32 := Scalar.select v37 c1_i32 c2_i32
  have v39 : IVec S8x256 32 := broadcast S8x256 v38
  have v40 : IVec S8x256 32 := remsi v36 v39
  let c0_i32_10 : BitVec 32 := 0#32
  have v41 : IVec S8x256 32 := broadcast S8x256 c0_i32_10
  have v42 : IVec S8x256 1 := cmpi .ne v40 v41
  let c0_i32_11 : BitVec 32 := 0#32
  have v43 : IVec S8x256 32 := broadcast S8x256 c0_i32_11
  have v44 : IVec S8x256 1 := cmpi .slt v40 v43
  let c0_i32_12 : BitVec 32 := 0#32
  let v45 : BitVec 1 := Scalar.cmpi .slt v38 c0_i32_12
  have v46 : IVec S8x256 1 := broadcast S8x256 v45
  have v47 : IVec S8x256 1 := broadcastTo S8x256 v46 broadcasts_S8x256_S8x256
  have v48 : IVec S8x256 1 := xori v44 v47
  have v49 : IVec S8x256 1 := andi v48 v42
  have v50 : IVec S8x256 32 := broadcast S8x256 v38
  have v51 : IVec S8x256 32 := addi v40 v50
  have v52 : IVec S8x256 32 := select v49 v51 v40
  let c0_i32_13 : BitVec 32 := 0#32
  have v53 : IVec S8x256 32 := broadcast S8x256 c0_i32_13
  have v54 : IVec S8x256 1 := cmpi .eq v52 v53
  v54

/-! ## Every step: one chunk -/

/-- The nibble `28 - k` bits below the top of every word, sign-extended. -/
def nib (v63 : IVec S64x256 32) (k : BitVec 32) : IVec S64x1x256 32 :=
  shapeCast S64x1x256 (shrsi (shli v63 (broadcast S64x256 k)) (broadcast S64x256 28#32)) shapeCasts_S64x256_S64x1x256

/-- The chunk's words: transposed, each nibble's top bit flipped. -/
def words (v57 : Vec F S512x128 .i8) : IVec S64x256 32 :=
  xori (bitcast S64x256 32 (transpose S128x256 [1, 0] (bitcast S256x128 16 (bitcast S128x128 32 v57 bitcasts_S512x128_w8_S128x128_w32) bitcasts_S128x128_w32_S256x128_w16) transposes_S256x128_p1_0_S128x256) bitcasts_S128x256_w16_S64x256_w32) (broadcast S64x256 2290649224#32)

/-- The chunk's 512 × 256 signed nibbles, as floats. -/
def quant (v57 : Vec F S512x128 .i8) : FVec F S512x256 .bf16 :=
  have v63 : IVec S64x256 32 := words v57
  have v104 : IVec S64x8x256 32 := concatenate S64x8x256 1 [⟨S64x1x256, nib v63 28#32⟩, ⟨S64x1x256, nib v63 24#32⟩, ⟨S64x1x256, nib v63 20#32⟩, ⟨S64x1x256, nib v63 16#32⟩, ⟨S64x1x256, nib v63 12#32⟩, ⟨S64x1x256, nib v63 8#32⟩, ⟨S64x1x256, nib v63 4#32⟩, ⟨S64x1x256, nib v63 0#32⟩] concatenates_S64x1x256_S64x1x256_S64x1x256_S64x1x256_S64x1x256_S64x1x256_S64x1x256_S64x1x256_S64x8x256_d1
  sitofp .bf16 (shapeCast S512x256 v104 shapeCasts_S64x8x256_S512x256)

/-- Row `g` of eight, eight times. -/
def rows8 (g : Fin 8) (v : Vec F S8x256 .i32) : IVec S8x256 32 :=
  have r : IVec S1x256 32 := extractStridedSlice S1x256 ![g.val, 0] v (slicesS g)
  concatenate S8x256 0 [⟨S1x256, r⟩, ⟨S1x256, r⟩, ⟨S1x256, r⟩, ⟨S1x256, r⟩, ⟨S1x256, r⟩, ⟨S1x256, r⟩, ⟨S1x256, r⟩, ⟨S1x256, r⟩] concatenates_S1x256_S1x256_S1x256_S1x256_S1x256_S1x256_S1x256_S1x256_S8x256_d0

/-- Group `g`'s scales on sixteen rows. -/
def scale16 (g : Fin 8) (lo hi : Vec F S8x256 .i32) : FVec F S16x256 .bf16 :=
  bitcastToFloat .bf16 (bitcast S16x256 16 (select evenRows (rows8 (F := F) g lo) (rows8 (F := F) g hi)) bitcasts_S8x256_w32_S16x256_w16)

/-- Sixteen rows of the chunk's weights. -/
def piece (q : FVec F S512x256 .bf16) (lo hi : Vec F S8x256 .i32) (g : Fin 8) (k : Fin 4) : FVec F S16x256 .bf16 :=
  mulf (extractStridedSlice S16x256 ![64 * g.val + 16 * k.val, 0] q (slicesQ g k)) (scale16 g lo hi)

/-- Half `t` of the chunk's weights: the groups `4 t …`. -/
def weights (t : Fin 2) (q : FVec F S512x256 .bf16) (lo hi : Vec F S8x256 .i32) : FVec F S256x256 .bf16 :=
  concatenate S256x256 0 [⟨S16x256, piece q lo hi ⟨4 * t.val + 0, by omega⟩ 0⟩, ⟨S16x256, piece q lo hi ⟨4 * t.val + 0, by omega⟩ 1⟩, ⟨S16x256, piece q lo hi ⟨4 * t.val + 0, by omega⟩ 2⟩, ⟨S16x256, piece q lo hi ⟨4 * t.val + 0, by omega⟩ 3⟩, ⟨S16x256, piece q lo hi ⟨4 * t.val + 1, by omega⟩ 0⟩, ⟨S16x256, piece q lo hi ⟨4 * t.val + 1, by omega⟩ 1⟩, ⟨S16x256, piece q lo hi ⟨4 * t.val + 1, by omega⟩ 2⟩, ⟨S16x256, piece q lo hi ⟨4 * t.val + 1, by omega⟩ 3⟩, ⟨S16x256, piece q lo hi ⟨4 * t.val + 2, by omega⟩ 0⟩, ⟨S16x256, piece q lo hi ⟨4 * t.val + 2, by omega⟩ 1⟩, ⟨S16x256, piece q lo hi ⟨4 * t.val + 2, by omega⟩ 2⟩, ⟨S16x256, piece q lo hi ⟨4 * t.val + 2, by omega⟩ 3⟩, ⟨S16x256, piece q lo hi ⟨4 * t.val + 3, by omega⟩ 0⟩, ⟨S16x256, piece q lo hi ⟨4 * t.val + 3, by omega⟩ 1⟩, ⟨S16x256, piece q lo hi ⟨4 * t.val + 3, by omega⟩ 2⟩, ⟨S16x256, piece q lo hi ⟨4 * t.val + 3, by omega⟩ 3⟩] concatenates_S16x256_S16x256_S16x256_S16x256_S16x256_S16x256_S16x256_S16x256_S16x256_S16x256_S16x256_S16x256_S16x256_S16x256_S16x256_S16x256_S256x256_d0

/-- One product added to an accumulator. -/
def addDot (a : FVec F S32x256 .f32) (x : Vec F S32x256 .bf16) (w : FVec F S256x256 .bf16) : FVec F S32x256 .f32 :=
  addf a (matmul dot_S32x256_S256x256_S32x256_1_0_0_1_n_n none x w (constant S32x256 .f32 0x00000000#32))

/-- One chunk: its weights, and its two products added to the accumulators. -/
def chunk (arg2 : Memref sig .tc .vmem S512x4096 .i8) (harg2 : arg2.IsWhole) (arg8 : Memref sig .tc .vmem S32x16384 .bf16) (harg8 : arg8.IsWhole) (arg9 : Memref sig .tc .vmem S256x256 .i32) (harg9 : arg9.IsWhole) (arg10 : Memref sig .tc .vmem S256x256 .i32) (harg10 : arg10.IsWhole) (c : Fin 32) (a b : FVec F S32x256 .f32) : Prog (TpuEff nD τ sig (Elt F) Λ₀ .tc) (FVec F S32x256 .f32 × FVec F S32x256 .f32) := do
  let w : Vec F S512x128 .i8 ← Prog.lift (.load arg2 (Rect.unit (s := S512x4096) ![0, 128 * c.val] S512x128.size (inbW c)).toLoadRect (View.loadsAt_vmem h_S512x128))
  let lo : Vec F S8x256 .i32 ← Prog.lift (.load arg9 (Rect.unit (s := S256x256) ![8 * c.val, 0] S8x256.size (inbSc c)).toLoadRect (View.loadsAt_vmem h_S8x256))
  let hi : Vec F S8x256 .i32 ← Prog.lift (.load arg10 (Rect.unit (s := S256x256) ![8 * c.val, 0] S8x256.size (inbSc c)).toLoadRect (View.loadsAt_vmem h_S8x256))
  let x0 : Vec F S32x256 .bf16 ← Prog.lift (.load arg8 (Rect.unit (s := S32x16384) ![0, 512 * c.val + 256 * (0 : Fin 2).val] S32x256.size (inbXc c 0)).toLoadRect (View.loadsAt_vmem h_S32x256))
  let x1 : Vec F S32x256 .bf16 ← Prog.lift (.load arg8 (Rect.unit (s := S32x16384) ![0, 512 * c.val + 256 * (1 : Fin 2).val] S32x256.size (inbXc c 1)).toLoadRect (View.loadsAt_vmem h_S32x256))
  pure (addDot a x0 (weights 0 (quant w) lo hi), addDot b x1 (weights 1 (quant w) lo hi))

/-! ## Every step: the running two largest -/

/-- The vocabulary row of each lane of step `arg0`, as the kernel computes it. -/
def ids (arg0 : BitVec 32) : IVec S32x256 32 :=
  have v5562 : IVec S32x256 32 := iota .tc S32x256 32 [0] iota_S32x256_d0_w32
  let c16_i32_827 : BitVec 32 := 16#32
  have v5563 : IVec S32x256 32 := broadcast S32x256 c16_i32_827
  have v5564 : IVec S32x256 32 := divsi v5562 v5563
  let c0_i32_828 : BitVec 32 := 0#32
  have v5565 : IVec S32x256 32 := broadcast S32x256 c0_i32_828
  have v5566 : IVec S32x256 1 := cmpi .sgt v5562 v5565
  have v5567 : IVec S32x256 32 := extui 32 v5566 natLt_1_32
  let c0_i32_829 : BitVec 32 := 0#32
  have v5568 : IVec S32x256 32 := broadcast S32x256 c0_i32_829
  have v5569 : IVec S32x256 1 := cmpi .slt v5562 v5568
  have v5570 : IVec S32x256 32 := extui 32 v5569 natLt_1_32
  have v5571 : IVec S32x256 32 := subi v5567 v5570
  let c0_i32_830 : BitVec 32 := 0#32
  let v5572 : BitVec 1 := Scalar.cmpi .sgt c16_i32_827 c0_i32_830
  let v5573 : BitVec 32 := Scalar.extui v5572
  let c0_i32_831 : BitVec 32 := 0#32
  let v5574 : BitVec 1 := Scalar.cmpi .slt c16_i32_827 c0_i32_831
  let v5575 : BitVec 32 := Scalar.extui v5574
  let v5576 : BitVec 32 := Scalar.subi v5573 v5575
  have v5577 : IVec S32x256 32 := broadcast S32x256 v5576
  have v5578 : IVec S32x256 1 := cmpi .ne v5571 v5577
  have v5579 : IVec S32x256 32 := broadcast S32x256 c16_i32_827
  have v5580 : IVec S32x256 32 := remsi v5562 v5579
  let c0_i32_832 : BitVec 32 := 0#32
  have v5581 : IVec S32x256 32 := broadcast S32x256 c0_i32_832
  have v5582 : IVec S32x256 1 := cmpi .ne v5580 v5581
  have v5583 : IVec S32x256 1 := andi v5578 v5582
  let c1_i32_833 : BitVec 32 := 1#32
  have v5584 : IVec S32x256 32 := broadcast S32x256 c1_i32_833
  have v5585 : IVec S32x256 32 := subi v5564 v5584
  have v5586 : IVec S32x256 32 := select v5583 v5585 v5564
  have v5587 : IVec S32x256 32 := iota .tc S32x256 32 [1] iota_S32x256_d1_w32
  let c512_i32 : BitVec 32 := 512#32
  let v5588 : BitVec 32 := Scalar.muli arg0 c512_i32
  let c2_i32_834 : BitVec 32 := 2#32
  have v5589 : IVec S32x256 32 := broadcast S32x256 c2_i32_834
  have v5590 : IVec S32x256 32 := muli v5589 v5587
  have v5591 : IVec S32x256 32 := broadcast S32x256 v5588
  have v5592 : IVec S32x256 32 := addi v5591 v5590
  have v5593 : IVec S32x256 32 := addi v5592 v5586
  v5593

/-- The step's logits, the lanes past the vocabulary at minus infinity. -/
def masked (arg0 : BitVec 32) (l : FVec F S32x256 .f32) : FVec F S32x256 .f32 :=
  select (cmpi .slt (ids arg0) (broadcast S32x256 32000#32)) l (broadcast S32x256 (Scalar.ofBits .f32 0xFF800000#32 : F .f32))

/-- The running maximum, the runner-up and the maximum's row, brought up to date. -/
def update (arg0 : BitVec 32) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) (l : FVec F S32x256 .f32) : Prog (TpuEff nD τ sig (Elt F) Λ₀ .tc) PUnit := do
  let m1 : Vec F S32x256 .f32 ← Prog.lift (.load arg11 (Rect.unit (s := S32x256) ![0, 0] S32x256.size inb_S32x256_S32x256_0_0).toLoadRect (View.loadsAt_vmem h_S32x256))
  let m2 : Vec F S32x256 .f32 ← Prog.lift (.load arg12 (Rect.unit (s := S32x256) ![0, 0] S32x256.size inb_S32x256_S32x256_0_0).toLoadRect (View.loadsAt_vmem h_S32x256))
  let _a : Vec F S32x256 .f32 ← Prog.lift (.load arg12 (Rect.unit (s := S32x256) ![0, 0] S32x256.size inb_S32x256_S32x256_0_0).toLoadRect (View.loadsAt_vmem h_S32x256))
  Prog.lift (.store arg12 (Rect.unit (s := S32x256) ![0, 0] S32x256.size inb_S32x256_S32x256_0_0) (shapeCast S32x256 (maximumf m2 (select (cmpf .ogt l m1) m1 l)) shapeCasts_S32x256_S32x256) Finset.univ (View.stores_vmem_bits_univ h_S32x256 rfl) (.inl rfl))
  let _b : Vec F S32x256 .f32 ← Prog.lift (.load arg11 (Rect.unit (s := S32x256) ![0, 0] S32x256.size inb_S32x256_S32x256_0_0).toLoadRect (View.loadsAt_vmem h_S32x256))
  Prog.lift (.store arg11 (Rect.unit (s := S32x256) ![0, 0] S32x256.size inb_S32x256_S32x256_0_0) (shapeCast S32x256 (select (cmpf .ogt l m1) l m1) shapeCasts_S32x256_S32x256) Finset.univ (View.stores_vmem_bits_univ h_S32x256 rfl) (.inl rfl))
  let d : Vec F S32x256 .i32 ← Prog.lift (.load arg13 (Rect.unit (s := S32x256) ![0, 0] S32x256.size inb_S32x256_S32x256_0_0).toLoadRect (View.loadsAt_vmem h_S32x256))
  let _c : Vec F S32x256 .i32 ← Prog.lift (.load arg13 (Rect.unit (s := S32x256) ![0, 0] S32x256.size inb_S32x256_S32x256_0_0).toLoadRect (View.loadsAt_vmem h_S32x256))
  Prog.lift (.store arg13 (Rect.unit (s := S32x256) ![0, 0] S32x256.size inb_S32x256_S32x256_0_0) (shapeCast S32x256 (select (cmpf .ogt l m1) (ids arg0) d) shapeCasts_S32x256_S32x256) Finset.univ (View.stores_vmem_bits_univ h_S32x256 rfl) (.inl rfl))

/-! ## The last step: the results -/

/-- The two halves of the rows side by side. -/
def fold {α : Type} (v : S32x256.Idx → α) : S16x512.Idx → α :=
  concatenate S16x512 1 [⟨S16x256, extractStridedSlice S16x256 ![0, 0] v slices_S32x256_o0_0_S16x256⟩, ⟨S16x256, extractStridedSlice S16x256 ![16, 0] v slices_S32x256_o16_0_S16x256⟩] concatenates_S16x256_S16x256_S16x512_d1

/-- The largest of each row. -/
def topOf (v5621 : FVec F S16x512 .f32) : FVec F S16x1 .f32 :=
  shapeCast S16x1 (multiReduction .maximumf [1] S16 v5621 0xFF800000#32 reduces_S16x512_S16 (.inl rfl) rfl) shapeCasts_S16_S16x1

/-- The least vocabulary row among the largest lanes. -/
def tokOf (v5621 : FVec F S16x512 .f32) (v5629 : IVec S16x512 32) : IVec S16x1 32 :=
  shapeCast S16x1 (multiReductionI .minsi [1] S16 (select (cmpf .oeq v5621 (broadcastTo S16x512 (topOf v5621) broadcasts_S16x1_S16x512)) v5629 (broadcast S16x512 32000#32)) 2147483647#32 reduces_S16x512_S16 rfl) shapeCasts_S16_S16x1

/-- The largest of the rest. -/
def secondOf (v5621 v5625 : FVec F S16x512 .f32) (v5629 : IVec S16x512 32) : FVec F S16x1 .f32 :=
  topOf (select (cmpi .eq v5629 (broadcastTo S16x512 (tokOf v5621 v5629) broadcasts_S16x1_S16x512)) v5625 v5621)

/-- The last step's own work. -/
def last (arg4 : Memref sig .tc .vmem S16x1 .i32) (harg4 : arg4.IsWhole) (arg5 : Memref sig .tc .vmem S16x1 .f32) (harg5 : arg5.IsWhole) (arg6 : Memref sig .tc .vmem S16x1 .f32) (harg6 : arg6.IsWhole) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) : Prog (TpuEff nD τ sig (Elt F) Λ₀ .tc) PUnit := do
  let m1 : Vec F S32x256 .f32 ← Prog.lift (.load arg11 (Rect.unit (s := S32x256) ![0, 0] S32x256.size inb_S32x256_S32x256_0_0).toLoadRect (View.loadsAt_vmem h_S32x256))
  let m2 : Vec F S32x256 .f32 ← Prog.lift (.load arg12 (Rect.unit (s := S32x256) ![0, 0] S32x256.size inb_S32x256_S32x256_0_0).toLoadRect (View.loadsAt_vmem h_S32x256))
  let d : Vec F S32x256 .i32 ← Prog.lift (.load arg13 (Rect.unit (s := S32x256) ![0, 0] S32x256.size inb_S32x256_S32x256_0_0).toLoadRect (View.loadsAt_vmem h_S32x256))
  let _a : Vec F S16x1 .i32 ← Prog.lift (.load arg4 (Rect.unit (s := S16x1) ![0, 0] S16x1.size inb_S16x1_S16x1_0_0).toLoadRect (View.loadsAt_vmem h_S16x1))
  Prog.lift (.store arg4 (Rect.unit (s := S16x1) ![0, 0] S16x1.size inb_S16x1_S16x1_0_0) (tokOf (fold m1) (fold d)) Finset.univ (View.stores_vmem_bits_univ h_S16x1 rfl) (.inl rfl))
  let _b : Vec F S16x1 .f32 ← Prog.lift (.load arg6 (Rect.unit (s := S16x1) ![0, 0] S16x1.size inb_S16x1_S16x1_0_0).toLoadRect (View.loadsAt_vmem h_S16x1))
  Prog.lift (.store arg6 (Rect.unit (s := S16x1) ![0, 0] S16x1.size inb_S16x1_S16x1_0_0) (topOf (fold m1)) Finset.univ (View.stores_vmem_bits_univ h_S16x1 rfl) (.inl rfl))
  let _c : Vec F S16x1 .f32 ← Prog.lift (.load arg5 (Rect.unit (s := S16x1) ![0, 0] S16x1.size inb_S16x1_S16x1_0_0).toLoadRect (View.loadsAt_vmem h_S16x1))
  Prog.lift (.store arg5 (Rect.unit (s := S16x1) ![0, 0] S16x1.size inb_S16x1_S16x1_0_0) (subf (topOf (fold m1)) (secondOf (fold m1) (fold m2) (fold d))) Finset.univ (View.stores_vmem_bits_univ h_S16x1 rfl) (.inl rfl))

/-! ## The body -/

/-- The condition of the first step. -/
def isFirst (i : grid0.Coords) : BitVec 1 :=
  Scalar.cmpi .ne (Scalar.extui (Scalar.cmpi .eq (BitVec.ofNat 32 (i 0).val) 0#32) : BitVec 32) 0#32

/-- What the first step alone does. -/
def opening (i : grid0.Coords) (arg1 : Memref sig .tc .vmem S16x8192 .bf16) (harg1 : arg1.IsWhole) (arg7 : Memref sig .tc .vmem S512x256 .bf16) (harg7 : arg7.IsWhole) (arg8 : Memref sig .tc .vmem S32x16384 .bf16) (harg8 : arg8.IsWhole) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) : Prog (TpuEff nD τ sig (Elt F) Λ₀ .tc) PUnit :=
  if isFirst i = 1#1 then first arg1 harg1 arg7 harg7 arg8 harg8 arg11 harg11 arg12 harg12 arg13 harg13 else pure ⟨⟩

/-- What the last step alone does. -/
def closing (i : grid0.Coords) (arg4 : Memref sig .tc .vmem S16x1 .i32) (harg4 : arg4.IsWhole) (arg5 : Memref sig .tc .vmem S16x1 .f32) (harg5 : arg5.IsWhole) (arg6 : Memref sig .tc .vmem S16x1 .f32) (harg6 : arg6.IsWhole) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) : Prog (TpuEff nD τ sig (Elt F) Λ₀ .tc) PUnit :=
  if k0_cond2 i = 1#1 then last arg4 harg4 arg5 harg5 arg6 harg6 arg11 harg11 arg12 harg12 arg13 harg13 else pure ⟨⟩

/-- The kernel body. -/
def body (i : grid0.Coords) (arg1 : Memref sig .tc .vmem S16x8192 .bf16) (harg1 : arg1.IsWhole) (arg2 : Memref sig .tc .vmem S512x4096 .i8) (harg2 : arg2.IsWhole) (arg3 : Memref sig .tc .vmem S512x256 .bf16) (harg3 : arg3.IsWhole) (arg4 : Memref sig .tc .vmem S16x1 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S512x256 .bf16) (harg7 : arg7.IsWhole) (arg8 : Memref sig .tc .vmem S32x16384 .bf16) (harg8 : arg8.IsWhole) (arg9 : Memref sig .tc .vmem S256x256 .i32) (harg9 : arg9.IsWhole) (arg10 : Memref sig .tc .vmem S256x256 .i32) (harg10 : arg10.IsWhole) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) : Prog (TpuEff nD τ sig (Elt F) Λ₀ .tc) PUnit := do
  opening i arg1 harg1 arg7 harg7 arg8 harg8 arg11 harg11 arg12 harg12 arg13 harg13
  scales arg3 harg3 arg9 harg9 arg10 harg10
  let r ← carry (chunk arg2 harg2 arg8 harg8 arg9 harg9 arg10 harg10) 32 (broadcast S32x256 (Scalar.ofBits .f32 0x00000000#32 : F .f32)) (broadcast S32x256 (Scalar.ofBits .f32 0x00000000#32 : F .f32))
  update (BitVec.ofNat 32 (i 0).val) arg11 harg11 arg12 harg12 arg13 harg13 (masked (BitVec.ofNat 32 (i 0).val) (addf r.1 r.2))
  closing i arg4 harg4 arg5 harg5 arg6 harg6 arg11 harg11 arg12 harg12 arg13 harg13

/-- The printed body is `body`: the same operations in the same order. -/
theorem body_eq (i : grid0.Coords) (arg1 : Memref sig .tc .vmem S16x8192 .bf16) (harg1 : arg1.IsWhole) (arg2 : Memref sig .tc .vmem S512x4096 .i8) (harg2 : arg2.IsWhole) (arg3 : Memref sig .tc .vmem S512x256 .bf16) (harg3 : arg3.IsWhole) (arg4 : Memref sig .tc .vmem S16x1 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S512x256 .bf16) (harg7 : arg7.IsWhole) (arg8 : Memref sig .tc .vmem S32x16384 .bf16) (harg8 : arg8.IsWhole) (arg9 : Memref sig .tc .vmem S256x256 .i32) (harg9 : arg9.IsWhole) (arg10 : Memref sig .tc .vmem S256x256 .i32) (harg10 : arg10.IsWhole) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) :
    cc0__body (F := F) i arg1 harg1 arg2 harg2 arg3 harg3 arg4 harg4 arg5 harg5 arg6 harg6 arg7 harg7 arg8 harg8 arg9 harg9 arg10 harg10 arg11 harg11 arg12 harg12 arg13 harg13 = body i arg1 harg1 arg2 harg2 arg3 harg3 arg4 harg4 arg5 harg5 arg6 harg6 arg7 harg7 arg8 harg8 arg9 harg9 arg10 harg10 arg11 harg11 arg12 harg12 arg13 harg13 := by
  unfold cc0__body k0_part126 k0_part16 body opening closing
  by_cases h : isFirst i = 1#1
  · rw [if_pos h]
    unfold isFirst at h
    simp only [h, ↓reduceDIte]
    by_cases h2 : k0_cond2 i = 1#1
    · simp only [h2, ↓reduceDIte]
      chain_rfl
    · simp only [h2, ↓reduceDIte]
      chain_rfl
  · rw [if_neg h]
    unfold isFirst at h
    simp only [h, ↓reduceDIte]
    by_cases h2 : k0_cond2 i = 1#1
    · simp only [h2, ↓reduceDIte]
      chain_rfl
    · simp only [h2, ↓reduceDIte]
      chain_rfl

end Cert.Kernel.Body

end
-- ==== Proof.KernelKeep.lean ====
/- The kernel body runs safely whatever its buffers hold, and leaves its three input blocks as they were. -/
module

public import proofs.«01_k».proof.Proof.KernelBody

@[expose] public section

noncomputable section

namespace Cert.Kernel.Body

open Cert.Kernel
open Cert.Mem
open Idealize.ShloMosaic Idealize.ShloMosaic.TcCoe
open Idealize.SL Idealize.SL.RA Idealize.SL.BI Idealize.SL.Sem

variable {F : FTy → Type} [BitOps F]

local notation "𝕄" => MT nD τ sig Unit (Elt F) ℕ (UR sig nD τ) ℕ

variable (d : Dev nD) {defs : Defs nD τ sig (Elt F) Λ₀} {E : Set ℕ} {S : Type} {Own : S → sProp (MT nD τ sig Unit (Elt F) ℕ (UR sig nD τ) ℕ)} {I : S → Prop}

/-- A memref among the state's. -/
abbrev At (Own : S → sProp 𝕄) {s : Shape} {e : EltTy} {cs : CoreSpace} (m : Memref sig .tc cs s e) := Slot (c := (d : Thread nD τ)) Own m

/-- A program that keeps the property `I` of the state. -/
abbrev Ok (defs : Defs nD τ sig (Elt F) Λ₀) (E : Set ℕ) (Own : S → sProp 𝕄) (I : S → Prop) {α : Type} (p : Prog (TpuEff nD τ sig (Elt F) Λ₀ .tc) α) : Prop :=
  Keep (d : Thread nD τ) defs Variants.none none E Own I p

variable {d}

/-- One program, then another. -/
theorem Ok.andThen {α β : Type} {p : Prog (TpuEff nD τ sig (Elt F) Λ₀ .tc) α} {q : α → Prog (TpuEff nD τ sig (Elt F) Λ₀ .tc) β}
    (hp : Ok d defs E Own I p) (hq : ∀ a, Ok d defs E Own I (q a)) : Ok d defs E Own I (p >>= q) :=
  Keep.bind hp hq

/-- A load, then the rest. -/
theorem Ok.load {s : Shape} {e : EltTy} {cs : CoreSpace} {m : Memref sig .tc cs s e} (k : At d Own m) {r : Rect s} {hl : m.view.LoadsAt r.toLoadRect}
    {α : Type} {p : (r.toLoadRect.shape.Idx → Elt F e) → Prog (TpuEff nD τ sig (Elt F) Λ₀ .tc) α} (hp : ∀ v, Ok d defs E Own I (p v)) :
    Ok d defs E Own I (Prog.lift (.load m r.toLoadRect hl) >>= p) :=
  Keep.bind (Keep.load k) hp

/-- A store, then the rest. -/
theorem Ok.store {s : Shape} {e : EltTy} {cs : CoreSpace} {m : Memref sig .tc cs s e} (k : At d Own m) (hk : ∀ σ y, I σ → I (k.put σ y)) {r : Rect s}
    {w : r.shape.Idx → Elt F e} {hx : (m.access r).Stores Finset.univ} {hm : Finset.univ = (Finset.univ : Finset r.shape.Idx) ∨ ∀ a, r.stride a = 1}
    {α : Type} {p : PUnit → Prog (TpuEff nD τ sig (Elt F) Λ₀ .tc) α} (hp : ∀ v, Ok d defs E Own I (p v)) :
    Ok d defs E Own I (Prog.lift (.store m r w Finset.univ hx hm) >>= p) :=
  Keep.bind (Keep.store k hk) hp

/-- A store at the end. -/
theorem Ok.store_end {s : Shape} {e : EltTy} {cs : CoreSpace} {m : Memref sig .tc cs s e} (k : At d Own m) (hk : ∀ σ y, I σ → I (k.put σ y)) {r : Rect s}
    {w : r.shape.Idx → Elt F e} {hx : (m.access r).Stores Finset.univ} {hm : Finset.univ = (Finset.univ : Finset r.shape.Idx) ∨ ∀ a, r.stride a = 1} :
    Ok d defs E Own I (Prog.lift (.store m r w Finset.univ hx hm)) :=
  Keep.store k hk

variable {arg1 : Memref sig .tc .vmem S16x8192 .bf16} {harg1 : arg1.IsWhole} {arg2 : Memref sig .tc .vmem S512x4096 .i8} {harg2 : arg2.IsWhole}
  {arg3 : Memref sig .tc .vmem S512x256 .bf16} {harg3 : arg3.IsWhole} {arg4 : Memref sig .tc .vmem S16x1 .i32} {harg4 : arg4.IsWhole}
  {arg5 : Memref sig .tc .vmem S16x1 .f32} {harg5 : arg5.IsWhole} {arg6 : Memref sig .tc .vmem S16x1 .f32} {harg6 : arg6.IsWhole}
  {arg7 : Memref sig .tc .vmem S512x256 .bf16} {harg7 : arg7.IsWhole} {arg8 : Memref sig .tc .vmem S32x16384 .bf16} {harg8 : arg8.IsWhole}
  {arg9 : Memref sig .tc .vmem S256x256 .i32} {harg9 : arg9.IsWhole} {arg10 : Memref sig .tc .vmem S256x256 .i32} {harg10 : arg10.IsWhole}
  {arg11 : Memref sig .tc .vmem S32x256 .f32} {harg11 : arg11.IsWhole} {arg12 : Memref sig .tc .vmem S32x256 .f32} {harg12 : arg12.IsWhole}
  {arg13 : Memref sig .tc .vmem S32x256 .i32} {harg13 : arg13.IsWhole}

/-- The first step's own work. -/
theorem first_ok (k1 : At d Own arg1) (k7 : At d Own arg7) (h7 : ∀ σ y, I σ → I (k7.put σ y)) (k8 : At d Own arg8) (h8 : ∀ σ y, I σ → I (k8.put σ y))
    (k11 : At d Own arg11) (h11 : ∀ σ y, I σ → I (k11.put σ y)) (k12 : At d Own arg12) (h12 : ∀ σ y, I σ → I (k12.put σ y))
    (k13 : At d Own arg13) (h13 : ∀ σ y, I σ → I (k13.put σ y)) :
    Ok d defs E Own I (first arg1 harg1 arg7 harg7 arg8 harg8 arg11 harg11 arg12 harg12 arg13 harg13) :=
  have hput : ∀ m o, Ok d defs E Own I (each (putX arg8 harg8 m o) 32) := fun m o =>
    Keep.each (fun i => Ok.load k8 fun _ => Ok.store_end k8 h8) 32
  Keep.bind (Keep.each (fun i => Ok.load k1 fun _ => Ok.load k7 fun _ => Ok.store_end k7 h7) 32) fun _ =>
    Ok.load k7 fun _ => Keep.bind (hput _ _) fun _ => Ok.load k7 fun _ => Keep.bind (hput _ _) fun _ =>
    Ok.load k11 fun _ => Ok.store k11 h11 fun _ => Ok.load k12 fun _ => Ok.store k12 h12 fun _ => Ok.load k13 fun _ => Ok.store_end k13 h13

/-- The scales transposed. -/
theorem scales_ok (k3 : At d Own arg3) (k9 : At d Own arg9) (h9 : ∀ σ y, I σ → I (k9.put σ y)) (k10 : At d Own arg10) (h10 : ∀ σ y, I σ → I (k10.put σ y)) :
    Ok d defs E Own I (scales arg3 harg3 arg9 harg9 arg10 harg10) :=
  Ok.load k3 fun _ => Ok.load k9 fun _ => Ok.store k9 h9 fun _ => Ok.load k10 fun _ => Ok.store_end k10 h10

/-- One chunk. -/
theorem chunk_ok (k2 : At d Own arg2) (k8 : At d Own arg8) (k9 : At d Own arg9) (k10 : At d Own arg10) (i : Fin 32) (a b : FVec F S32x256 .f32) :
    Ok d defs E Own I (chunk arg2 harg2 arg8 harg8 arg9 harg9 arg10 harg10 i a b) :=
  Ok.load k2 fun _ => Ok.load k9 fun _ => Ok.load k10 fun _ => Ok.load k8 fun _ => Ok.load k8 fun _ => Keep.pure _

/-- The running two largest. -/
theorem update_ok (k11 : At d Own arg11) (h11 : ∀ σ y, I σ → I (k11.put σ y)) (k12 : At d Own arg12) (h12 : ∀ σ y, I σ → I (k12.put σ y))
    (k13 : At d Own arg13) (h13 : ∀ σ y, I σ → I (k13.put σ y)) (w : BitVec 32) (l : FVec F S32x256 .f32) :
    Ok d defs E Own I (update w arg11 harg11 arg12 harg12 arg13 harg13 l) :=
  Ok.load k11 fun _ => Ok.load k12 fun _ => Ok.load k12 fun _ => Ok.store k12 h12 fun _ => Ok.load k11 fun _ => Ok.store k11 h11 fun _ =>
    Ok.load k13 fun _ => Ok.load k13 fun _ => Ok.store_end k13 h13

/-- The results. -/
theorem last_ok (k4 : At d Own arg4) (h4 : ∀ σ y, I σ → I (k4.put σ y)) (k5 : At d Own arg5) (h5 : ∀ σ y, I σ → I (k5.put σ y))
    (k6 : At d Own arg6) (h6 : ∀ σ y, I σ → I (k6.put σ y)) (k11 : At d Own arg11) (k12 : At d Own arg12) (k13 : At d Own arg13) :
    Ok d defs E Own I (last arg4 harg4 arg5 harg5 arg6 harg6 arg11 harg11 arg12 harg12 arg13 harg13) :=
  Ok.load k11 fun _ => Ok.load k12 fun _ => Ok.load k13 fun _ => Ok.load k4 fun _ => Ok.store k4 h4 fun _ => Ok.load k6 fun _ => Ok.store k6 h6 fun _ =>
    Ok.load k5 fun _ => Ok.store_end k5 h5

section Whole

variable (d) (arg1 arg2 arg3 arg4 arg5 arg6 arg7 arg8 arg9 arg10 arg11 arg12 arg13)

/-- The body's thirteen buffers. -/
abbrev All := Cons (d : Thread nD τ) arg1 (Cons (d : Thread nD τ) arg2 (Cons (d : Thread nD τ) arg3 (Cons (d : Thread nD τ) arg4 (Cons (d : Thread nD τ) arg5
  (Cons (d : Thread nD τ) arg6 (Cons (d : Thread nD τ) arg7 (Cons (d : Thread nD τ) arg8 (Cons (d : Thread nD τ) arg9 (Cons (d : Thread nD τ) arg10
  (Cons (d : Thread nD τ) arg11 (Cons (d : Thread nD τ) arg12 (Cons (d : Thread nD τ) arg13 (Nil : Unit → sProp 𝕄)))))))))))))

end Whole

/-- The body keeps its three inputs' contents. -/
theorem body_ok (i : grid0.Coords) (X1 : S16x8192.Idx → Elt F .bf16) (X2 : S512x4096.Idx → Elt F .i8) (X3 : S512x256.Idx → Elt F .bf16) :
    Ok d defs E (All d arg1 arg2 arg3 arg4 arg5 arg6 arg7 arg8 arg9 arg10 arg11 arg12 arg13) (fun σ => σ.1 = X1 ∧ σ.2.1 = X2 ∧ σ.2.2.1 = X3)
      (body (F := F) i arg1 harg1 arg2 harg2 arg3 harg3 arg4 harg4 arg5 harg5 arg6 harg6 arg7 harg7 arg8 harg8 arg9 harg9 arg10 harg10 arg11 harg11 arg12 harg12 arg13 harg13) := by
  unfold body
  refine Ok.andThen (F := F) ?_ fun _ => ?_
  · unfold opening
    by_cases h : isFirst i = 1#1
    · rw [if_pos h]
      exact first_ok (F := F) .head (.tail (.tail (.tail (.tail (.tail (.tail .head)))))) (fun _ _ h => h) (.tail (.tail (.tail (.tail (.tail (.tail (.tail .head))))))) (fun _ _ h => h) (.tail (.tail (.tail (.tail (.tail (.tail (.tail (.tail (.tail (.tail .head)))))))))) (fun _ _ h => h) (.tail (.tail (.tail (.tail (.tail (.tail (.tail (.tail (.tail (.tail (.tail .head))))))))))) (fun _ _ h => h) (.tail (.tail (.tail (.tail (.tail (.tail (.tail (.tail (.tail (.tail (.tail (.tail .head)))))))))))) (fun _ _ h => h)
    · rw [if_neg h]; exact Keep.pure _
  refine Ok.andThen (F := F) ?_ fun _ => ?_
  · exact scales_ok (F := F) (.tail (.tail .head)) (.tail (.tail (.tail (.tail (.tail (.tail (.tail (.tail .head)))))))) (fun _ _ h => h) (.tail (.tail (.tail (.tail (.tail (.tail (.tail (.tail (.tail .head))))))))) (fun _ _ h => h)
  refine Ok.andThen (F := F) ?_ fun r => ?_
  · exact Keep.carry (fun j a b => chunk_ok (F := F) (.tail .head) (.tail (.tail (.tail (.tail (.tail (.tail (.tail .head))))))) (.tail (.tail (.tail (.tail (.tail (.tail (.tail (.tail .head)))))))) (.tail (.tail (.tail (.tail (.tail (.tail (.tail (.tail (.tail .head))))))))) j a b) 32 _ _
  refine Ok.andThen (F := F) ?_ fun _ => ?_
  · exact update_ok (F := F) (.tail (.tail (.tail (.tail (.tail (.tail (.tail (.tail (.tail (.tail .head)))))))))) (fun _ _ h => h) (.tail (.tail (.tail (.tail (.tail (.tail (.tail (.tail (.tail (.tail (.tail .head))))))))))) (fun _ _ h => h) (.tail (.tail (.tail (.tail (.tail (.tail (.tail (.tail (.tail (.tail (.tail (.tail .head)))))))))))) (fun _ _ h => h) _ _
  unfold closing
  by_cases h : k0_cond2 i = 1#1
  · rw [if_pos h]
    exact last_ok (F := F) (.tail (.tail (.tail .head))) (fun _ _ h => h) (.tail (.tail (.tail (.tail .head)))) (fun _ _ h => h) (.tail (.tail (.tail (.tail (.tail .head))))) (fun _ _ h => h) (.tail (.tail (.tail (.tail (.tail (.tail (.tail (.tail (.tail (.tail .head)))))))))) (.tail (.tail (.tail (.tail (.tail (.tail (.tail (.tail (.tail (.tail (.tail .head))))))))))) (.tail (.tail (.tail (.tail (.tail (.tail (.tail (.tail (.tail (.tail (.tail (.tail .head))))))))))))
  · rw [if_neg h]; exact Keep.pure _

end Cert.Kernel.Body

end
-- ==== Proof.KernelFrame.lean ====
/- The frame of the kernel at any float values: it terminates without fault, leaves its arguments as they were and every
   semaphore counter at zero. -/
module

public import proofs.«01_k».proof.Proof.KernelKeep

@[expose] public section

noncomputable section

namespace Cert.Kernel.FrameRun

open Cert.Kernel Cert.Kernel.Gen Cert.Kernel.Body
open Cert.Mem
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The packed weights' block of a step, filled out past the array's end. -/
def wAfter (c : Dev nD) (t : Fin cfg0.N) : S512x4096.Idx → Elt F .i8 :=
  win0_1.fill (grid0.coords t) (fun _ => 0#8) (iblk m c 1 t)
/-- The scales' block of a step, filled out past the array's end. -/
def sAfter (c : Dev nD) (t : Fin cfg0.N) : S512x256.Idx → Elt F .bf16 :=
  win0_2.fill (grid0.coords t) (fun _ => Scalar.ofBits .bf16 0#16) (iblk m c 2 t)

/-- The proof data: the inputs' buffers keep their blocks; nothing is said of the results' or of the scratch buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wAfter m c t
    | ⟨2, _⟩ => sAfter m c t
    | ⟨3, _⟩ => fun _ => (0#32 : BitVec 32)
    | ⟨4, _⟩ => fun _ => Scalar.ofBits .f32 0#32
    | ⟨5, _⟩ => fun _ => Scalar.ofBits .f32 0#32
  Φ _ := Pipeline.ΦA spec0 c
  q _ := fullShare
  owed _ := 0

/-- The results' windows: nothing is said of what they hold. -/
def fgt : Fin cfg0.W → Bool
  | ⟨0, _⟩ => false | ⟨1, _⟩ => false | ⟨2, _⟩ => false | ⟨3, _⟩ => true | ⟨4, _⟩ => true | ⟨5, _⟩ => true

theorem before_1 (c : Dev nD) (t : Fin cfg0.N) (d) :
    (dats m 0 c).before (1 : Fin 6) t d = (cfg0.win 1).fill (grid0.coords t) d ((cfg0.win 1).cut (grid0.coords t) ((dats m 0 c).after 1 t)) := by
  unfold Dat.before; rw [if_pos (fetch0_1 t)]
  exact congrArg ((cfg0.win 1).fill (grid0.coords t) d) (Window.cut_fill _ _ _ _).symm
theorem before_2 (c : Dev nD) (t : Fin cfg0.N) (d) :
    (dats m 0 c).before (2 : Fin 6) t d = (cfg0.win 2).fill (grid0.coords t) d ((cfg0.win 2).cut (grid0.coords t) ((dats m 0 c).after 2 t)) := by
  unfold Dat.before; rw [if_pos (fetch0_2 t)]
  exact congrArg ((cfg0.win 2).fill (grid0.coords t) d) (Window.cut_fill _ _ _ _).symm

/-- The body keeps what the pipeline asks of it at every step. -/
theorem body_obligation (c : Dev nD) : BodyObligationLoose (dats m 0 c) (defs₀ (F := F)) Variants.none () Set.univ fgt := fun t => by
  rw [bigSep_W0, bigSep_W0]
  simp only [fgt]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.scopedRest (Ix := Unit) (Name := ℕ) (U := UR sig nD τ) (Lvl := ℕ) (Val := Elt F) spec0 c ∗ ∃ r, prngReg c r) from rfl,
    scopedRest0_eq]
  have hb := body_ok (d := c) (defs := defs₀ (F := F)) (E := Set.univ)
    (arg1 := win0_0.stage (cfg0.slots t 0)) (harg1 := hstage0_0 ((cfg0.slots t 0).cast nbuf0_0))
    (arg2 := win0_1.stage (cfg0.slots t 1)) (harg2 := hstage0_1 ((cfg0.slots t 1).cast nbuf0_1))
    (arg3 := win0_2.stage (cfg0.slots t 2)) (harg3 := hstage0_2 ((cfg0.slots t 2).cast nbuf0_2))
    (arg4 := win0_3.stage (cfg0.slots t 3)) (harg4 := hstage0_3 ((cfg0.slots t 3).cast nbuf0_3))
    (arg5 := win0_4.stage (cfg0.slots t 4)) (harg5 := hstage0_4 ((cfg0.slots t 4).cast nbuf0_4))
    (arg6 := win0_5.stage (cfg0.slots t 5)) (harg6 := hstage0_5 ((cfg0.slots t 5).cast nbuf0_5))
    (arg7 := Memref.whole cc0_scratch0) (harg7 := Memref.isWhole_whole _)
    (arg8 := Memref.whole cc0_scratch1) (harg8 := Memref.isWhole_whole _)
    (arg9 := Memref.whole cc0_scratch2) (harg9 := Memref.isWhole_whole _)
    (arg10 := Memref.whole cc0_scratch3) (harg10 := Memref.isWhole_whole _)
    (arg11 := Memref.whole cc0_scratch4) (harg11 := Memref.isWhole_whole _)
    (arg12 := Memref.whole cc0_scratch5) (harg12 := Memref.isWhole_whole _)
    (arg13 := Memref.whole cc0_scratch6) (harg13 := Memref.isWhole_whole _) (grid0.coords t)
  rw [show defs₀ (F := F) .tc cfg0.body (cfg0.bodyArgs t (cfg0.slots t)) = bodyAt0 t from rfl]
  unfold bodyAt0
  simp only [body_eq]
  iintro ⟨⟨⟨⟨%f7, H7⟩, ⟨%f8, H8⟩, ⟨%f9, H9⟩, ⟨%f10, H10⟩, ⟨%f11, H11⟩, ⟨%f12, H12⟩, ⟨%f13, H13⟩⟩, Hp⟩, Ho, ⟨%d0, H0⟩, ⟨%d1, H1⟩, ⟨%d2, H2⟩, ⟨%X4, H4⟩, ⟨%X5, H5⟩, ⟨%X6, H6⟩⟩
  rw [before0_0_of m (dats m 0 c) rfl (fun _ => rfl) t d0]
  iapply (hb (iblk m c 0 t) ((dats m 0 c).before 1 t d1) ((dats m 0 c).before 2 t d2)).wand
  isplitl [H7 H8 H9 H10 H11 H12 H13 H0 H1 H2 H4 H5 H6]
  · iexists ((iblk m c 0 t, (dats m 0 c).before 1 t d1, (dats m 0 c).before 2 t d2, X4, X5, X6, f7, f8, f9, f10, f11, f12, f13, ()))
    isplitr; · ipureintro; exact ⟨rfl, rfl, rfl⟩
    simp only [All, Cons, Nil, owns_whole_eq]
    isplitl [H0]; · iexact H0
    isplitl [H1]; · iexact H1
    isplitl [H2]; · iexact H2
    isplitl [H4]; · iexact H4
    isplitl [H5]; · iexact H5
    isplitl [H6]; · iexact H6
    isplitl [H7]; · iexists f7; isplitr; (· ipureintro; rfl); iexact H7
    isplitl [H8]; · iexists f8; isplitr; (· ipureintro; rfl); iexact H8
    isplitl [H9]; · iexists f9; isplitr; (· ipureintro; rfl); iexact H9
    isplitl [H10]; · iexists f10; isplitr; (· ipureintro; rfl); iexact H10
    isplitl [H11]; · iexists f11; isplitr; (· ipureintro; rfl); iexact H11
    isplitl [H12]; · iexists f12; isplitr; (· ipureintro; rfl); iexact H12
    isplitl [H13]; · iexists f13; isplitr; (· ipureintro; rfl); iexact H13
    iempintro
  iintro %σ %hσ
  obtain ⟨x1, x2, x3, x4, x5, x6, x7, x8, x9, x10, x11, x12, x13, x14⟩ := σ
  obtain ⟨rfl, rfl, rfl⟩ := hσ
  simp only [All, Cons, Nil, owns_whole_eq]
  iintro ⟨H0, H1, H2, H4, H5, H6, ⟨%g7, -, H7⟩, ⟨%g8, -, H8⟩, ⟨%g9, -, H9⟩, ⟨%g10, -, H10⟩, ⟨%g11, -, H11⟩, ⟨%g12, -, H12⟩, ⟨%g13, -, H13⟩, -⟩
  isplitl [H7 H8 H9 H10 H11 H12 H13 Hp]
  · isplitr [Hp]
    · isplitl [H7]; · iexists g7; iexact H7
      isplitl [H8]; · iexists g8; iexact H8
      isplitl [H9]; · iexists g9; iexact H9
      isplitl [H10]; · iexists g10; iexact H10
      isplitl [H11]; · iexists g11; iexact H11
      isplitl [H12]; · iexists g12; iexact H12
      iexists g13; iexact H13
    · iexact Hp
  isplitl [Ho]; · iexact Ho
  isplitl [H0]; · iexact H0
  isplitl [H1]
  · iexists d1
    rw [before_1 m c t d1]; iexact H1
  isplitl [H2]
  · iexists d2
    rw [before_2 m c t d2]; iexact H2
  isplitl [H4]; · iexists x4; iexact H4
  isplitl [H5]; · iexists x5; iexact H5
  iexists x6; iexact H6

/-- The frame, with every counter at zero. -/
theorem run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (dats m) 0 launch0 defs₀ Variants.none fgt m ρ main (body_obligation m) (fun c => (dats m 0 c).share_full fun _ => rfl) (fun _ _ => rfl)
    (V m) (hmain m _) (fun _ _ => rfl) (fun _ _ => rfl) _ (fun r h => ⟨fun c =>
      ⟨((h.1 c).2 main_arg0 (Pipeline.mem_restRefs_of main_arg0 (by decide) (by decide))).trans (V_main_arg0 m c),
        (h.1.arr_in c 1 rfl).trans (V_main_arg1 m c), (h.1.arr_in c 2 rfl).trans (V_main_arg2 m c)⟩, h.2⟩)

end Cert.Kernel.FrameRun

end
-- ==== Proof.IdealBody.lean ====
/- The kernel body at the extended reals, written once more with its unrolled loops as loops: the same operations in
   the same order, the chunk number a parameter. `body_eq` says the printed body is this one. -/
module

public import proofs.«01_k».proof.Proof.Gen.KernelIdeal.Frame
public import proofs.«01_k».proof.Proof.Mem

@[expose] public section

noncomputable section

namespace Cert.KernelIdeal.Body

open Cert.KernelIdeal
open Cert.KernelIdeal.Facts₀ Cert.KernelIdeal.Facts
open Idealize.ShloMosaic Idealize.SL.Sem
open Cert.Mem (ix each carry)

variable {F : FTy → Type} [FloatOps F]

/-! ## Side conditions at a chunk number -/

theorem inbX : ∀ c : Fin 32, ∀ a, (![0, 256 * c.val] : Fin 2 → Nat) a + S16x256.size a ≤ S16x8192.size a := by decide
theorem inbXs : ∀ c : Fin 32, ∀ a, (![16 * c.val, 0] : Fin 2 → Nat) a + S16x256.size a ≤ S512x256.size a := by decide
theorem packedXs : ∀ c : Fin 32, (Rect.unit (s := S512x256) ![16 * c.val, 0] S16x256.size (inbXs c)).PackedRows (EltTy.packing .bf16) := by decide
theorem slicesXp : ∀ c : Fin 32, S512x512.Slices ![16 * c.val, 0] S16x512 := by decide
theorem inbXp : ∀ (m : Fin 2) (c : Fin 32), ∀ a, (![16 * m.val, 512 * c.val] : Fin 2 → Nat) a + S16x512.size a ≤ S32x16384.size a := by decide
theorem packedXp : ∀ (m : Fin 2) (c : Fin 32), (Rect.unit (s := S32x16384) ![16 * m.val, 512 * c.val] S16x512.size (inbXp m c)).PackedRows (EltTy.packing .bf16) := by decide
theorem inbW : ∀ c : Fin 32, ∀ a, (![0, 128 * c.val] : Fin 2 → Nat) a + S512x128.size a ≤ S512x4096.size a := by decide
theorem inbSc : ∀ c : Fin 32, ∀ a, (![8 * c.val, 0, 0] : Fin 3 → Nat) a + S8x2x256.size a ≤ S256x2x256.size a := by decide
theorem inbXc : ∀ (c : Fin 32) (t : Fin 2), ∀ a, (![0, 512 * c.val + 256 * t.val] : Fin 2 → Nat) a + S32x256.size a ≤ S32x16384.size a := by decide
theorem slicesS : ∀ g : Fin 8, S8x256.Slices ![g.val, 0] S1x256 := by decide
theorem slicesQ : ∀ (g : Fin 8) (k : Fin 4), S512x256.Slices ![64 * g.val + 16 * k.val, 0] S16x256 := by decide

/-! ## The first step: the activations spread -/

/-- One slice of the activations copied beneath the others. -/
def copyX (arg1 : Memref sig .tc .vmem S16x8192 .bf16) (harg1 : arg1.IsWhole) (arg7 : Memref sig .tc .vmem S512x256 .bf16) (harg7 : arg7.IsWhole) (c : Fin 32) : Prog (TpuEff nD τ sig (Elt F) Λ₀ .tc) PUnit := do
  let v : Vec F S16x256 .bf16 ← Prog.lift (.load arg1 (Rect.unit (s := S16x8192) ![0, 256 * c.val] S16x256.size (inbX c)).toLoadRect (View.loadsAt_vmem h_S16x256))
  let _w : Vec F S16x256 .bf16 ← Prog.lift (.load arg7 (Rect.unit (s := S512x256) ![16 * c.val, 0] S16x256.size (inbXs c)).toLoadRect (View.loadsAt_vmem h_S16x256))
  Prog.lift (.store arg7 (Rect.unit (s := S512x256) ![16 * c.val, 0] S16x256.size (inbXs c)) (shapeCast S16x256 (shapeCast S16x256 v shapeCasts_S16x256_S16x256) shapeCasts_S16x256_S16x256) Finset.univ (View.stores_vmem h_S16x256 (harg7.storeExact_slice rfl _ (packedXs c)) (fun _ => rfl)) (.inl rfl))

/-- One slice of the spread activations stored: rows `16 m …`, columns `512 c …`. -/
def putX (arg8 : Memref sig .tc .vmem S32x16384 .bf16) (harg8 : arg8.IsWhole) (m : Fin 2) (o : FVec F S512x512 .bf16) (c : Fin 32) : Prog (TpuEff nD τ sig (Elt F) Λ₀ .tc) PUnit := do
  let _w : Vec F S16x512 .bf16 ← Prog.lift (.load arg8 (Rect.unit (s := S32x16384) ![16 * m.val, 512 * c.val] S16x512.size (inbXp m c)).toLoadRect (View.loadsAt_vmem h_S16x512))
  Prog.lift (.store arg8 (Rect.unit (s := S32x16384) ![16 * m.val, 512 * c.val] S16x512.size (inbXp m c)) (shapeCast S16x512 (extractStridedSlice S16x512 ![16 * c.val, 0] o (slicesXp c)) shapeCasts_S16x512_S16x512) Finset.univ (View.stores_vmem h_S16x512 (harg8.storeExact_slice rfl _ (packedXp m c)) (fun _ => rfl)) (.inl rfl))

/-- The column's expected number as the kernel computes it from the row: `4 (16 (p / 32) + p % 16) + 2 m + (p / 16) % 2`,
    `k` the word `2 m`. -/
def target (k : BitVec 32) : IVec S256x512 32 :=
  have v5778 : IVec S256x512 32 := iota .tc S256x512 32 [0] iota_S256x512_d0_w32
  have v5779 : IVec S256x512 32 := iota .tc S256x512 32 [1] iota_S256x512_d1_w32
  let c32_i32 : BitVec 32 := 32#32
  have v5780 : IVec S256x512 32 := broadcast S256x512 c32_i32
  have v5781 : IVec S256x512 32 := divsi v5778 v5780
  let c0_i32_963 : BitVec 32 := 0#32
  have v5782 : IVec S256x512 32 := broadcast S256x512 c0_i32_963
  have v5783 : IVec S256x512 1 := cmpi .sgt v5778 v5782
  have v5784 : IVec S256x512 32 := extui 32 v5783 natLt_1_32
  let c0_i32_964 : BitVec 32 := 0#32
  have v5785 : IVec S256x512 32 := broadcast S256x512 c0_i32_964
  have v5786 : IVec S256x512 1 := cmpi .slt v5778 v5785
  have v5787 : IVec S256x512 32 := extui 32 v5786 natLt_1_32
  have v5788 : IVec S256x512 32 := subi v5784 v5787
  let c0_i32_965 : BitVec 32 := 0#32
  let v5789 : BitVec 1 := Scalar.cmpi .sgt c32_i32 c0_i32_965
  let v5790 : BitVec 32 := Scalar.extui v5789
  let c0_i32_966 : BitVec 32 := 0#32
  let v5791 : BitVec 1 := Scalar.cmpi .slt c32_i32 c0_i32_966
  let v5792 : BitVec 32 := Scalar.extui v5791
  let v5793 : BitVec 32 := Scalar.subi v5790 v5792
  have v5794 : IVec S256x512 32 := broadcast S256x512 v5793
  have v5795 : IVec S256x512 1 := cmpi .ne v5788 v5794
  have v5796 : IVec S256x512 32 := broadcast S256x512 c32_i32
  have v5797 : IVec S256x512 32 := remsi v5778 v5796
  let c0_i32_967 : BitVec 32 := 0#32
  have v5798 : IVec S256x512 32 := broadcast S256x512 c0_i32_967
  have v5799 : IVec S256x512 1 := cmpi .ne v5797 v5798
  have v5800 : IVec S256x512 1 := andi v5795 v5799
  let c1_i32_968 : BitVec 32 := 1#32
  have v5801 : IVec S256x512 32 := broadcast S256x512 c1_i32_968
  have v5802 : IVec S256x512 32 := subi v5781 v5801
  have v5803 : IVec S256x512 32 := select v5800 v5802 v5781
  let c16_i32_969 : BitVec 32 := 16#32
  have v5804 : IVec S256x512 32 := broadcast S256x512 c16_i32_969
  have v5805 : IVec S256x512 32 := divsi v5778 v5804
  let c0_i32_970 : BitVec 32 := 0#32
  have v5806 : IVec S256x512 32 := broadcast S256x512 c0_i32_970
  have v5807 : IVec S256x512 1 := cmpi .sgt v5778 v5806
  have v5808 : IVec S256x512 32 := extui 32 v5807 natLt_1_32
  let c0_i32_971 : BitVec 32 := 0#32
  have v5809 : IVec S256x512 32 := broadcast S256x512 c0_i32_971
  have v5810 : IVec S256x512 1 := cmpi .slt v5778 v5809
  have v5811 : IVec S256x512 32 := extui 32 v5810 natLt_1_32
  have v5812 : IVec S256x512 32 := subi v5808 v5811
  let c0_i32_972 : BitVec 32 := 0#32
  let v5813 : BitVec 1 := Scalar.cmpi .sgt c16_i32_969 c0_i32_972
  let v5814 : BitVec 32 := Scalar.extui v5813
  let c0_i32_973 : BitVec 32 := 0#32
  let v5815 : BitVec 1 := Scalar.cmpi .slt c16_i32_969 c0_i32_973
  let v5816 : BitVec 32 := Scalar.extui v5815
  let v5817 : BitVec 32 := Scalar.subi v5814 v5816
  have v5818 : IVec S256x512 32 := broadcast S256x512 v5817
  have v5819 : IVec S256x512 1 := cmpi .ne v5812 v5818
  have v5820 : IVec S256x512 32 := broadcast S256x512 c16_i32_969
  have v5821 : IVec S256x512 32 := remsi v5778 v5820
  let c0_i32_974 : BitVec 32 := 0#32
  have v5822 : IVec S256x512 32 := broadcast S256x512 c0_i32_974
  have v5823 : IVec S256x512 1 := cmpi .ne v5821 v5822
  have v5824 : IVec S256x512 1 := andi v5819 v5823
  let c1_i32_975 : BitVec 32 := 1#32
  have v5825 : IVec S256x512 32 := broadcast S256x512 c1_i32_975
  have v5826 : IVec S256x512 32 := subi v5805 v5825
  have v5827 : IVec S256x512 32 := select v5824 v5826 v5805
  let c2_i32_976 : BitVec 32 := 2#32
  let c0_i32_977 : BitVec 32 := 0#32
  let v5828 : BitVec 1 := Scalar.cmpi .eq c2_i32_976 c0_i32_977
  let c1_i32_978 : BitVec 32 := 1#32
  let v5829 : BitVec 32 := Scalar.select v5828 c1_i32_978 c2_i32_976
  have v5830 : IVec S256x512 32 := broadcast S256x512 v5829
  have v5831 : IVec S256x512 32 := remsi v5827 v5830
  let c0_i32_979 : BitVec 32 := 0#32
  have v5832 : IVec S256x512 32 := broadcast S256x512 c0_i32_979
  have v5833 : IVec S256x512 1 := cmpi .ne v5831 v5832
  let c0_i32_980 : BitVec 32 := 0#32
  have v5834 : IVec S256x512 32 := broadcast S256x512 c0_i32_980
  have v5835 : IVec S256x512 1 := cmpi .slt v5831 v5834
  let c0_i32_981 : BitVec 32 := 0#32
  let v5836 : BitVec 1 := Scalar.cmpi .slt v5829 c0_i32_981
  have v5837 : IVec S256x512 1 := broadcast S256x512 v5836
  have v5838 : IVec S256x512 1 := broadcastTo S256x512 v5837 broadcasts_S256x512_S256x512
  have v5839 : IVec S256x512 1 := xori v5835 v5838
  have v5840 : IVec S256x512 1 := andi v5839 v5833
  have v5841 : IVec S256x512 32 := broadcast S256x512 v5829
  have v5842 : IVec S256x512 32 := addi v5831 v5841
  have v5843 : IVec S256x512 32 := select v5840 v5842 v5831
  let c16_i32_982 : BitVec 32 := 16#32
  let c0_i32_983 : BitVec 32 := 0#32
  let v5844 : BitVec 1 := Scalar.cmpi .eq c16_i32_982 c0_i32_983
  let c1_i32_984 : BitVec 32 := 1#32
  let v5845 : BitVec 32 := Scalar.select v5844 c1_i32_984 c16_i32_982
  have v5846 : IVec S256x512 32 := broadcast S256x512 v5845
  have v5847 : IVec S256x512 32 := remsi v5778 v5846
  let c0_i32_985 : BitVec 32 := 0#32
  have v5848 : IVec S256x512 32 := broadcast S256x512 c0_i32_985
  have v5849 : IVec S256x512 1 := cmpi .ne v5847 v5848
  let c0_i32_986 : BitVec 32 := 0#32
  have v5850 : IVec S256x512 32 := broadcast S256x512 c0_i32_986
  have v5851 : IVec S256x512 1 := cmpi .slt v5847 v5850
  let c0_i32_987 : BitVec 32 := 0#32
  let v5852 : BitVec 1 := Scalar.cmpi .slt v5845 c0_i32_987
  have v5853 : IVec S256x512 1 := broadcast S256x512 v5852
  have v5854 : IVec S256x512 1 := broadcastTo S256x512 v5853 broadcasts_S256x512_S256x512
  have v5855 : IVec S256x512 1 := xori v5851 v5854
  have v5856 : IVec S256x512 1 := andi v5855 v5849
  have v5857 : IVec S256x512 32 := broadcast S256x512 v5845
  have v5858 : IVec S256x512 32 := addi v5847 v5857
  have v5859 : IVec S256x512 32 := select v5856 v5858 v5847
  let c16_i32_988 : BitVec 32 := 16#32
  have v5860 : IVec S256x512 32 := broadcast S256x512 c16_i32_988
  have v5861 : IVec S256x512 32 := muli v5803 v5860
  have v5862 : IVec S256x512 32 := addi v5861 v5859
  let c4_i32_989 : BitVec 32 := 4#32
  have v5863 : IVec S256x512 32 := broadcast S256x512 c4_i32_989
  have v5864 : IVec S256x512 32 := muli v5863 v5862
  have v5865 : IVec S256x512 32 := broadcast S256x512 k
  have v5866 : IVec S256x512 32 := addi v5864 v5865
  have v5867 : IVec S256x512 32 := addi v5866 v5843
  v5867

/-- The one-hot selector at `k`. -/
def selector (k : BitVec 32) : FVec F S256x512 .bf16 :=
  truncf .bf16 (sitofp .f32 (extui 32 (cmpi .eq (iota .tc S256x512 32 [1] iota_S256x512_d1_w32) (target k)) natLt_1_32)) bitsLt_bf16_f32

/-- The activations through a selector. -/
def spread (k : BitVec 32) (x : Vec F S512x256 .bf16) : FVec F S512x512 .bf16 :=
  truncf .bf16 (matmul dot_S512x256_S256x512_S512x512_1_0_0_1_n_n none x (selector k) (constant S512x512 .f32 0x00000000#32)) bitsLt_bf16_f32

/-- The first step's own work. -/
def first (arg1 : Memref sig .tc .vmem S16x8192 .bf16) (harg1 : arg1.IsWhole) (arg7 : Memref sig .tc .vmem S512x256 .bf16) (harg7 : arg7.IsWhole) (arg8 : Memref sig .tc .vmem S32x16384 .bf16) (harg8 : arg8.IsWhole) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) : Prog (TpuEff nD τ sig (Elt F) Λ₀ .tc) PUnit := do
  each (copyX arg1 harg1 arg7 harg7) 32
  let x0 : Vec F S512x256 .bf16 ← Prog.lift (.load arg7 (Rect.unit (s := S512x256) ![0, 0] S512x256.size inb_S512x256_S512x256_0_0).toLoadRect (View.loadsAt_vmem h_S512x256))
  each (putX arg8 harg8 0 (spread 0#32 x0)) 32
  let x1 : Vec F S512x256 .bf16 ← Prog.lift (.load arg7 (Rect.unit (s := S512x256) ![0, 0] S512x256.size inb_S512x256_S512x256_0_0).toLoadRect (View.loadsAt_vmem h_S512x256))
  each (putX arg8 harg8 1 (spread 2#32 x1)) 32
  let _a : Vec F S32x256 .f32 ← Prog.lift (.load arg11 (Rect.unit (s := S32x256) ![0, 0] S32x256.size inb_S32x256_S32x256_0_0).toLoadRect (View.loadsAt_vmem h_S32x256))
  Prog.lift (.store arg11 (Rect.unit (s := S32x256) ![0, 0] S32x256.size inb_S32x256_S32x256_0_0) (shapeCast S32x256 (broadcast S32x256 (Scalar.ofBits .f32 0xFF800000#32 : F .f32)) shapeCasts_S32x256_S32x256) Finset.univ (View.stores_vmem_bits_univ h_S32x256 rfl) (.inl rfl))
  let _b : Vec F S32x256 .f32 ← Prog.lift (.load arg12 (Rect.unit (s := S32x256) ![0, 0] S32x256.size inb_S32x256_S32x256_0_0).toLoadRect (View.loadsAt_vmem h_S32x256))
  Prog.lift (.store arg12 (Rect.unit (s := S32x256) ![0, 0] S32x256.size inb_S32x256_S32x256_0_0) (shapeCast S32x256 (broadcast S32x256 (Scalar.ofBits .f32 0xFF800000#32 : F .f32)) shapeCasts_S32x256_S32x256) Finset.univ (View.stores_vmem_bits_univ h_S32x256 rfl) (.inl rfl))
  let _c : Vec F S32x256 .i32 ← Prog.lift (.load arg13 (Rect.unit (s := S32x256) ![0, 0] S32x256.size inb_S32x256_S32x256_0_0).toLoadRect (View.loadsAt_vmem h_S32x256))
  Prog.lift (.store arg13 (Rect.unit (s := S32x256) ![0, 0] S32x256.size inb_S32x256_S32x256_0_0) (shapeCast S32x256 (broadcast S32x256 0#32) shapeCasts_S32x256_S32x256) Finset.univ (View.stores_vmem_bits_univ h_S32x256 rfl) (.inl rfl))

/-! ## Every step: the scales transposed -/

/-- The scales of the rows of parity `p`, transposed, each doubled into a word's two halves. -/
def scaleWords (p : Fin 2) (v3 : Vec F S512x256 .bf16) : Vec F S256x2x256 .bf16 :=
  interleaveRows S256x2x256
    (shapeCast S256x1x256 (transpose S256x256 [1, 0] (rowsOfParity p S256x256 v3 bitcasts_S512x256_w16_S256x256_w32) transposes_S256x256_p1_0_S256x256) shapeCasts_S256x256_S256x1x256)
    (shapeCast S256x1x256 (transpose S256x256 [1, 0] (rowsOfParity p S256x256 v3 bitcasts_S512x256_w16_S256x256_w32) transposes_S256x256_p1_0_S256x256) shapeCasts_S256x256_S256x1x256)
    bitcasts_S256x2x256_w16_S256x1x256_w32

/-- Both parities' scales stored. -/
def scales (arg3 : Memref sig .tc .vmem S512x256 .bf16) (harg3 : arg3.IsWhole) (arg9 : Memref sig .tc .vmem S256x2x256 .bf16) (harg9 : arg9.IsWhole) (arg10 : Memref sig .tc .vmem S256x2x256 .bf16) (harg10 : arg10.IsWhole) : Prog (TpuEff nD τ sig (Elt F) Λ₀ .tc) PUnit := do
  let v3 : Vec F S512x256 .bf16 ← Prog.lift (.load arg3 (Rect.unit (s := S512x256) ![0, 0] S512x256.size inb_S512x256_S512x256_0_0).toLoadRect (View.loadsAt_vmem h_S512x256))
  let _a : Vec F S256x2x256 .bf16 ← Prog.lift (.load arg9 (Rect.unit (s := S256x2x256) ![0, 0, 0] S256x2x256.size inb_S256x2x256_S256x2x256_0_0_0).toLoadRect (View.loadsAt_vmem h_S256x2x256))
  Prog.lift (.store arg9 (Rect.unit (s := S256x2x256) ![0, 0, 0] S256x2x256.size inb_S256x2x256_S256x2x256_0_0_0) (scaleWords 0 v3) Finset.univ (View.stores_vmem h_S256x2x256 ((harg9.pairWhole rank2_S256x2x256).storeExact_slice rfl _ (Rect.wholeRows_unit rank2_S256x2x256 rfl rfl) pairs_S256x2x256_bf16) (fun _ => rfl)) (.inl rfl))
  let _b : Vec F S256x2x256 .bf16 ← Prog.lift (.load arg10 (Rect.unit (s := S256x2x256) ![0, 0, 0] S256x2x256.size inb_S256x2x256_S256x2x256_0_0_0).toLoadRect (View.loadsAt_vmem h_S256x2x256))
  Prog.lift (.store arg10 (Rect.unit (s := S256x2x256) ![0, 0, 0] S256x2x256.size inb_S256x2x256_S256x2x256_0_0_0) (scaleWords 1 v3) Finset.univ (View.stores_vmem h_S256x2x256 ((harg10.pairWhole rank2_S256x2x256).storeExact_slice rfl _ (Rect.wholeRows_unit rank2_S256x2x256 rfl rfl) pairs_S256x2x256_bf16) (fun _ => rfl)) (.inl rfl))

/-- Which rows of eight are even, as the kernel computes it. -/
def evenRows : IVec S8x256 1 :=
  have v36 : IVec S8x256 32 := iota .tc S8x256 32 [0] iota_S8x256_d0_w32
  let c2_i32 : BitVec 32 := 2#32
  let c0_i32_9 : BitVec 32 := 0#32
  let v37 : BitVec 1 := Scalar.cmpi .eq c2_i32 c0_i32_9
  let c1_i32 : BitVec 32 := 1#32
  let v38 : BitVec 32 := Scalar.select v37 c1_i32 c2_i32
  have v39 : IVec S8x256 32 := broadcast S8x256 v38
  have v40 : IVec S8x256 32 := remsi v36 v39
  let c0_i32_10 : BitVec 32 := 0#32
  have v41 : IVec S8x256 32 := broadcast S8x256 c0_i32_10
  have v42 : IVec S8x256 1 := cmpi .ne v40 v41
  let c0_i32_11 : BitVec 32 := 0#32
  have v43 : IVec S8x256 32 := broadcast S8x256 c0_i32_11
  have v44 : IVec S8x256 1 := cmpi .slt v40 v43
  let c0_i32_12 : BitVec 32 := 0#32
  let v45 : BitVec 1 := Scalar.cmpi .slt v38 c0_i32_12
  have v46 : IVec S8x256 1 := broadcast S8x256 v45
  have v47 : IVec S8x256 1 := broadcastTo S8x256 v46 broadcasts_S8x256_S8x256
  have v48 : IVec S8x256 1 := xori v44 v47
  have v49 : IVec S8x256 1 := andi v48 v42
  have v50 : IVec S8x256 32 := broadcast S8x256 v38
  have v51 : IVec S8x256 32 := addi v40 v50
  have v52 : IVec S8x256 32 := select v49 v51 v40
  let c0_i32_13 : BitVec 32 := 0#32
  have v53 : IVec S8x256 32 := broadcast S8x256 c0_i32_13
  have v54 : IVec S8x256 1 := cmpi .eq v52 v53
  v54

/-! ## Every step: one chunk -/

/-- The nibble `28 - k` bits below the top of every word, sign-extended. -/
def nib (v63 : IVec S64x256 32) (k : BitVec 32) : IVec S64x1x256 32 :=
  shapeCast S64x1x256 (shrsi (shli v63 (broadcast S64x256 k)) (broadcast S64x256 28#32)) shapeCasts_S64x256_S64x1x256

/-- The chunk's words: transposed, each nibble's top bit flipped. -/
def words (v57 : Vec F S512x128 .i8) : IVec S64x256 32 :=
  xori (bitcast S64x256 32 (transpose S128x256 [1, 0] (bitcast S256x128 16 (bitcast S128x128 32 v57 bitcasts_S512x128_w8_S128x128_w32) bitcasts_S128x128_w32_S256x128_w16) transposes_S256x128_p1_0_S128x256) bitcasts_S128x256_w16_S64x256_w32) (broadcast S64x256 2290649224#32)

/-- The chunk's 512 × 256 signed nibbles, as floats. -/
def quant (v57 : Vec F S512x128 .i8) : FVec F S512x256 .bf16 :=
  have v63 : IVec S64x256 32 := words v57
  have v104 : IVec S64x8x256 32 := concatenate S64x8x256 1 [⟨S64x1x256, nib v63 28#32⟩, ⟨S64x1x256, nib v63 24#32⟩, ⟨S64x1x256, nib v63 20#32⟩, ⟨S64x1x256, nib v63 16#32⟩, ⟨S64x1x256, nib v63 12#32⟩, ⟨S64x1x256, nib v63 8#32⟩, ⟨S64x1x256, nib v63 4#32⟩, ⟨S64x1x256, nib v63 0#32⟩] concatenates_S64x1x256_S64x1x256_S64x1x256_S64x1x256_S64x1x256_S64x1x256_S64x1x256_S64x1x256_S64x8x256_d1
  sitofp .bf16 (shapeCast S512x256 v104 shapeCasts_S64x8x256_S512x256)

/-- Row `g` of eight, eight times. -/
def rows8 (g : Fin 8) (v : FVec F S8x256 .bf16) : FVec F S8x256 .bf16 :=
  have r : FVec F S1x256 .bf16 := extractStridedSlice S1x256 ![g.val, 0] v (slicesS g)
  concatenate S8x256 0 [⟨S1x256, r⟩, ⟨S1x256, r⟩, ⟨S1x256, r⟩, ⟨S1x256, r⟩, ⟨S1x256, r⟩, ⟨S1x256, r⟩, ⟨S1x256, r⟩, ⟨S1x256, r⟩] concatenates_S1x256_S1x256_S1x256_S1x256_S1x256_S1x256_S1x256_S1x256_S8x256_d0

/-- Half `p` of a chunk's scale words. -/
def half (p : Fin 2) (v : Vec F S8x2x256 .bf16) : FVec F S8x256 .bf16 :=
  shapeCast S8x256 (rowsOfParity p S8x1x256 v bitcasts_S8x2x256_w16_S8x1x256_w32) shapeCasts_S8x1x256_S8x256

/-- Group `g`'s scales on sixteen rows. -/
def scale16 (g : Fin 8) (lo hi : Vec F S8x2x256 .bf16) : FVec F S16x256 .bf16 :=
  interleaveRows S16x256 (select evenRows (rows8 g (half 0 lo)) (rows8 g (half 0 hi)))
    (select evenRows (rows8 g (half 1 lo)) (rows8 g (half 1 hi))) bitcasts_S16x256_w16_S8x256_w32

/-- Sixteen rows of the chunk's weights. -/
def piece (q : FVec F S512x256 .bf16) (lo hi : Vec F S8x2x256 .bf16) (g : Fin 8) (k : Fin 4) : FVec F S16x256 .bf16 :=
  mulf (extractStridedSlice S16x256 ![64 * g.val + 16 * k.val, 0] q (slicesQ g k)) (scale16 g lo hi)

/-- Half `t` of the chunk's weights: the groups `4 t …`. -/
def weights (t : Fin 2) (q : FVec F S512x256 .bf16) (lo hi : Vec F S8x2x256 .bf16) : FVec F S256x256 .bf16 :=
  concatenate S256x256 0 [⟨S16x256, piece q lo hi ⟨4 * t.val + 0, by omega⟩ 0⟩, ⟨S16x256, piece q lo hi ⟨4 * t.val + 0, by omega⟩ 1⟩, ⟨S16x256, piece q lo hi ⟨4 * t.val + 0, by omega⟩ 2⟩, ⟨S16x256, piece q lo hi ⟨4 * t.val + 0, by omega⟩ 3⟩, ⟨S16x256, piece q lo hi ⟨4 * t.val + 1, by omega⟩ 0⟩, ⟨S16x256, piece q lo hi ⟨4 * t.val + 1, by omega⟩ 1⟩, ⟨S16x256, piece q lo hi ⟨4 * t.val + 1, by omega⟩ 2⟩, ⟨S16x256, piece q lo hi ⟨4 * t.val + 1, by omega⟩ 3⟩, ⟨S16x256, piece q lo hi ⟨4 * t.val + 2, by omega⟩ 0⟩, ⟨S16x256, piece q lo hi ⟨4 * t.val + 2, by omega⟩ 1⟩, ⟨S16x256, piece q lo hi ⟨4 * t.val + 2, by omega⟩ 2⟩, ⟨S16x256, piece q lo hi ⟨4 * t.val + 2, by omega⟩ 3⟩, ⟨S16x256, piece q lo hi ⟨4 * t.val + 3, by omega⟩ 0⟩, ⟨S16x256, piece q lo hi ⟨4 * t.val + 3, by omega⟩ 1⟩, ⟨S16x256, piece q lo hi ⟨4 * t.val + 3, by omega⟩ 2⟩, ⟨S16x256, piece q lo hi ⟨4 * t.val + 3, by omega⟩ 3⟩] concatenates_S16x256_S16x256_S16x256_S16x256_S16x256_S16x256_S16x256_S16x256_S16x256_S16x256_S16x256_S16x256_S16x256_S16x256_S16x256_S16x256_S256x256_d0

/-- One product added to an accumulator. -/
def addDot (a : FVec F S32x256 .f32) (x : Vec F S32x256 .bf16) (w : FVec F S256x256 .bf16) : FVec F S32x256 .f32 :=
  addf a (matmul dot_S32x256_S256x256_S32x256_1_0_0_1_n_n none x w (constant S32x256 .f32 0x00000000#32))

/-- One chunk: its weights, and its two products added to the accumulators. -/
def chunk (arg2 : Memref sig .tc .vmem S512x4096 .i8) (harg2 : arg2.IsWhole) (arg8 : Memref sig .tc .vmem S32x16384 .bf16) (harg8 : arg8.IsWhole) (arg9 : Memref sig .tc .vmem S256x2x256 .bf16) (harg9 : arg9.IsWhole) (arg10 : Memref sig .tc .vmem S256x2x256 .bf16) (harg10 : arg10.IsWhole) (c : Fin 32) (a b : FVec F S32x256 .f32) : Prog (TpuEff nD τ sig (Elt F) Λ₀ .tc) (FVec F S32x256 .f32 × FVec F S32x256 .f32) := do
  let w : Vec F S512x128 .i8 ← Prog.lift (.load arg2 (Rect.unit (s := S512x4096) ![0, 128 * c.val] S512x128.size (inbW c)).toLoadRect (View.loadsAt_vmem h_S512x128))
  let lo : Vec F S8x2x256 .bf16 ← Prog.lift (.load arg9 (Rect.unit (s := S256x2x256) ![8 * c.val, 0, 0] S8x2x256.size (inbSc c)).toLoadRect (View.loadsAt_vmem h_S8x2x256))
  let hi : Vec F S8x2x256 .bf16 ← Prog.lift (.load arg10 (Rect.unit (s := S256x2x256) ![8 * c.val, 0, 0] S8x2x256.size (inbSc c)).toLoadRect (View.loadsAt_vmem h_S8x2x256))
  let x0 : Vec F S32x256 .bf16 ← Prog.lift (.load arg8 (Rect.unit (s := S32x16384) ![0, 512 * c.val + 256 * (0 : Fin 2).val] S32x256.size (inbXc c 0)).toLoadRect (View.loadsAt_vmem h_S32x256))
  let x1 : Vec F S32x256 .bf16 ← Prog.lift (.load arg8 (Rect.unit (s := S32x16384) ![0, 512 * c.val + 256 * (1 : Fin 2).val] S32x256.size (inbXc c 1)).toLoadRect (View.loadsAt_vmem h_S32x256))
  pure (addDot a x0 (weights 0 (quant w) lo hi), addDot b x1 (weights 1 (quant w) lo hi))

/-! ## Every step: the running two largest -/

/-- The vocabulary row of each lane of step `arg0`, as the kernel computes it. -/
def ids (arg0 : BitVec 32) : IVec S32x256 32 :=
  have v5562 : IVec S32x256 32 := iota .tc S32x256 32 [0] iota_S32x256_d0_w32
  let c16_i32_827 : BitVec 32 := 16#32
  have v5563 : IVec S32x256 32 := broadcast S32x256 c16_i32_827
  have v5564 : IVec S32x256 32 := divsi v5562 v5563
  let c0_i32_828 : BitVec 32 := 0#32
  have v5565 : IVec S32x256 32 := broadcast S32x256 c0_i32_828
  have v5566 : IVec S32x256 1 := cmpi .sgt v5562 v5565
  have v5567 : IVec S32x256 32 := extui 32 v5566 natLt_1_32
  let c0_i32_829 : BitVec 32 := 0#32
  have v5568 : IVec S32x256 32 := broadcast S32x256 c0_i32_829
  have v5569 : IVec S32x256 1 := cmpi .slt v5562 v5568
  have v5570 : IVec S32x256 32 := extui 32 v5569 natLt_1_32
  have v5571 : IVec S32x256 32 := subi v5567 v5570
  let c0_i32_830 : BitVec 32 := 0#32
  let v5572 : BitVec 1 := Scalar.cmpi .sgt c16_i32_827 c0_i32_830
  let v5573 : BitVec 32 := Scalar.extui v5572
  let c0_i32_831 : BitVec 32 := 0#32
  let v5574 : BitVec 1 := Scalar.cmpi .slt c16_i32_827 c0_i32_831
  let v5575 : BitVec 32 := Scalar.extui v5574
  let v5576 : BitVec 32 := Scalar.subi v5573 v5575
  have v5577 : IVec S32x256 32 := broadcast S32x256 v5576
  have v5578 : IVec S32x256 1 := cmpi .ne v5571 v5577
  have v5579 : IVec S32x256 32 := broadcast S32x256 c16_i32_827
  have v5580 : IVec S32x256 32 := remsi v5562 v5579
  let c0_i32_832 : BitVec 32 := 0#32
  have v5581 : IVec S32x256 32 := broadcast S32x256 c0_i32_832
  have v5582 : IVec S32x256 1 := cmpi .ne v5580 v5581
  have v5583 : IVec S32x256 1 := andi v5578 v5582
  let c1_i32_833 : BitVec 32 := 1#32
  have v5584 : IVec S32x256 32 := broadcast S32x256 c1_i32_833
  have v5585 : IVec S32x256 32 := subi v5564 v5584
  have v5586 : IVec S32x256 32 := select v5583 v5585 v5564
  have v5587 : IVec S32x256 32 := iota .tc S32x256 32 [1] iota_S32x256_d1_w32
  let c512_i32 : BitVec 32 := 512#32
  let v5588 : BitVec 32 := Scalar.muli arg0 c512_i32
  let c2_i32_834 : BitVec 32 := 2#32
  have v5589 : IVec S32x256 32 := broadcast S32x256 c2_i32_834
  have v5590 : IVec S32x256 32 := muli v5589 v5587
  have v5591 : IVec S32x256 32 := broadcast S32x256 v5588
  have v5592 : IVec S32x256 32 := addi v5591 v5590
  have v5593 : IVec S32x256 32 := addi v5592 v5586
  v5593

/-- The step's logits, the lanes past the vocabulary at minus infinity. -/
def masked (arg0 : BitVec 32) (l : FVec F S32x256 .f32) : FVec F S32x256 .f32 :=
  select (cmpi .slt (ids arg0) (broadcast S32x256 32000#32)) l (broadcast S32x256 (Scalar.ofBits .f32 0xFF800000#32 : F .f32))

/-- The running maximum, the runner-up and the maximum's row, brought up to date. -/
def update (arg0 : BitVec 32) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) (l : FVec F S32x256 .f32) : Prog (TpuEff nD τ sig (Elt F) Λ₀ .tc) PUnit := do
  let m1 : Vec F S32x256 .f32 ← Prog.lift (.load arg11 (Rect.unit (s := S32x256) ![0, 0] S32x256.size inb_S32x256_S32x256_0_0).toLoadRect (View.loadsAt_vmem h_S32x256))
  let m2 : Vec F S32x256 .f32 ← Prog.lift (.load arg12 (Rect.unit (s := S32x256) ![0, 0] S32x256.size inb_S32x256_S32x256_0_0).toLoadRect (View.loadsAt_vmem h_S32x256))
  let _a : Vec F S32x256 .f32 ← Prog.lift (.load arg12 (Rect.unit (s := S32x256) ![0, 0] S32x256.size inb_S32x256_S32x256_0_0).toLoadRect (View.loadsAt_vmem h_S32x256))
  Prog.lift (.store arg12 (Rect.unit (s := S32x256) ![0, 0] S32x256.size inb_S32x256_S32x256_0_0) (shapeCast S32x256 (maximumf m2 (select (cmpf .ogt l m1) m1 l)) shapeCasts_S32x256_S32x256) Finset.univ (View.stores_vmem_bits_univ h_S32x256 rfl) (.inl rfl))
  let _b : Vec F S32x256 .f32 ← Prog.lift (.load arg11 (Rect.unit (s := S32x256) ![0, 0] S32x256.size inb_S32x256_S32x256_0_0).toLoadRect (View.loadsAt_vmem h_S32x256))
  Prog.lift (.store arg11 (Rect.unit (s := S32x256) ![0, 0] S32x256.size inb_S32x256_S32x256_0_0) (shapeCast S32x256 (select (cmpf .ogt l m1) l m1) shapeCasts_S32x256_S32x256) Finset.univ (View.stores_vmem_bits_univ h_S32x256 rfl) (.inl rfl))
  let d : Vec F S32x256 .i32 ← Prog.lift (.load arg13 (Rect.unit (s := S32x256) ![0, 0] S32x256.size inb_S32x256_S32x256_0_0).toLoadRect (View.loadsAt_vmem h_S32x256))
  let _c : Vec F S32x256 .i32 ← Prog.lift (.load arg13 (Rect.unit (s := S32x256) ![0, 0] S32x256.size inb_S32x256_S32x256_0_0).toLoadRect (View.loadsAt_vmem h_S32x256))
  Prog.lift (.store arg13 (Rect.unit (s := S32x256) ![0, 0] S32x256.size inb_S32x256_S32x256_0_0) (shapeCast S32x256 (select (cmpf .ogt l m1) (ids arg0) d) shapeCasts_S32x256_S32x256) Finset.univ (View.stores_vmem_bits_univ h_S32x256 rfl) (.inl rfl))

/-! ## The last step: the results -/

/-- The two halves of the rows side by side. -/
def fold {α : Type} (v : S32x256.Idx → α) : S16x512.Idx → α :=
  concatenate S16x512 1 [⟨S16x256, extractStridedSlice S16x256 ![0, 0] v slices_S32x256_o0_0_S16x256⟩, ⟨S16x256, extractStridedSlice S16x256 ![16, 0] v slices_S32x256_o16_0_S16x256⟩] concatenates_S16x256_S16x256_S16x512_d1

/-- The largest of each row. -/
def topOf (v5621 : FVec F S16x512 .f32) : FVec F S16x1 .f32 :=
  shapeCast S16x1 (multiReduction .maximumf [1] S16 v5621 0xFF800000#32 reduces_S16x512_S16 (.inl rfl) rfl) shapeCasts_S16_S16x1

/-- The least vocabulary row among the largest lanes. -/
def tokOf (v5621 : FVec F S16x512 .f32) (v5629 : IVec S16x512 32) : IVec S16x1 32 :=
  shapeCast S16x1 (multiReductionI .minsi [1] S16 (select (cmpf .oeq v5621 (broadcastTo S16x512 (topOf v5621) broadcasts_S16x1_S16x512)) v5629 (broadcast S16x512 32000#32)) 2147483647#32 reduces_S16x512_S16 rfl) shapeCasts_S16_S16x1

/-- The largest of the rest. -/
def secondOf (v5621 v5625 : FVec F S16x512 .f32) (v5629 : IVec S16x512 32) : FVec F S16x1 .f32 :=
  topOf (select (cmpi .eq v5629 (broadcastTo S16x512 (tokOf v5621 v5629) broadcasts_S16x1_S16x512)) v5625 v5621)

/-- The last step's own work. -/
def last (arg4 : Memref sig .tc .vmem S16x1 .i32) (harg4 : arg4.IsWhole) (arg5 : Memref sig .tc .vmem S16x1 .f32) (harg5 : arg5.IsWhole) (arg6 : Memref sig .tc .vmem S16x1 .f32) (harg6 : arg6.IsWhole) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) : Prog (TpuEff nD τ sig (Elt F) Λ₀ .tc) PUnit := do
  let m1 : Vec F S32x256 .f32 ← Prog.lift (.load arg11 (Rect.unit (s := S32x256) ![0, 0] S32x256.size inb_S32x256_S32x256_0_0).toLoadRect (View.loadsAt_vmem h_S32x256))
  let m2 : Vec F S32x256 .f32 ← Prog.lift (.load arg12 (Rect.unit (s := S32x256) ![0, 0] S32x256.size inb_S32x256_S32x256_0_0).toLoadRect (View.loadsAt_vmem h_S32x256))
  let d : Vec F S32x256 .i32 ← Prog.lift (.load arg13 (Rect.unit (s := S32x256) ![0, 0] S32x256.size inb_S32x256_S32x256_0_0).toLoadRect (View.loadsAt_vmem h_S32x256))
  let _a : Vec F S16x1 .i32 ← Prog.lift (.load arg4 (Rect.unit (s := S16x1) ![0, 0] S16x1.size inb_S16x1_S16x1_0_0).toLoadRect (View.loadsAt_vmem h_S16x1))
  Prog.lift (.store arg4 (Rect.unit (s := S16x1) ![0, 0] S16x1.size inb_S16x1_S16x1_0_0) (tokOf (fold m1) (fold d)) Finset.univ (View.stores_vmem_bits_univ h_S16x1 rfl) (.inl rfl))
  let _b : Vec F S16x1 .f32 ← Prog.lift (.load arg6 (Rect.unit (s := S16x1) ![0, 0] S16x1.size inb_S16x1_S16x1_0_0).toLoadRect (View.loadsAt_vmem h_S16x1))
  Prog.lift (.store arg6 (Rect.unit (s := S16x1) ![0, 0] S16x1.size inb_S16x1_S16x1_0_0) (topOf (fold m1)) Finset.univ (View.stores_vmem_bits_univ h_S16x1 rfl) (.inl rfl))
  let _c : Vec F S16x1 .f32 ← Prog.lift (.load arg5 (Rect.unit (s := S16x1) ![0, 0] S16x1.size inb_S16x1_S16x1_0_0).toLoadRect (View.loadsAt_vmem h_S16x1))
  Prog.lift (.store arg5 (Rect.unit (s := S16x1) ![0, 0] S16x1.size inb_S16x1_S16x1_0_0) (subf (topOf (fold m1)) (secondOf (fold m1) (fold m2) (fold d))) Finset.univ (View.stores_vmem_bits_univ h_S16x1 rfl) (.inl rfl))

/-! ## The body -/

/-- The condition of the first step. -/
def isFirst (i : grid0.Coords) : BitVec 1 :=
  Scalar.cmpi .ne (Scalar.extui (Scalar.cmpi .eq (BitVec.ofNat 32 (i 0).val) 0#32) : BitVec 32) 0#32

/-- What the first step alone does. -/
def opening (i : grid0.Coords) (arg1 : Memref sig .tc .vmem S16x8192 .bf16) (harg1 : arg1.IsWhole) (arg7 : Memref sig .tc .vmem S512x256 .bf16) (harg7 : arg7.IsWhole) (arg8 : Memref sig .tc .vmem S32x16384 .bf16) (harg8 : arg8.IsWhole) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) : Prog (TpuEff nD τ sig (Elt F) Λ₀ .tc) PUnit :=
  if isFirst i = 1#1 then first arg1 harg1 arg7 harg7 arg8 harg8 arg11 harg11 arg12 harg12 arg13 harg13 else pure ⟨⟩

/-- What the last step alone does. -/
def closing (i : grid0.Coords) (arg4 : Memref sig .tc .vmem S16x1 .i32) (harg4 : arg4.IsWhole) (arg5 : Memref sig .tc .vmem S16x1 .f32) (harg5 : arg5.IsWhole) (arg6 : Memref sig .tc .vmem S16x1 .f32) (harg6 : arg6.IsWhole) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) : Prog (TpuEff nD τ sig (Elt F) Λ₀ .tc) PUnit :=
  if k0_cond2 i = 1#1 then last arg4 harg4 arg5 harg5 arg6 harg6 arg11 harg11 arg12 harg12 arg13 harg13 else pure ⟨⟩

/-- The kernel body. -/
def body (i : grid0.Coords) (arg1 : Memref sig .tc .vmem S16x8192 .bf16) (harg1 : arg1.IsWhole) (arg2 : Memref sig .tc .vmem S512x4096 .i8) (harg2 : arg2.IsWhole) (arg3 : Memref sig .tc .vmem S512x256 .bf16) (harg3 : arg3.IsWhole) (arg4 : Memref sig .tc .vmem S16x1 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S512x256 .bf16) (harg7 : arg7.IsWhole) (arg8 : Memref sig .tc .vmem S32x16384 .bf16) (harg8 : arg8.IsWhole) (arg9 : Memref sig .tc .vmem S256x2x256 .bf16) (harg9 : arg9.IsWhole) (arg10 : Memref sig .tc .vmem S256x2x256 .bf16) (harg10 : arg10.IsWhole) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) : Prog (TpuEff nD τ sig (Elt F) Λ₀ .tc) PUnit := do
  opening i arg1 harg1 arg7 harg7 arg8 harg8 arg11 harg11 arg12 harg12 arg13 harg13
  scales arg3 harg3 arg9 harg9 arg10 harg10
  let r ← carry (chunk arg2 harg2 arg8 harg8 arg9 harg9 arg10 harg10) 32 (broadcast S32x256 (Scalar.ofBits .f32 0x00000000#32 : F .f32)) (broadcast S32x256 (Scalar.ofBits .f32 0x00000000#32 : F .f32))
  update (BitVec.ofNat 32 (i 0).val) arg11 harg11 arg12 harg12 arg13 harg13 (masked (BitVec.ofNat 32 (i 0).val) (addf r.1 r.2))
  closing i arg4 harg4 arg5 harg5 arg6 harg6 arg11 harg11 arg12 harg12 arg13 harg13

/-- The printed body is `body`: the same operations in the same order. -/
theorem body_eq (i : grid0.Coords) (arg1 : Memref sig .tc .vmem S16x8192 .bf16) (harg1 : arg1.IsWhole) (arg2 : Memref sig .tc .vmem S512x4096 .i8) (harg2 : arg2.IsWhole) (arg3 : Memref sig .tc .vmem S512x256 .bf16) (harg3 : arg3.IsWhole) (arg4 : Memref sig .tc .vmem S16x1 .i32) (harg4 : arg4.IsWhole) (arg5 : Memref sig .tc .vmem S16x1 .f32) (harg5 : arg5.IsWhole) (arg6 : Memref sig .tc .vmem S16x1 .f32) (harg6 : arg6.IsWhole) (arg7 : Memref sig .tc .vmem S512x256 .bf16) (harg7 : arg7.IsWhole) (arg8 : Memref sig .tc .vmem S32x16384 .bf16) (harg8 : arg8.IsWhole) (arg9 : Memref sig .tc .vmem S256x2x256 .bf16) (harg9 : arg9.IsWhole) (arg10 : Memref sig .tc .vmem S256x2x256 .bf16) (harg10 : arg10.IsWhole) (arg11 : Memref sig .tc .vmem S32x256 .f32) (harg11 : arg11.IsWhole) (arg12 : Memref sig .tc .vmem S32x256 .f32) (harg12 : arg12.IsWhole) (arg13 : Memref sig .tc .vmem S32x256 .i32) (harg13 : arg13.IsWhole) :
    cc0__body (F := F) i arg1 harg1 arg2 harg2 arg3 harg3 arg4 harg4 arg5 harg5 arg6 harg6 arg7 harg7 arg8 harg8 arg9 harg9 arg10 harg10 arg11 harg11 arg12 harg12 arg13 harg13 = body i arg1 harg1 arg2 harg2 arg3 harg3 arg4 harg4 arg5 harg5 arg6 harg6 arg7 harg7 arg8 harg8 arg9 harg9 arg10 harg10 arg11 harg11 arg12 harg12 arg13 harg13 := by
  unfold cc0__body k0_part149 k0_part16 body opening closing
  by_cases h : isFirst i = 1#1
  · rw [if_pos h]
    unfold isFirst at h
    simp only [h, ↓reduceDIte]
    by_cases h2 : k0_cond2 i = 1#1
    · simp only [h2, ↓reduceDIte]
      chain_rfl
    · simp only [h2, ↓reduceDIte]
      chain_rfl
  · rw [if_neg h]
    unfold isFirst at h
    simp only [h, ↓reduceDIte]
    by_cases h2 : k0_cond2 i = 1#1
    · simp only [h2, ↓reduceDIte]
      chain_rfl
    · simp only [h2, ↓reduceDIte]
      chain_rfl

end Cert.KernelIdeal.Body

end
-- ==== Proof.IdealRun.lean ====
/- What one run of the kernel body makes of its buffers, as functions of what they held. -/
module

public import proofs.«01_k».proof.Proof.IdealBody
public import Idealize.ShloMosaic.Lib.VecWindow

@[expose] public section

noncomputable section

namespace Cert.KernelIdeal.Body

open Cert.KernelIdeal
open Cert.KernelIdeal.Facts₀ Cert.KernelIdeal.Facts
open Cert.Mem
open Idealize.ShloMosaic Idealize.ShloMosaic.TcCoe
open Idealize.SL Idealize.SL.RA Idealize.SL.BI Idealize.SL.Sem

variable {F : FTy → Type} [FloatOps F]

/-! ## The values -/

/-- One slice of the activations copied beneath the others. -/
def copied (X : S16x8192.Idx → Elt F .bf16) (c : Fin 32) (Y : S512x256.Idx → Elt F .bf16) : S512x256.Idx → Elt F .bf16 :=
  (Rect.unit (s := S512x256) ![16 * c.val, 0] S16x256.size (inbXs c)).overlay Y
    (shapeCast S16x256 (shapeCast S16x256 (fun j => X ((Rect.unit (s := S16x8192) ![0, 256 * c.val] S16x256.size (inbX c)).emb j)) shapeCasts_S16x256_S16x256) shapeCasts_S16x256_S16x256)

/-- One slice of the spread activations stored. -/
def placed (m : Fin 2) (o : FVec F S512x512 .bf16) (c : Fin 32) (Y : S32x16384.Idx → Elt F .bf16) : S32x16384.Idx → Elt F .bf16 :=
  (Rect.unit (s := S32x16384) ![16 * m.val, 512 * c.val] S16x512.size (inbXp m c)).overlay Y
    (shapeCast S16x512 (extractStridedSlice S16x512 ![16 * c.val, 0] o (slicesXp c)) shapeCasts_S16x512_S16x512)

/-- All slices of the activations, one beneath the other. -/
def stacked (X : S16x8192.Idx → Elt F .bf16) (Y : S512x256.Idx → Elt F .bf16) : S512x256.Idx → Elt F .bf16 := steps (copied X) 32 Y

/-- The spread activations. -/
def spreadAll (X : S512x256.Idx → Elt F .bf16) (Y : S32x16384.Idx → Elt F .bf16) : S32x16384.Idx → Elt F .bf16 :=
  steps (placed 1 (spread 2#32 X)) 32 (steps (placed 0 (spread 0#32 X)) 32 Y)

/-- Minus infinity on every lane. -/
def lowest : FVec F S32x256 .f32 := shapeCast S32x256 (broadcast S32x256 (Scalar.ofBits .f32 0xFF800000#32 : F .f32)) shapeCasts_S32x256_S32x256

/-- Row zero on every lane. -/
def noIds : IVec S32x256 32 := shapeCast S32x256 (broadcast S32x256 0#32) shapeCasts_S32x256_S32x256

/-- One chunk's two products added to the accumulators. -/
def chunkStep (W : S512x4096.Idx → Elt F .i8) (X : S32x16384.Idx → Elt F .bf16) (lo hi : S256x2x256.Idx → Elt F .bf16) (c : Fin 32)
    (p : FVec F S32x256 .f32 × FVec F S32x256 .f32) : FVec F S32x256 .f32 × FVec F S32x256 .f32 :=
  (addDot p.1 (fun j => X ((Rect.unit (s := S32x16384) ![0, 512 * c.val + 256 * (0 : Fin 2).val] S32x256.size (inbXc c 0)).emb j))
      (weights 0 (quant (F := F) (fun j => W ((Rect.unit (s := S512x4096) ![0, 128 * c.val] S512x128.size (inbW c)).emb j)))
        (fun j => lo ((Rect.unit (s := S256x2x256) ![8 * c.val, 0, 0] S8x2x256.size (inbSc c)).emb j))
        (fun j => hi ((Rect.unit (s := S256x2x256) ![8 * c.val, 0, 0] S8x2x256.size (inbSc c)).emb j))),
    addDot p.2 (fun j => X ((Rect.unit (s := S32x16384) ![0, 512 * c.val + 256 * (1 : Fin 2).val] S32x256.size (inbXc c 1)).emb j))
      (weights 1 (quant (F := F) (fun j => W ((Rect.unit (s := S512x4096) ![0, 128 * c.val] S512x128.size (inbW c)).emb j)))
        (fun j => lo ((Rect.unit (s := S256x2x256) ![8 * c.val, 0, 0] S8x2x256.size (inbSc c)).emb j))
        (fun j => hi ((Rect.unit (s := S256x2x256) ![8 * c.val, 0, 0] S8x2x256.size (inbSc c)).emb j))))

/-- The two accumulators after all chunks. -/
def sums (W : S512x4096.Idx → Elt F .i8) (X : S32x16384.Idx → Elt F .bf16) (S : S512x256.Idx → Elt F .bf16) : FVec F S32x256 .f32 × FVec F S32x256 .f32 :=
  steps (chunkStep W X (scaleWords 0 S) (scaleWords 1 S)) 32
    (broadcast S32x256 (Scalar.ofBits .f32 0x00000000#32 : F .f32), broadcast S32x256 (Scalar.ofBits .f32 0x00000000#32 : F .f32))

/-- The step's logits, the lanes past the vocabulary at minus infinity. -/
def lanes (i : grid0.Coords) (W : S512x4096.Idx → Elt F .i8) (X : S32x16384.Idx → Elt F .bf16) (S : S512x256.Idx → Elt F .bf16) : FVec F S32x256 .f32 :=
  masked (BitVec.ofNat 32 (i 0).val) (addf (sums W X S).1 (sums W X S).2)

/-- The running maximum brought up to date. -/
def newTop (l m1 : FVec F S32x256 .f32) : FVec F S32x256 .f32 := shapeCast S32x256 (select (cmpf .ogt l m1) l m1) shapeCasts_S32x256_S32x256
/-- The running runner-up brought up to date. -/
def newNext (l m1 m2 : FVec F S32x256 .f32) : FVec F S32x256 .f32 := shapeCast S32x256 (maximumf m2 (select (cmpf .ogt l m1) m1 l)) shapeCasts_S32x256_S32x256
/-- The running maximum's row brought up to date. -/
def newIds (i : grid0.Coords) (l m1 : FVec F S32x256 .f32) (d : IVec S32x256 32) : IVec S32x256 32 := shapeCast S32x256 (select (cmpf .ogt l m1) (ids (BitVec.ofNat 32 (i 0).val)) d) shapeCasts_S32x256_S32x256

/-- The margin as the last step computes it. -/
def marginOf (m1 m2 : FVec F S32x256 .f32) (d : IVec S32x256 32) : FVec F S16x1 .f32 := subf (topOf (fold m1)) (secondOf (fold m1) (fold m2) (fold d))

/-! ## Whole loads and stores -/

/-- Storing a whole buffer leaves what was stored. -/
theorem overlay_full {s : Shape} {α : Type} {off : Fin s.rank → ℕ} (inb : ∀ a, off a + s.size a ≤ s.size a) (X : s.Idx → α) (w : (Rect.unit off s.size inb).shape.Idx → α) :
    (Rect.unit off s.size inb).overlay X w = w := by
  funext j
  have h := Rect.overlay_emb (Rect.unit off s.size inb) X w j
  rwa [Rect.emb_unit_full] at h

section

variable {d : Dev nD} {defs : Defs nD τ sig (Elt F) Λ₀} {E : Set ℕ} {S : Type} {Own : S → sProp (MT nD τ sig Unit (Elt F) ℕ (UR sig nD τ) ℕ)}

/-- A whole load. -/
theorem Run.loadAll {s : Shape} {e : EltTy} {m : Memref sig .tc .vmem s e} (k : Slot (c := (d : Thread nD τ)) Own m) (σ : S) {off : Fin s.rank → ℕ}
    {inb : ∀ a, off a + s.size a ≤ s.size a} {hl : m.view.LoadsAt (Rect.unit off s.size inb).toLoadRect} :
    Run (d : Thread nD τ) defs Variants.none none E Own σ (Prog.lift (.load m (Rect.unit off s.size inb).toLoadRect hl)) (k.get σ) σ := by
  have h := Run.load (defs := defs) (𝒱 := Variants.none) (bd := none) (E := E) k σ (r := Rect.unit off s.size inb) (hl := hl)
  have e : (fun j => k.get σ ((Rect.unit off s.size inb).emb j)) = k.get σ := funext fun j => congrArg (k.get σ) (Rect.emb_unit_full inb j)
  rwa [e] at h

/-- A whole store. -/
theorem Run.storeAll {s : Shape} {e : EltTy} {m : Memref sig .tc .vmem s e} (k : Slot (c := (d : Thread nD τ)) Own m) (σ : S) {off : Fin s.rank → ℕ}
    {inb : ∀ a, off a + s.size a ≤ s.size a} {w : (Rect.unit off s.size inb).shape.Idx → Elt F e} {hx : (m.access (Rect.unit off s.size inb)).Stores Finset.univ}
    {hm : Finset.univ = (Finset.univ : Finset (Rect.unit off s.size inb).shape.Idx) ∨ ∀ a, (Rect.unit off s.size inb).stride a = 1} :
    Run (d : Thread nD τ) defs Variants.none none E Own σ (Prog.lift (.store m (Rect.unit off s.size inb) w Finset.univ hx hm)) ⟨⟩ (k.put σ w) := by
  have h := Run.store (defs := defs) (𝒱 := Variants.none) (bd := none) (E := E) k σ (r := Rect.unit off s.size inb) (w := w) (hx := hx) (hm := hm)
  rwa [overlay_full] at h

end

/-! ## The body's thirteen buffers -/

/-- Their contents. -/
abbrev St (F : FTy → Type) := (S16x8192.Idx → Elt F .bf16) × (S512x4096.Idx → Elt F .i8) × (S512x256.Idx → Elt F .bf16) × (S16x1.Idx → Elt F .i32) × (S16x1.Idx → Elt F .f32) × (S16x1.Idx → Elt F .f32) × (S512x256.Idx → Elt F .bf16) × (S32x16384.Idx → Elt F .bf16) × (S256x2x256.Idx → Elt F .bf16) × (S256x2x256.Idx → Elt F .bf16) × (S32x256.Idx → Elt F .f32) × (S32x256.Idx → Elt F .f32) × (S32x256.Idx → Elt F .i32) × Unit

variable {d : Dev nD} {defs : Defs nD τ sig (Elt F) Λ₀} {E : Set ℕ}
  {arg1 : Memref sig .tc .vmem S16x8192 .bf16} {harg1 : arg1.IsWhole}
  {arg2 : Memref sig .tc .vmem S512x4096 .i8} {harg2 : arg2.IsWhole}
  {arg3 : Memref sig .tc .vmem S512x256 .bf16} {harg3 : arg3.IsWhole}
  {arg4 : Memref sig .tc .vmem S16x1 .i32} {harg4 : arg4.IsWhole}
  {arg5 : Memref sig .tc .vmem S16x1 .f32} {harg5 : arg5.IsWhole}
  {arg6 : Memref sig .tc .vmem S16x1 .f32} {harg6 : arg6.IsWhole}
  {arg7 : Memref sig .tc .vmem S512x256 .bf16} {harg7 : arg7.IsWhole}
  {arg8 : Memref sig .tc .vmem S32x16384 .bf16} {harg8 : arg8.IsWhole}
  {arg9 : Memref sig .tc .vmem S256x2x256 .bf16} {harg9 : arg9.IsWhole}
  {arg10 : Memref sig .tc .vmem S256x2x256 .bf16} {harg10 : arg10.IsWhole}
  {arg11 : Memref sig .tc .vmem S32x256 .f32} {harg11 : arg11.IsWhole}
  {arg12 : Memref sig .tc .vmem S32x256 .f32} {harg12 : arg12.IsWhole}
  {arg13 : Memref sig .tc .vmem S32x256 .i32} {harg13 : arg13.IsWhole}

local notation "𝕄" => MT nD τ sig Unit (Elt F) ℕ (UR sig nD τ) ℕ

section

variable (d) (arg1 arg2 arg3 arg4 arg5 arg6 arg7 arg8 arg9 arg10 arg11 arg12 arg13)

/-- The ownership of all of them. -/
abbrev All : St F → sProp 𝕄 := Cons (d : Thread nD τ) arg1 (Cons (d : Thread nD τ) arg2 (Cons (d : Thread nD τ) arg3 (Cons (d : Thread nD τ) arg4 (Cons (d : Thread nD τ) arg5 (Cons (d : Thread nD τ) arg6 (Cons (d : Thread nD τ) arg7 (Cons (d : Thread nD τ) arg8 (Cons (d : Thread nD τ) arg9 (Cons (d : Thread nD τ) arg10 (Cons (d : Thread nD τ) arg11 (Cons (d : Thread nD τ) arg12 (Cons (d : Thread nD τ) arg13 (Nil : Unit → sProp 𝕄)))))))))))))

end

/-- One copied slice. -/
theorem copyX_run (c : Fin 32) (σ : St F) :
    Run (d : Thread nD τ) defs Variants.none none E (All d arg1 arg2 arg3 arg4 arg5 arg6 arg7 arg8 arg9 arg10 arg11 arg12 arg13) σ (copyX arg1 harg1 arg7 harg7 c) ⟨⟩ (Slot.put (((.tail (.tail (.tail (.tail (.tail (.tail .head)))))) : Slot (c := (d : Thread nD τ)) (All d arg1 arg2 arg3 arg4 arg5 arg6 arg7 arg8 arg9 arg10 arg11 arg12 arg13) arg7)) σ (copied σ.1 c (Slot.get (((.tail (.tail (.tail (.tail (.tail (.tail .head)))))) : Slot (c := (d : Thread nD τ)) (All d arg1 arg2 arg3 arg4 arg5 arg6 arg7 arg8 arg9 arg10 arg11 arg12 arg13) arg7)) σ))) := by
  unfold copyX
  refine Run.bind (Run.load ((.head : Slot (c := (d : Thread nD τ)) (All d arg1 arg2 arg3 arg4 arg5 arg6 arg7 arg8 arg9 arg10 arg11 arg12 arg13) arg1)) σ) ?_
  refine Run.bind (Run.load (((.tail (.tail (.tail (.tail (.tail (.tail .head)))))) : Slot (c := (d : Thread nD τ)) (All d arg1 arg2 arg3 arg4 arg5 arg6 arg7 arg8 arg9 arg10 arg11 arg12 arg13) arg7)) σ) ?_
  exact Run.store (((.tail (.tail (.tail (.tail (.tail (.tail .head)))))) : Slot (c := (d : Thread nD τ)) (All d arg1 arg2 arg3 arg4 arg5 arg6 arg7 arg8 arg9 arg10 arg11 arg12 arg13) arg7)) σ

/-- One stored slice. -/
theorem putX_run (m : Fin 2) (o : FVec F S512x512 .bf16) (c : Fin 32) (σ : St F) :
    Run (d : Thread nD τ) defs Variants.none none E (All d arg1 arg2 arg3 arg4 arg5 arg6 arg7 arg8 arg9 arg10 arg11 arg12 arg13) σ (putX arg8 harg8 m o c) ⟨⟩ (Slot.put (((.tail (.tail (.tail (.tail (.tail (.tail (.tail .head))))))) : Slot (c := (d : Thread nD τ)) (All d arg1 arg2 arg3 arg4 arg5 arg6 arg7 arg8 arg9 arg10 arg11 arg12 arg13) arg8)) σ (placed m o c (Slot.get (((.tail (.tail (.tail (.tail (.tail (.tail (.tail .head))))))) : Slot (c := (d : Thread nD τ)) (All d arg1 arg2 arg3 arg4 arg5 arg6 arg7 arg8 arg9 arg10 arg11 arg12 arg13) arg8)) σ))) := by
  unfold putX
  refine Run.bind (Run.load (((.tail (.tail (.tail (.tail (.tail (.tail (.tail .head))))))) : Slot (c := (d : Thread nD τ)) (All d arg1 arg2 arg3 arg4 arg5 arg6 arg7 arg8 arg9 arg10 arg11 arg12 arg13) arg8)) σ) ?_
  exact Run.store (((.tail (.tail (.tail (.tail (.tail (.tail (.tail .head))))))) : Slot (c := (d : Thread nD τ)) (All d arg1 arg2 arg3 arg4 arg5 arg6 arg7 arg8 arg9 arg10 arg11 arg12 arg13) arg8)) σ

theorem copies (n : ℕ) (x1 x2 x3 x4 x5 x6 x7 x8 x9 x10 x11 x12 x13) :
    steps (fun c σ => Slot.put (((.tail (.tail (.tail (.tail (.tail (.tail .head)))))) : Slot (c := (d : Thread nD τ)) (All d arg1 arg2 arg3 arg4 arg5 arg6 arg7 arg8 arg9 arg10 arg11 arg12 arg13) arg7)) σ (copied σ.1 c (Slot.get (((.tail (.tail (.tail (.tail (.tail (.tail .head)))))) : Slot (c := (d : Thread nD τ)) (All d arg1 arg2 arg3 arg4 arg5 arg6 arg7 arg8 arg9 arg10 arg11 arg12 arg13) arg7)) σ))) n ((x1, x2, x3, x4, x5, x6, x7, x8, x9, x10, x11, x12, x13, ()) : St F)
      = (x1, x2, x3, x4, x5, x6, steps (copied x1) n x7, x8, x9, x10, x11, x12, x13, ()) := by
  induction n generalizing x7 with
  | zero => rfl
  | succ n ih => exact ih _

theorem places (m : Fin 2) (o : FVec F S512x512 .bf16) (n : ℕ) (x1 x2 x3 x4 x5 x6 x7 x8 x9 x10 x11 x12 x13) :
    steps (fun c σ => Slot.put (((.tail (.tail (.tail (.tail (.tail (.tail (.tail .head))))))) : Slot (c := (d : Thread nD τ)) (All d arg1 arg2 arg3 arg4 arg5 arg6 arg7 arg8 arg9 arg10 arg11 arg12 arg13) arg8)) σ (placed m o c (Slot.get (((.tail (.tail (.tail (.tail (.tail (.tail (.tail .head))))))) : Slot (c := (d : Thread nD τ)) (All d arg1 arg2 arg3 arg4 arg5 arg6 arg7 arg8 arg9 arg10 arg11 arg12 arg13) arg8)) σ))) n ((x1, x2, x3, x4, x5, x6, x7, x8, x9, x10, x11, x12, x13, ()) : St F)
      = (x1, x2, x3, x4, x5, x6, x7, steps (placed m o) n x8, x9, x10, x11, x12, x13, ()) := by
  induction n generalizing x8 with
  | zero => rfl
  | succ n ih => exact ih _

/-- The first step's own work. -/
theorem first_run (x1 : S16x8192.Idx → Elt F .bf16)
    (x2 : S512x4096.Idx → Elt F .i8)
    (x3 : S512x256.Idx → Elt F .bf16)
    (x4 : S16x1.Idx → Elt F .i32)
    (x5 : S16x1.Idx → Elt F .f32)
    (x6 : S16x1.Idx → Elt F .f32)
    (x7 : S512x256.Idx → Elt F .bf16)
    (x8 : S32x16384.Idx → Elt F .bf16)
    (x9 : S256x2x256.Idx → Elt F .bf16)
    (x10 : S256x2x256.Idx → Elt F .bf16)
    (x11 : S32x256.Idx → Elt F .f32)
    (x12 : S32x256.Idx → Elt F .f32)
    (x13 : S32x256.Idx → Elt F .i32) :
    Run (d : Thread nD τ) defs Variants.none none E (All d arg1 arg2 arg3 arg4 arg5 arg6 arg7 arg8 arg9 arg10 arg11 arg12 arg13) (x1, x2, x3, x4, x5, x6, x7, x8, x9, x10, x11, x12, x13, ()) (first arg1 harg1 arg7 harg7 arg8 harg8 arg11 harg11 arg12 harg12 arg13 harg13) ⟨⟩
      (x1, x2, x3, x4, x5, x6, stacked x1 x7, spreadAll (stacked x1 x7) x8, x9, x10, lowest, lowest, noIds, ()) := by
  unfold first
  refine Run.bind (σ' := (x1, x2, x3, x4, x5, x6, stacked x1 x7, x8, x9, x10, x11, x12, x13, ())) (a := ⟨⟩) ?_ ?_
  · have h := Run.each (Own := (All d arg1 arg2 arg3 arg4 arg5 arg6 arg7 arg8 arg9 arg10 arg11 arg12 arg13)) _ (copyX_run (F := F) (d := d) (defs := defs) (E := E) (harg1 := harg1) (harg7 := harg7)) 32 (x1, x2, x3, x4, x5, x6, x7, x8, x9, x10, x11, x12, x13, ())
    rw [copies] at h; exact h
  refine Run.bind (Run.loadAll (((.tail (.tail (.tail (.tail (.tail (.tail .head)))))) : Slot (c := (d : Thread nD τ)) (All d arg1 arg2 arg3 arg4 arg5 arg6 arg7 arg8 arg9 arg10 arg11 arg12 arg13) arg7)) _) ?_
  refine Run.bind (σ' := (x1, x2, x3, x4, x5, x6, stacked x1 x7, steps (placed 0 (spread 0#32 (stacked x1 x7))) 32 x8, x9, x10, x11, x12, x13, ())) (a := ⟨⟩) ?_ ?_
  · have h := Run.each (Own := (All d arg1 arg2 arg3 arg4 arg5 arg6 arg7 arg8 arg9 arg10 arg11 arg12 arg13)) _ (putX_run (F := F) (d := d) (defs := defs) (E := E) (harg8 := harg8) 0 (spread 0#32 (stacked x1 x7))) 32 (x1, x2, x3, x4, x5, x6, stacked x1 x7, x8, x9, x10, x11, x12, x13, ())
    rw [places] at h; exact h
  refine Run.bind (Run.loadAll (((.tail (.tail (.tail (.tail (.tail (.tail .head)))))) : Slot (c := (d : Thread nD τ)) (All d arg1 arg2 arg3 arg4 arg5 arg6 arg7 arg8 arg9 arg10 arg11 arg12 arg13) arg7)) _) ?_
  refine Run.bind (σ' := (x1, x2, x3, x4, x5, x6, stacked x1 x7, spreadAll (stacked x1 x7) x8, x9, x10, x11, x12, x13, ())) (a := ⟨⟩) ?_ ?_
  · have h := Run.each (Own := (All d arg1 arg2 arg3 arg4 arg5 arg6 arg7 arg8 arg9 arg10 arg11 arg12 arg13)) _ (putX_run (F := F) (d := d) (defs := defs) (E := E) (harg8 := harg8) 1 (spread 2#32 (stacked x1 x7))) 32 (x1, x2, x3, x4, x5, x6, stacked x1 x7, steps (placed 0 (spread 0#32 (stacked x1 x7))) 32 x8, x9, x10, x11, x12, x13, ())
    rw [places] at h; exact h
  refine Run.bind (Run.loadAll (((.tail (.tail (.tail (.tail (.tail (.tail (.tail (.tail (.tail (.tail .head)))))))))) : Slot (c := (d : Thread nD τ)) (All d arg1 arg2 arg3 arg4 arg5 arg6 arg7 arg8 arg9 arg10 arg11 arg12 arg13) arg11)) _) ?_
  refine Run.bind (Run.storeAll (((.tail (.tail (.tail (.tail (.tail (.tail (.tail (.tail (.tail (.tail .head)))))))))) : Slot (c := (d : Thread nD τ)) (All d arg1 arg2 arg3 arg4 arg5 arg6 arg7 arg8 arg9 arg10 arg11 arg12 arg13) arg11)) _) ?_
  refine Run.bind (Run.loadAll (((.tail (.tail (.tail (.tail (.tail (.tail (.tail (.tail (.tail (.tail (.tail .head))))))))))) : Slot (c := (d : Thread nD τ)) (All d arg1 arg2 arg3 arg4 arg5 arg6 arg7 arg8 arg9 arg10 arg11 arg12 arg13) arg12)) _) ?_
  refine Run.bind (Run.storeAll (((.tail (.tail (.tail (.tail (.tail (.tail (.tail (.tail (.tail (.tail (.tail .head))))))))))) : Slot (c := (d : Thread nD τ)) (All d arg1 arg2 arg3 arg4 arg5 arg6 arg7 arg8 arg9 arg10 arg11 arg12 arg13) arg12)) _) ?_
  refine Run.bind (Run.loadAll (((.tail (.tail (.tail (.tail (.tail (.tail (.tail (.tail (.tail (.tail (.tail (.tail .head)))))))))))) : Slot (c := (d : Thread nD τ)) (All d arg1 arg2 arg3 arg4 arg5 arg6 arg7 arg8 arg9 arg10 arg11 arg12 arg13) arg13)) _) ?_
  exact Run.storeAll (((.tail (.tail (.tail (.tail (.tail (.tail (.tail (.tail (.tail (.tail (.tail (.tail .head)))))))))))) : Slot (c := (d : Thread nD τ)) (All d arg1 arg2 arg3 arg4 arg5 arg6 arg7 arg8 arg9 arg10 arg11 arg12 arg13) arg13)) _

/-- The scales transposed. -/
theorem scales_run (x1 : S16x8192.Idx → Elt F .bf16)
    (x2 : S512x4096.Idx → Elt F .i8)
    (x3 : S512x256.Idx → Elt F .bf16)
    (x4 : S16x1.Idx → Elt F .i32)
    (x5 : S16x1.Idx → Elt F .f32)
    (x6 : S16x1.Idx → Elt F .f32)
    (x7 : S512x256.Idx → Elt F .bf16)
    (x8 : S32x16384.Idx → Elt F .bf16)
    (x9 : S256x2x256.Idx → Elt F .bf16)
    (x10 : S256x2x256.Idx → Elt F .bf16)
    (x11 : S32x256.Idx → Elt F .f32)
    (x12 : S32x256.Idx → Elt F .f32)
    (x13 : S32x256.Idx → Elt F .i32) :
    Run (d : Thread nD τ) defs Variants.none none E (All d arg1 arg2 arg3 arg4 arg5 arg6 arg7 arg8 arg9 arg10 arg11 arg12 arg13) (x1, x2, x3, x4, x5, x6, x7, x8, x9, x10, x11, x12, x13, ()) (scales arg3 harg3 arg9 harg9 arg10 harg10) ⟨⟩ (x1, x2, x3, x4, x5, x6, x7, x8, scaleWords 0 x3, scaleWords 1 x3, x11, x12, x13, ()) := by
  unfold scales
  refine Run.bind (Run.loadAll (((.tail (.tail .head)) : Slot (c := (d : Thread nD τ)) (All d arg1 arg2 arg3 arg4 arg5 arg6 arg7 arg8 arg9 arg10 arg11 arg12 arg13) arg3)) _) ?_
  refine Run.bind (Run.loadAll (((.tail (.tail (.tail (.tail (.tail (.tail (.tail (.tail .head)))))))) : Slot (c := (d : Thread nD τ)) (All d arg1 arg2 arg3 arg4 arg5 arg6 arg7 arg8 arg9 arg10 arg11 arg12 arg13) arg9)) _) ?_
  refine Run.bind (Run.storeAll (((.tail (.tail (.tail (.tail (.tail (.tail (.tail (.tail .head)))))))) : Slot (c := (d : Thread nD τ)) (All d arg1 arg2 arg3 arg4 arg5 arg6 arg7 arg8 arg9 arg10 arg11 arg12 arg13) arg9)) _) ?_
  refine Run.bind (Run.loadAll (((.tail (.tail (.tail (.tail (.tail (.tail (.tail (.tail (.tail .head))))))))) : Slot (c := (d : Thread nD τ)) (All d arg1 arg2 arg3 arg4 arg5 arg6 arg7 arg8 arg9 arg10 arg11 arg12 arg13) arg10)) _) ?_
  exact Run.storeAll (((.tail (.tail (.tail (.tail (.tail (.tail (.tail (.tail (.tail .head))))))))) : Slot (c := (d : Thread nD τ)) (All d arg1 arg2 arg3 arg4 arg5 arg6 arg7 arg8 arg9 arg10 arg11 arg12 arg13) arg10)) _

/-- One chunk. -/
theorem chunk_run (x1 : S16x8192.Idx → Elt F .bf16)
    (x2 : S512x4096.Idx → Elt F .i8)
    (x3 : S512x256.Idx → Elt F .bf16)
    (x4 : S16x1.Idx → Elt F .i32)
    (x5 : S16x1.Idx → Elt F .f32)
    (x6 : S16x1.Idx → Elt F .f32)
    (x7 : S512x256.Idx → Elt F .bf16)
    (x8 : S32x16384.Idx → Elt F .bf16)
    (x9 : S256x2x256.Idx → Elt F .bf16)
    (x10 : S256x2x256.Idx → Elt F .bf16)
    (x11 : S32x256.Idx → Elt F .f32)
    (x12 : S32x256.Idx → Elt F .f32)
    (x13 : S32x256.Idx → Elt F .i32) (c : Fin 32) (a b : FVec F S32x256 .f32) :
    Run (d : Thread nD τ) defs Variants.none none E (All d arg1 arg2 arg3 arg4 arg5 arg6 arg7 arg8 arg9 arg10 arg11 arg12 arg13) (x1, x2, x3, x4, x5, x6, x7, x8, x9, x10, x11, x12, x13, ()) (chunk arg2 harg2 arg8 harg8 arg9 harg9 arg10 harg10 c a b) (chunkStep x2 x8 x9 x10 c (a, b)) (x1, x2, x3, x4, x5, x6, x7, x8, x9, x10, x11, x12, x13, ()) := by
  unfold chunk
  refine Run.bind (Run.load (((.tail .head) : Slot (c := (d : Thread nD τ)) (All d arg1 arg2 arg3 arg4 arg5 arg6 arg7 arg8 arg9 arg10 arg11 arg12 arg13) arg2)) _) ?_
  refine Run.bind (Run.load (((.tail (.tail (.tail (.tail (.tail (.tail (.tail (.tail .head)))))))) : Slot (c := (d : Thread nD τ)) (All d arg1 arg2 arg3 arg4 arg5 arg6 arg7 arg8 arg9 arg10 arg11 arg12 arg13) arg9)) _) ?_
  refine Run.bind (Run.load (((.tail (.tail (.tail (.tail (.tail (.tail (.tail (.tail (.tail .head))))))))) : Slot (c := (d : Thread nD τ)) (All d arg1 arg2 arg3 arg4 arg5 arg6 arg7 arg8 arg9 arg10 arg11 arg12 arg13) arg10)) _) ?_
  refine Run.bind (Run.load (((.tail (.tail (.tail (.tail (.tail (.tail (.tail .head))))))) : Slot (c := (d : Thread nD τ)) (All d arg1 arg2 arg3 arg4 arg5 arg6 arg7 arg8 arg9 arg10 arg11 arg12 arg13) arg8)) _) ?_
  refine Run.bind (Run.load (((.tail (.tail (.tail (.tail (.tail (.tail (.tail .head))))))) : Slot (c := (d : Thread nD τ)) (All d arg1 arg2 arg3 arg4 arg5 arg6 arg7 arg8 arg9 arg10 arg11 arg12 arg13) arg8)) _) ?_
  exact Run.pure _ _

/-- The running two largest. -/
theorem update_run (x1 : S16x8192.Idx → Elt F .bf16)
    (x2 : S512x4096.Idx → Elt F .i8)
    (x3 : S512x256.Idx → Elt F .bf16)
    (x4 : S16x1.Idx → Elt F .i32)
    (x5 : S16x1.Idx → Elt F .f32)
    (x6 : S16x1.Idx → Elt F .f32)
    (x7 : S512x256.Idx → Elt F .bf16)
    (x8 : S32x16384.Idx → Elt F .bf16)
    (x9 : S256x2x256.Idx → Elt F .bf16)
    (x10 : S256x2x256.Idx → Elt F .bf16)
    (x11 : S32x256.Idx → Elt F .f32)
    (x12 : S32x256.Idx → Elt F .f32)
    (x13 : S32x256.Idx → Elt F .i32) (i : grid0.Coords) (l : FVec F S32x256 .f32) :
    Run (d : Thread nD τ) defs Variants.none none E (All d arg1 arg2 arg3 arg4 arg5 arg6 arg7 arg8 arg9 arg10 arg11 arg12 arg13) (x1, x2, x3, x4, x5, x6, x7, x8, x9, x10, x11, x12, x13, ()) (update (BitVec.ofNat 32 (i 0).val) arg11 harg11 arg12 harg12 arg13 harg13 l) ⟨⟩
      (x1, x2, x3, x4, x5, x6, x7, x8, x9, x10, newTop l x11, newNext l x11 x12, newIds i l x11 x13, ()) := by
  unfold update
  refine Run.bind (Run.loadAll (((.tail (.tail (.tail (.tail (.tail (.tail (.tail (.tail (.tail (.tail .head)))))))))) : Slot (c := (d : Thread nD τ)) (All d arg1 arg2 arg3 arg4 arg5 arg6 arg7 arg8 arg9 arg10 arg11 arg12 arg13) arg11)) _) ?_
  refine Run.bind (Run.loadAll (((.tail (.tail (.tail (.tail (.tail (.tail (.tail (.tail (.tail (.tail (.tail .head))))))))))) : Slot (c := (d : Thread nD τ)) (All d arg1 arg2 arg3 arg4 arg5 arg6 arg7 arg8 arg9 arg10 arg11 arg12 arg13) arg12)) _) ?_
  refine Run.bind (Run.loadAll (((.tail (.tail (.tail (.tail (.tail (.tail (.tail (.tail (.tail (.tail (.tail .head))))))))))) : Slot (c := (d : Thread nD τ)) (All d arg1 arg2 arg3 arg4 arg5 arg6 arg7 arg8 arg9 arg10 arg11 arg12 arg13) arg12)) _) ?_
  refine Run.bind (Run.storeAll (((.tail (.tail (.tail (.tail (.tail (.tail (.tail (.tail (.tail (.tail (.tail .head))))))))))) : Slot (c := (d : Thread nD τ)) (All d arg1 arg2 arg3 arg4 arg5 arg6 arg7 arg8 arg9 arg10 arg11 arg12 arg13) arg12)) _) ?_
  refine Run.bind (Run.loadAll (((.tail (.tail (.tail (.tail (.tail (.tail (.tail (.tail (.tail (.tail .head)))))))))) : Slot (c := (d : Thread nD τ)) (All d arg1 arg2 arg3 arg4 arg5 arg6 arg7 arg8 arg9 arg10 arg11 arg12 arg13) arg11)) _) ?_
  refine Run.bind (Run.storeAll (((.tail (.tail (.tail (.tail (.tail (.tail (.tail (.tail (.tail (.tail .head)))))))))) : Slot (c := (d : Thread nD τ)) (All d arg1 arg2 arg3 arg4 arg5 arg6 arg7 arg8 arg9 arg10 arg11 arg12 arg13) arg11)) _) ?_
  refine Run.bind (Run.loadAll (((.tail (.tail (.tail (.tail (.tail (.tail (.tail (.tail (.tail (.tail (.tail (.tail .head)))))))))))) : Slot (c := (d : Thread nD τ)) (All d arg1 arg2 arg3 arg4 arg5 arg6 arg7 arg8 arg9 arg10 arg11 arg12 arg13) arg13)) _) ?_
  refine Run.bind (Run.loadAll (((.tail (.tail (.tail (.tail (.tail (.tail (.tail (.tail (.tail (.tail (.tail (.tail .head)))))))))))) : Slot (c := (d : Thread nD τ)) (All d arg1 arg2 arg3 arg4 arg5 arg6 arg7 arg8 arg9 arg10 arg11 arg12 arg13) arg13)) _) ?_
  exact Run.storeAll (((.tail (.tail (.tail (.tail (.tail (.tail (.tail (.tail (.tail (.tail (.tail (.tail .head)))))))))))) : Slot (c := (d : Thread nD τ)) (All d arg1 arg2 arg3 arg4 arg5 arg6 arg7 arg8 arg9 arg10 arg11 arg12 arg13) arg13)) _

/-- The three results stored. -/
def results (arg4 : Memref sig .tc .vmem S16x1 .i32) (harg4 : arg4.IsWhole) (arg5 : Memref sig .tc .vmem S16x1 .f32) (harg5 : arg5.IsWhole) (arg6 : Memref sig .tc .vmem S16x1 .f32) (harg6 : arg6.IsWhole)
    (T : S16x1.Idx → Elt F .i32) (M U : S16x1.Idx → Elt F .f32) : Prog (TpuEff nD τ sig (Elt F) Λ₀ .tc) PUnit := do
  let _a : Vec F S16x1 .i32 ← Prog.lift (.load arg4 (Rect.unit (s := S16x1) ![0, 0] S16x1.size inb_S16x1_S16x1_0_0).toLoadRect (View.loadsAt_vmem h_S16x1))
  Prog.lift (.store arg4 (Rect.unit (s := S16x1) ![0, 0] S16x1.size inb_S16x1_S16x1_0_0) T Finset.univ (View.stores_vmem_bits_univ h_S16x1 rfl) (.inl rfl))
  let _b : Vec F S16x1 .f32 ← Prog.lift (.load arg6 (Rect.unit (s := S16x1) ![0, 0] S16x1.size inb_S16x1_S16x1_0_0).toLoadRect (View.loadsAt_vmem h_S16x1))
  Prog.lift (.store arg6 (Rect.unit (s := S16x1) ![0, 0] S16x1.size inb_S16x1_S16x1_0_0) U Finset.univ (View.stores_vmem_bits_univ h_S16x1 rfl) (.inl rfl))
  let _c : Vec F S16x1 .f32 ← Prog.lift (.load arg5 (Rect.unit (s := S16x1) ![0, 0] S16x1.size inb_S16x1_S16x1_0_0).toLoadRect (View.loadsAt_vmem h_S16x1))
  Prog.lift (.store arg5 (Rect.unit (s := S16x1) ![0, 0] S16x1.size inb_S16x1_S16x1_0_0) M Finset.univ (View.stores_vmem_bits_univ h_S16x1 rfl) (.inl rfl))

section

/-- The last step's own work, its three results named. -/
theorem last_eq :
    last (F := F) arg4 harg4 arg5 harg5 arg6 harg6 arg11 harg11 arg12 harg12 arg13 harg13 = (do
      let m1 : Vec F S32x256 .f32 ← Prog.lift (.load arg11 (Rect.unit (s := S32x256) ![0, 0] S32x256.size inb_S32x256_S32x256_0_0).toLoadRect (View.loadsAt_vmem h_S32x256))
      let m2 : Vec F S32x256 .f32 ← Prog.lift (.load arg12 (Rect.unit (s := S32x256) ![0, 0] S32x256.size inb_S32x256_S32x256_0_0).toLoadRect (View.loadsAt_vmem h_S32x256))
      let d : Vec F S32x256 .i32 ← Prog.lift (.load arg13 (Rect.unit (s := S32x256) ![0, 0] S32x256.size inb_S32x256_S32x256_0_0).toLoadRect (View.loadsAt_vmem h_S32x256))
      results arg4 harg4 arg5 harg5 arg6 harg6 (tokOf (fold m1) (fold d)) (marginOf m1 m2 d) (topOf (fold m1))) := rfl

/-- The results. -/
theorem last_run (x1 : S16x8192.Idx → Elt F .bf16)
    (x2 : S512x4096.Idx → Elt F .i8)
    (x3 : S512x256.Idx → Elt F .bf16)
    (x4 : S16x1.Idx → Elt F .i32)
    (x5 : S16x1.Idx → Elt F .f32)
    (x6 : S16x1.Idx → Elt F .f32)
    (x7 : S512x256.Idx → Elt F .bf16)
    (x8 : S32x16384.Idx → Elt F .bf16)
    (x9 : S256x2x256.Idx → Elt F .bf16)
    (x10 : S256x2x256.Idx → Elt F .bf16)
    (x11 : S32x256.Idx → Elt F .f32)
    (x12 : S32x256.Idx → Elt F .f32)
    (x13 : S32x256.Idx → Elt F .i32) :
    Run (d : Thread nD τ) defs Variants.none none E (All d arg1 arg2 arg3 arg4 arg5 arg6 arg7 arg8 arg9 arg10 arg11 arg12 arg13) (x1, x2, x3, x4, x5, x6, x7, x8, x9, x10, x11, x12, x13, ()) (last arg4 harg4 arg5 harg5 arg6 harg6 arg11 harg11 arg12 harg12 arg13 harg13) ⟨⟩
      (x1, x2, x3, tokOf (fold x11) (fold x13), marginOf x11 x12 x13, topOf (fold x11), x7, x8, x9, x10, x11, x12, x13, ()) := by
  rw [last_eq]
  refine Run.bind (a := x11) (σ' := (x1, x2, x3, x4, x5, x6, x7, x8, x9, x10, x11, x12, x13, ())) (Run.loadAll (((.tail (.tail (.tail (.tail (.tail (.tail (.tail (.tail (.tail (.tail .head)))))))))) : Slot (c := (d : Thread nD τ)) (All d arg1 arg2 arg3 arg4 arg5 arg6 arg7 arg8 arg9 arg10 arg11 arg12 arg13) arg11)) _) ?_
  refine Run.bind (a := x12) (σ' := (x1, x2, x3, x4, x5, x6, x7, x8, x9, x10, x11, x12, x13, ())) (Run.loadAll (((.tail (.tail (.tail (.tail (.tail (.tail (.tail (.tail (.tail (.tail (.tail .head))))))))))) : Slot (c := (d : Thread nD τ)) (All d arg1 arg2 arg3 arg4 arg5 arg6 arg7 arg8 arg9 arg10 arg11 arg12 arg13) arg12)) _) ?_
  refine Run.bind (a := x13) (σ' := (x1, x2, x3, x4, x5, x6, x7, x8, x9, x10, x11, x12, x13, ())) (Run.loadAll (((.tail (.tail (.tail (.tail (.tail (.tail (.tail (.tail (.tail (.tail (.tail (.tail .head)))))))))))) : Slot (c := (d : Thread nD τ)) (All d arg1 arg2 arg3 arg4 arg5 arg6 arg7 arg8 arg9 arg10 arg11 arg12 arg13) arg13)) _) ?_
  generalize marginOf x11 x12 x13 = M
  generalize tokOf (fold x11) (fold x13) = T
  generalize topOf (fold x11) = U
  unfold results
  refine Run.bind (Run.loadAll (((.tail (.tail (.tail .head))) : Slot (c := (d : Thread nD τ)) (All d arg1 arg2 arg3 arg4 arg5 arg6 arg7 arg8 arg9 arg10 arg11 arg12 arg13) arg4)) _) ?_
  refine Run.bind (Run.storeAll (((.tail (.tail (.tail .head))) : Slot (c := (d : Thread nD τ)) (All d arg1 arg2 arg3 arg4 arg5 arg6 arg7 arg8 arg9 arg10 arg11 arg12 arg13) arg4)) _) ?_
  refine Run.bind (Run.loadAll (((.tail (.tail (.tail (.tail (.tail .head))))) : Slot (c := (d : Thread nD τ)) (All d arg1 arg2 arg3 arg4 arg5 arg6 arg7 arg8 arg9 arg10 arg11 arg12 arg13) arg6)) _) ?_
  refine Run.bind (Run.storeAll (((.tail (.tail (.tail (.tail (.tail .head))))) : Slot (c := (d : Thread nD τ)) (All d arg1 arg2 arg3 arg4 arg5 arg6 arg7 arg8 arg9 arg10 arg11 arg12 arg13) arg6)) _) ?_
  refine Run.bind (Run.loadAll (((.tail (.tail (.tail (.tail .head)))) : Slot (c := (d : Thread nD τ)) (All d arg1 arg2 arg3 arg4 arg5 arg6 arg7 arg8 arg9 arg10 arg11 arg12 arg13) arg5)) _) ?_
  exact Run.storeAll (((.tail (.tail (.tail (.tail .head)))) : Slot (c := (d : Thread nD τ)) (All d arg1 arg2 arg3 arg4 arg5 arg6 arg7 arg8 arg9 arg10 arg11 arg12 arg13) arg5)) _

end

/-- A step that is neither the first nor the last. -/
theorem body_run_mid (i : grid0.Coords) (h1 : ¬ isFirst i = 1#1) (h2 : ¬ k0_cond2 i = 1#1) (x1 : S16x8192.Idx → Elt F .bf16)
    (x2 : S512x4096.Idx → Elt F .i8)
    (x3 : S512x256.Idx → Elt F .bf16)
    (x4 : S16x1.Idx → Elt F .i32)
    (x5 : S16x1.Idx → Elt F .f32)
    (x6 : S16x1.Idx → Elt F .f32)
    (x7 : S512x256.Idx → Elt F .bf16)
    (x8 : S32x16384.Idx → Elt F .bf16)
    (x9 : S256x2x256.Idx → Elt F .bf16)
    (x10 : S256x2x256.Idx → Elt F .bf16)
    (x11 : S32x256.Idx → Elt F .f32)
    (x12 : S32x256.Idx → Elt F .f32)
    (x13 : S32x256.Idx → Elt F .i32) :
    Run (d : Thread nD τ) defs Variants.none none E (All d arg1 arg2 arg3 arg4 arg5 arg6 arg7 arg8 arg9 arg10 arg11 arg12 arg13) (x1, x2, x3, x4, x5, x6, x7, x8, x9, x10, x11, x12, x13, ()) (body (F := F) i arg1 harg1 arg2 harg2 arg3 harg3 arg4 harg4 arg5 harg5 arg6 harg6 arg7 harg7 arg8 harg8 arg9 harg9 arg10 harg10 arg11 harg11 arg12 harg12 arg13 harg13) ⟨⟩
      (x1, x2, x3, x4, x5, x6, x7, x8, scaleWords 0 x3, scaleWords 1 x3, newTop (lanes i x2 x8 x3) x11, newNext (lanes i x2 x8 x3) x11 x12, newIds i (lanes i x2 x8 x3) x11 x13, ()) := by
  unfold body opening closing
  rw [if_neg h1, if_neg h2]
  refine Run.bind (Run.pure _ _) ?_
  refine Run.bind (scales_run x1 x2 x3 x4 x5 x6 x7 x8 x9 x10 x11 x12 x13) ?_
  refine Run.bind (Run.carry _ (fun c a b => chunk_run x1 x2 x3 x4 x5 x6 x7 x8 _ _ x11 x12 x13 c a b) 32 _ _) ?_
  refine Run.bind (update_run x1 x2 x3 x4 x5 x6 x7 x8 _ _ x11 x12 x13 i _) ?_
  exact Run.pure _ _

/-- The first step. -/
theorem body_run_first (i : grid0.Coords) (h1 : isFirst i = 1#1) (h2 : ¬ k0_cond2 i = 1#1) (x1 : S16x8192.Idx → Elt F .bf16)
    (x2 : S512x4096.Idx → Elt F .i8)
    (x3 : S512x256.Idx → Elt F .bf16)
    (x4 : S16x1.Idx → Elt F .i32)
    (x5 : S16x1.Idx → Elt F .f32)
    (x6 : S16x1.Idx → Elt F .f32)
    (x7 : S512x256.Idx → Elt F .bf16)
    (x8 : S32x16384.Idx → Elt F .bf16)
    (x9 : S256x2x256.Idx → Elt F .bf16)
    (x10 : S256x2x256.Idx → Elt F .bf16)
    (x11 : S32x256.Idx → Elt F .f32)
    (x12 : S32x256.Idx → Elt F .f32)
    (x13 : S32x256.Idx → Elt F .i32) :
    Run (d : Thread nD τ) defs Variants.none none E (All d arg1 arg2 arg3 arg4 arg5 arg6 arg7 arg8 arg9 arg10 arg11 arg12 arg13) (x1, x2, x3, x4, x5, x6, x7, x8, x9, x10, x11, x12, x13, ()) (body (F := F) i arg1 harg1 arg2 harg2 arg3 harg3 arg4 harg4 arg5 harg5 arg6 harg6 arg7 harg7 arg8 harg8 arg9 harg9 arg10 harg10 arg11 harg11 arg12 harg12 arg13 harg13) ⟨⟩
      (x1, x2, x3, x4, x5, x6, stacked x1 x7, spreadAll (stacked x1 x7) x8, scaleWords 0 x3, scaleWords 1 x3, newTop (lanes i x2 (spreadAll (stacked x1 x7) x8) x3) lowest, newNext (lanes i x2 (spreadAll (stacked x1 x7) x8) x3) lowest lowest, newIds i (lanes i x2 (spreadAll (stacked x1 x7) x8) x3) lowest noIds, ()) := by
  unfold body opening closing
  rw [if_pos h1, if_neg h2]
  refine Run.bind (first_run x1 x2 x3 x4 x5 x6 x7 x8 x9 x10 x11 x12 x13) ?_
  refine Run.bind (scales_run _ _ _ _ _ _ _ _ _ _ _ _ _) ?_
  refine Run.bind (Run.carry _ (fun c a b => chunk_run _ _ _ _ _ _ _ _ _ _ _ _ _ c a b) 32 _ _) ?_
  refine Run.bind (update_run _ _ _ _ _ _ _ _ _ _ _ _ _ i _) ?_
  exact Run.pure _ _

/-- The last step. -/
theorem body_run_last (i : grid0.Coords) (h1 : ¬ isFirst i = 1#1) (h2 : k0_cond2 i = 1#1) (x1 : S16x8192.Idx → Elt F .bf16)
    (x2 : S512x4096.Idx → Elt F .i8)
    (x3 : S512x256.Idx → Elt F .bf16)
    (x4 : S16x1.Idx → Elt F .i32)
    (x5 : S16x1.Idx → Elt F .f32)
    (x6 : S16x1.Idx → Elt F .f32)
    (x7 : S512x256.Idx → Elt F .bf16)
    (x8 : S32x16384.Idx → Elt F .bf16)
    (x9 : S256x2x256.Idx → Elt F .bf16)
    (x10 : S256x2x256.Idx → Elt F .bf16)
    (x11 : S32x256.Idx → Elt F .f32)
    (x12 : S32x256.Idx → Elt F .f32)
    (x13 : S32x256.Idx → Elt F .i32) :
    Run (d : Thread nD τ) defs Variants.none none E (All d arg1 arg2 arg3 arg4 arg5 arg6 arg7 arg8 arg9 arg10 arg11 arg12 arg13) (x1, x2, x3, x4, x5, x6, x7, x8, x9, x10, x11, x12, x13, ()) (body (F := F) i arg1 harg1 arg2 harg2 arg3 harg3 arg4 harg4 arg5 harg5 arg6 harg6 arg7 harg7 arg8 harg8 arg9 harg9 arg10 harg10 arg11 harg11 arg12 harg12 arg13 harg13) ⟨⟩
      (x1, x2, x3, tokOf (fold (newTop (lanes i x2 x8 x3) x11)) (fold (newIds i (lanes i x2 x8 x3) x11 x13)),
        marginOf (newTop (lanes i x2 x8 x3) x11) (newNext (lanes i x2 x8 x3) x11 x12) (newIds i (lanes i x2 x8 x3) x11 x13),
        topOf (fold (newTop (lanes i x2 x8 x3) x11)), x7, x8, scaleWords 0 x3, scaleWords 1 x3,
        newTop (lanes i x2 x8 x3) x11, newNext (lanes i x2 x8 x3) x11 x12, newIds i (lanes i x2 x8 x3) x11 x13, ()) := by
  unfold body opening closing
  rw [if_neg h1, if_pos h2]
  refine Run.bind (Run.pure _ _) ?_
  refine Run.bind (scales_run x1 x2 x3 x4 x5 x6 x7 x8 x9 x10 x11 x12 x13) ?_
  refine Run.bind (Run.carry _ (fun c a b => chunk_run x1 x2 x3 x4 x5 x6 x7 x8 _ _ x11 x12 x13 c a b) 32 _ _) ?_
  refine Run.bind (update_run x1 x2 x3 x4 x5 x6 x7 x8 _ _ x11 x12 x13 i _) ?_
  exact last_run _ _ _ _ _ _ _ _ _ _ _ _ _

end Cert.KernelIdeal.Body

end
-- ==== Proof.Spread.lean ====
/- The activations spread over the lanes, read at an index. -/
module

public import proofs.«01_k».proof.Proof.IdealRun
public import Idealize.ShloMosaic.Lib.Pointwise

@[expose] public section

set_option maxRecDepth 16384

noncomputable section

namespace Cert.KernelIdeal.Body

open Cert.KernelIdeal
open Idealize.ShloMosaic Idealize.ShloMosaic.TcCoe Idealize.SL.Sem

/-- The column at which row `p` of a slice lands, `m` the parity. -/
theorem target_at (m : Fin 2) (p : Fin 256) (q : Fin 512) :
    target (BitVec.ofNat 32 (2 * m.val)) (ix2 p q) = BitVec.ofNat 32 (4 * (16 * (p.val / 32) + p.val % 16) + 2 * m.val + p.val / 16 % 2) := by
  pointwise [target]
  clear q
  revert m p
  decide +kernel

/-- The column of a slice that column `q` of the spread slice takes. -/
def source (q : Fin 512) : Fin 256 := ⟨32 * (q.val / 64) + 16 * (q.val % 2) + q.val / 4 % 16, by omega⟩

theorem selector_at (m : Fin 2) (p : Fin 256) (q : Fin 512) :
    selector (F := Ideal) (BitVec.ofNat 32 (2 * m.val)) (ix2 p q) = if q.val / 2 % 2 = m.val ∧ p = source q then 1 else 0 := by
  pointwise [selector]
  rw [target_at]
  have e : (q.val / 2 % 2 = m.val ∧ p = source q) ↔ BitVec.ofNat 32 q.val = BitVec.ofNat 32 (4 * (16 * (p.val / 32) + p.val % 16) + 2 * m.val + p.val / 16 % 2) := by
    rw [← BitVec.toNat_inj, BitVec.toNat_ofNat, BitVec.toNat_ofNat, Fin.ext_iff, source]
    have := q.isLt
    have := p.isLt
    have := m.isLt
    rw [Nat.mod_eq_of_lt (by omega : q.val < 2 ^ 32), Nat.mod_eq_of_lt (by omega : 4 * (16 * (p.val / 32) + p.val % 16) + 2 * m.val + p.val / 16 % 2 < 2 ^ 32)]
    simp only
    have hq : q.val = 64 * (q.val / 64) + 4 * (q.val / 4 % 16) + 2 * (q.val / 2 % 2) + q.val % 2 := by omega
    have hp : p.val = 32 * (p.val / 32) + 16 * (p.val / 16 % 2) + p.val % 16 := by omega
    constructor
    · rintro ⟨h1, h2⟩
      have a1 : p.val / 32 = q.val / 64 := by omega
      have a2 : p.val % 16 = q.val / 4 % 16 := by omega
      have a3 : p.val / 16 % 2 = q.val % 2 := by omega
      rw [a1, a2, a3]
      omega
    · intro h1
      have b1 : q.val / 64 = p.val / 32 := by omega
      have b2 : q.val / 4 % 16 = p.val % 16 := by omega
      have b3 : q.val % 2 = p.val / 16 % 2 := by omega
      have b4 : q.val / 2 % 2 = m.val := by omega
      refine ⟨b4, ?_⟩
      rw [b1, b2, b3]
      omega
  by_cases h : q.val / 2 % 2 = m.val ∧ p = source q
  · rw [if_pos h]
    have h' := e.mp h
    simp [IntOp.cmpi, h', FloatOps.sitofp]
  · rw [if_neg h]
    have h' : ¬ (BitVec.ofNat 32 q.val = BitVec.ofNat 32 (4 * (16 * (p.val / 32) + p.val % 16) + 2 * m.val + p.val / 16 % 2)) := fun hh => h (e.mpr hh)
    rw [IntOp.cmpi]
    simp only [beq_eq_false_iff_ne.mpr h']
    simp [FloatOps.sitofp]

theorem spread_at (m : Fin 2) (x : FVec Ideal S512x256 .bf16) (p q : Fin 512) :
    spread (F := Ideal) (BitVec.ofNat 32 (2 * m.val)) x (ix2 p q) = if q.val / 2 % 2 = m.val then x (ix2 p (source q)) else 0 := by
  pointwise [spread]
  have hs : ∀ k : Fin 256, x (ix2 p k) * selector (F := Ideal) (BitVec.ofNat 32 (2 * m.val)) (ix2 k q)
      = if k = source q then (if q.val / 2 % 2 = m.val then x (ix2 p (source q)) else 0) else 0 := by
    intro k
    rw [selector_at]
    by_cases h1 : q.val / 2 % 2 = m.val
    · by_cases h2 : k = source q
      · subst h2; simp [h1]
      · simp [h2]
    · simp [h1]
  rw [Finset.sum_congr rfl fun k _ => hs k]
  simp

/-! ## Steps that each write one part -/

/-- Steps that leave a point alone. -/
theorem steps_keep {ι α : Type} (step : Fin 32 → (ι → α) → ι → α) (j : ι) (h : ∀ c Y, step c Y j = Y j) :
    ∀ n Y, Cert.Mem.steps step n Y j = Y j
  | 0, _ => rfl
  | n + 1, Y => (steps_keep step j h n _).trans (h _ _)

theorem steps_stay {ι α : Type} (step : Fin 32 → (ι → α) → ι → α) (j : ι) (c₀ : Fin 32) (v : α) (h₀ : ∀ Y, step c₀ Y j = v)
    (h : ∀ c, c ≠ c₀ → ∀ Y, step c Y j = Y j) : ∀ n Y, Y j = v → Cert.Mem.steps step n Y j = v
  | 0, _, hY => hY
  | n + 1, Y, hY => by
    refine steps_stay step j c₀ v h₀ h n _ ?_
    by_cases hc : Cert.Mem.ix n = c₀
    · rw [hc, h₀]
    · rw [h _ hc, hY]

/-- Of steps of which one writes a point, and always the same value, that value is left. -/
theorem steps_at {ι α : Type} (step : Fin 32 → (ι → α) → ι → α) (j : ι) (c₀ : Fin 32) (v : α) (h₀ : ∀ Y, step c₀ Y j = v)
    (h : ∀ c, c ≠ c₀ → ∀ Y, step c Y j = Y j) : ∀ n Y, n ≤ 32 → 32 ≤ c₀.val + n → Cert.Mem.steps step n Y j = v
  | 0, _, _, hn => absurd c₀.isLt (by omega)
  | n + 1, Y, h32, hn => by
    by_cases hc : Cert.Mem.ix n = c₀
    · refine steps_stay step j c₀ v h₀ h n _ ?_
      rw [hc, h₀]
    · refine steps_at step j c₀ v h₀ h n _ (by omega) ?_
      have : (Cert.Mem.ix n).val ≠ c₀.val := fun e => hc (Fin.ext e)
      simp only [Cert.Mem.ix] at this
      omega

theorem stacked_at (X : FVec Ideal S16x8192 .bf16) (Y : FVec Ideal S512x256 .bf16) (r : Fin 512) (p : Fin 256) :
    stacked (F := Ideal) X Y (ix2 r p) = X (ix2 ⟨r.val % 16, by omega⟩ ⟨256 * (r.val / 16) + p.val, by omega⟩) := by
  unfold stacked
  have hr : r.val / 16 < 32 := by omega
  refine steps_at (copied (F := Ideal) X) (ix2 r p : S512x256.Idx) ⟨r.val / 16, hr⟩ _ (fun Y' => ?_) (fun c hc Y' => ?_) 32 Y (le_refl _) (by simp)
  · unfold copied
    have e : (ix2 r p : S512x256.Idx) = (Rect.unit (s := S512x256) ![16 * (r.val / 16), 0] S16x256.size (inbXs ⟨r.val / 16, hr⟩)).emb (ix2 (⟨r.val % 16, by omega⟩ : Fin 16) p : S16x256.Idx) := by
      idx_ext
    rw [e, Rect.overlay_emb, shapeCast_shapeCast]
    refine congrArg X ?_
    idx_ext
  · unfold copied
    refine Rect.overlay_of_not_mem _ _ _ ?_
    rw [Rect.mem_set_unit]
    intro hm
    apply hc
    have h0 := hm 0
    have : 16 * c.val ≤ r.val ∧ r.val < 16 * c.val + 16 := h0
    exact Fin.ext (by simp only; omega)

/-- One slice of the spread activations stored: the points it writes. -/
theorem placed_in (m : Fin 2) (o : FVec Ideal S512x512 .bf16) (c : Fin 32) (Y : FVec Ideal S32x16384 .bf16) (b : Fin 16) (q : Fin 512)
    (R : Fin 32) (C : Fin 16384) (hR : R.val = 16 * m.val + b.val) (hC : C.val = 512 * c.val + q.val) :
    placed (F := Ideal) m o c Y (ix2 R C) = o (ix2 ⟨16 * c.val + b.val, by omega⟩ q) := by
  unfold placed
  have e : (ix2 R C : S32x16384.Idx) = (Rect.unit (s := S32x16384) ![16 * m.val, 512 * c.val] S16x512.size (inbXp m c)).emb (ix2 b q : S16x512.Idx) := by
    obtain ⟨R, hR0⟩ := R
    obtain ⟨C, hC0⟩ := C
    simp only at hR hC
    subst hR hC
    idx_ext
  rw [e, Rect.overlay_emb, shapeCast_self]
  pointwise

theorem placed_out (m : Fin 2) (o : FVec Ideal S512x512 .bf16) (c : Fin 32) (Y : FVec Ideal S32x16384 .bf16)
    (R : Fin 32) (C : Fin 16384) (h : R.val / 16 ≠ m.val ∨ C.val / 512 ≠ c.val) :
    placed (F := Ideal) m o c Y (ix2 R C) = Y (ix2 R C) := by
  unfold placed
  refine Rect.overlay_of_not_mem _ _ _ ?_
  rw [Rect.mem_set_unit]
  intro hm
  have h0 : 16 * m.val ≤ R.val ∧ R.val < 16 * m.val + 16 := hm 0
  have h1 : 512 * c.val ≤ C.val ∧ C.val < 512 * c.val + 512 := hm 1
  omega

theorem placedAll_at (m : Fin 2) (x : FVec Ideal S512x256 .bf16) (Y : FVec Ideal S32x16384 .bf16) (b : Fin 16) (c : Fin 32) (q : Fin 512)
    (R : Fin 32) (C : Fin 16384) (hR : R.val = 16 * m.val + b.val) (hC : C.val = 512 * c.val + q.val) :
    Cert.Mem.steps (placed (F := Ideal) m (spread (F := Ideal) (BitVec.ofNat 32 (2 * m.val)) x)) 32 Y (ix2 R C)
      = if q.val / 2 % 2 = m.val then x (ix2 ⟨16 * c.val + b.val, by omega⟩ (source q)) else 0 := by
  refine steps_at (placed (F := Ideal) m (spread (F := Ideal) (BitVec.ofNat 32 (2 * m.val)) x)) (ix2 R C : S32x16384.Idx) c _ (fun Y' => ?_) (fun c' hc Y' => ?_) 32 Y (le_refl _) (by omega)
  · exact (placed_in m _ c Y' b q R C hR hC).trans (spread_at m x _ q)
  · refine placed_out m _ c' Y' R C (Or.inr fun e => hc (Fin.ext ?_))
    omega

/-- The spread activations: row `16 m + b` holds row `b`, column `256 c + source q` at `512 c + q` if `q` is of half `m`, else zero. -/
theorem spreadAll_at (X : FVec Ideal S16x8192 .bf16) (Y7 : FVec Ideal S512x256 .bf16) (Y : FVec Ideal S32x16384 .bf16) (m : Fin 2) (b : Fin 16) (c : Fin 32) (q : Fin 512)
    (R : Fin 32) (C : Fin 16384) (hR : R.val = 16 * m.val + b.val) (hC : C.val = 512 * c.val + q.val) :
    spreadAll (F := Ideal) (stacked (F := Ideal) X Y7) Y (ix2 R C)
      = if q.val / 2 % 2 = m.val then X (ix2 b ⟨256 * c.val + (source q).val, by omega⟩) else 0 := by
  have hs : stacked (F := Ideal) X Y7 (ix2 ⟨16 * c.val + b.val, by omega⟩ (source q)) = X (ix2 b ⟨256 * c.val + (source q).val, by omega⟩) := by
    rw [stacked_at]
    refine congrArg X (congrArg₂ ix2 (Fin.ext ?_) (Fin.ext ?_)) <;> simp only <;> omega
  rw [← hs]
  unfold spreadAll
  by_cases h : m = 1
  · subst h
    exact placedAll_at 1 _ _ b c q R C hR hC
  · have h0 : m = 0 := by omega
    subst h0
    refine (steps_keep (placed (F := Ideal) 1 (spread (F := Ideal) 2#32 (stacked (F := Ideal) X Y7))) (ix2 R C : S32x16384.Idx) (fun c' Y' => placed_out 1 _ c' Y' R C (Or.inl ?_)) 32 _).trans ?_
    · have h1 : ((0 : Fin 2) : ℕ) = 0 := rfl
      have h2 : ((1 : Fin 2) : ℕ) = 1 := rfl
      omega
    · exact placedAll_at 0 _ _ b c q R C hR hC

end Cert.KernelIdeal.Body
-- ==== Proof.Quant.lean ====
/- The packed weights, read at an index. -/
module

public import proofs.«01_k».proof.Proof.IdealRun
public import Idealize.ShloMosaic.Lib.Pointwise
public import Idealize.ShloMosaic.Lib.BitcastPair
public import Idealize.ShloMosaic.Lib.BitcastFour

@[expose] public section

set_option maxRecDepth 16384

noncomputable section

namespace Cert.KernelIdeal.Body

open Cert.KernelIdeal
open Idealize.ShloMosaic Idealize.ShloMosaic.TcCoe Idealize.SL.Sem

/-- The nibbles of a byte, less eight. -/
def nibble (w : BitVec 8) (h : ℕ) : EReal := (((((w.toNat / 16 ^ h % 16 : ℕ) : ℤ) - 8 : ℤ) : ℝ) : EReal)

/-- A word's nibble, moved to the top and shifted back with its sign. -/
theorem shifted (w : BitVec 32) (n : Fin 8) :
    IntOp.shrsi .vector (IntOp.shli .vector w (BitVec.ofNat 32 (28 - 4 * n.val))) 28#32 = (w.extractLsb' (4 * n.val) 4).signExtend 32 := by
  have e : (BitVec.ofNat 32 (28 - 4 * n.val)).toNat = 28 - 4 * n.val := by
    rw [BitVec.toNat_ofNat, Nat.mod_eq_of_lt]
    omega
  rw [IntOp.shrsi, if_pos (by decide), IntOp.shli, if_pos (by rw [e]; omega)]
  apply BitVec.eq_of_getLsbD_eq
  intro i hi
  have e' : (28#32).toNat = 28 := rfl
  rw [BitVec.sshiftRight', e', BitVec.getLsbD_sshiftRight, BitVec.getLsbD_signExtend, BitVec.shiftLeft_eq', e]
  simp only [BitVec.msb_eq_getLsbD_last, BitVec.getLsbD_shiftLeft, BitVec.getLsbD_extractLsb']
  have hn := n.isLt
  by_cases h4 : i < 4
  · rw [if_pos (by omega), if_pos h4]
    simp [show ¬ 32 ≤ i by omega, hi, show 28 + i < 32 by omega, h4, show ¬ (28 + i < 28 - 4 * n.val) by omega]
    congr 1
    omega
  · rw [if_neg (by omega), if_neg h4]
    rw [show 32 - 1 - (28 - 4 * n.val) = 4 * n.val + 3 by omega]
    simp [hi, show ¬ 31 < 28 - 4 * n.val by omega]

theorem extracted (b : BitVec 8) : ((((b ^^^ 0x88#8).extractLsb' 0 4).signExtend 32).toInt = (b.toNat % 16 : ℕ) - (8 : ℤ))
    ∧ ((((b ^^^ 0x88#8).extractLsb' 4 4).signExtend 32).toInt = (b.toNat / 16 % 16 : ℕ) - (8 : ℤ)) := by
  revert b
  decide +kernel

/-- A bit of a two-axis bit-cast. -/
theorem bit_at {v w R r n : ℕ} (x : (⟨2, ![R, n]⟩ : Shape).Idx → BitVec v) (h : (⟨2, ![R, n]⟩ : Shape).Bitcasts v ⟨2, ![r, n]⟩ w)
    (a : Fin r) (l : Fin n) (q : ℕ) (hq : q < w) (hv : 0 < v) (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- A chunk's words hold four bytes each: two columns of two rows. -/
theorem words_at (w : IVec S512x128 8) (r : Fin 64) (j : Fin 256) (i : ℕ) (hi : i < 32) :
    (words (F := Ideal) w (ix2 r j)).getLsbD i
      = (w (ix2 ⟨2 * j.val + i / 8 % 2, by omega⟩ ⟨2 * r.val + i / 16, by omega⟩) ^^^ 0x88#8).getLsbD (i % 8) := by
  pointwise [words]
  rw [IntOp.xori, BitVec.getLsbD_xor, BitVec.getLsbD_xor]
  congr 1
  · rw [bit_at _ _ r j i hi (by decide) (⟨2 * r.val + i / 16, by omega⟩ : Fin 128) (by simp only; omega)]
    pointwise
    rw [bit_at _ _ j _ _ (by omega) (by decide) (⟨j.val / 2, by omega⟩ : Fin 128) (by simp only; omega)]
    rw [bit_at _ _ _ _ _ (by omega) (by decide) (⟨2 * j.val + i / 8 % 2, by omega⟩ : Fin 512) (by simp only; omega)]
    congr 1
    simp only
    omega
  · have : ∀ i : Fin 32, (2290649224#32).getLsbD i.val = (0x88#8).getLsbD (i.val % 8) := by decide
    exact this ⟨i, hi⟩

theorem quant_at (w : IVec S512x128 8) (P : Fin 512) (j : Fin 256) :
    quant (F := Ideal) w (ix2 P j) = nibble (w (ix2 ⟨2 * j.val + P.val / 2 % 2, by omega⟩ ⟨P.val / 4, by omega⟩)) (P.val % 2) := by
  have key : quant (F := Ideal) w (ix2 P j) = FloatOps.sitofp .bf16 (((words (F := Ideal) w (ix2 ⟨P.val / 8, by omega⟩ j)).extractLsb' (4 * (P.val % 8)) 4).signExtend 32) := by
    pointwise [quant, nib]
    have sh := fun n => shifted (words (F := Ideal) w (ix2 ⟨P.val / 8, by omega⟩ j)) n
    have hP : P.val % 8 = 0 ∨ P.val % 8 = 1 ∨ P.val % 8 = 2 ∨ P.val % 8 = 3 ∨ P.val % 8 = 4 ∨ P.val % 8 = 5 ∨ P.val % 8 = 6 ∨ P.val % 8 = 7 := by omega
    rcases hP with hP | hP | hP | hP | hP | hP | hP | hP
    all_goals simp only [hP, Nat.reduceSub, Nat.reduceLT, ↓reduceDIte]
    · exact congrArg (FloatOps.sitofp (F := Ideal) .bf16) (sh 0)
    · exact congrArg (FloatOps.sitofp (F := Ideal) .bf16) (sh 1)
    · exact congrArg (FloatOps.sitofp (F := Ideal) .bf16) (sh 2)
    · exact congrArg (FloatOps.sitofp (F := Ideal) .bf16) (sh 3)
    · exact congrArg (FloatOps.sitofp (F := Ideal) .bf16) (sh 4)
    · exact congrArg (FloatOps.sitofp (F := Ideal) .bf16) (sh 5)
    · exact congrArg (FloatOps.sitofp (F := Ideal) .bf16) (sh 6)
    · exact congrArg (FloatOps.sitofp (F := Ideal) .bf16) (sh 7)
  rw [key]
  have hx : (words (F := Ideal) w (ix2 ⟨P.val / 8, by omega⟩ j)).extractLsb' (4 * (P.val % 8)) 4
      = (w (ix2 ⟨2 * j.val + P.val / 2 % 2, by omega⟩ ⟨P.val / 4, by omega⟩) ^^^ 0x88#8).extractLsb' (4 * (P.val % 2)) 4 := by
    apply BitVec.eq_of_getLsbD_eq
    intro i hi
    rw [BitVec.getLsbD_extractLsb', BitVec.getLsbD_extractLsb', words_at _ _ _ _ (by omega)]
    simp only [hi, decide_true, Bool.true_and]
    have e0 : (4 * (P.val % 8) + i) / 8 % 2 = P.val / 2 % 2 := by omega
    have e1 : 2 * (P.val / 8) + (4 * (P.val % 8) + i) / 16 = P.val / 4 := by omega
    have e2 : (4 * (P.val % 8) + i) % 8 = 4 * (P.val % 2) + i := by omega
    simp only [e0, e1, e2]
  rw [hx]
  show (((BitVec.signExtend 32 _).toInt : ℝ) : EReal) = _
  generalize w _ = b
  unfold nibble
  rcases Nat.mod_two_eq_zero_or_one P.val with h | h
  · rw [h]
    have := (extracted b).1
    rw [show 4 * 0 = 0 from rfl, this]
    simp
  · rw [h]
    have := (extracted b).2
    rw [show 4 * 1 = 4 from rfl, this]
    simp

end Cert.KernelIdeal.Body
-- ==== Proof.Weights.lean ====
/- The scales and the chunk's weights, read at an index. -/
module

public import proofs.«01_k».proof.Proof.IdealRun
public import Idealize.ShloMosaic.Lib.Pointwise

@[expose] public section

set_option maxRecDepth 16384

noncomputable section

namespace Cert.KernelIdeal.Body

open Cert.KernelIdeal
open Cert.KernelIdeal.Facts₀
open Idealize.ShloMosaic Idealize.ShloMosaic.TcCoe Idealize.SL.Sem

theorem scaleWords_at (p : Fin 2) (v : FVec Ideal S512x256 .bf16) (r : Fin 256) (a : Fin 2) (j : Fin 256) :
    scaleWords (F := Ideal) p v (ix3 r a j) = v (ix2 ⟨2 * j.val + p.val, by omega⟩ r) := by
  pointwise [scaleWords]
  exact ite_self _

theorem half_at (p : Fin 2) (v : FVec Ideal S8x2x256 .bf16) (r : Fin 8) (j : Fin 256) :
    half (F := Ideal) p v (ix2 r j) = v (ix3 r p j) := by
  pointwise [half]

theorem evenRows_at (r : Fin 8) (j : Fin 256) :
    evenRows (ix2 r j) = BitVec.ofBool (r.val % 2 = 0) := by
  pointwise [evenRows]
  clear j
  revert r
  decide +kernel

theorem rows8_at (g : Fin 8) (v : FVec Ideal S8x256 .bf16) (r : Fin 8) (j : Fin 256) :
    rows8 (F := Ideal) g v (ix2 r j) = v (ix2 g j) := by
  pointwise [rows8]
  fin_vals r with hr
  all_goals simp only [hr, Nat.reduceSub, Nat.reduceLT, ↓reduceDIte]
  all_goals rfl

theorem scale16_at (g : Fin 8) (lo hi : FVec Ideal S8x2x256 .bf16) (r : Fin 16) (j : Fin 256) :
    scale16 (F := Ideal) g lo hi (ix2 r j)
      = if r.val / 2 % 2 = 0 then lo (ix3 g ⟨r.val % 2, by omega⟩ j) else hi (ix3 g ⟨r.val % 2, by omega⟩ j) := by
  pointwise [scale16]
  simp only [evenRows_at, rows8_at, half_at]
  have h2 : r.val % 2 = 0 ∨ r.val % 2 = 1 := by omega
  have h4 : r.val / 2 % 2 = 0 ∨ r.val / 2 % 2 = 1 := by omega
  rcases h2 with h2 | h2 <;> rcases h4 with h4 | h4 <;> simp [h2, h4, Scalar.select]

/-- A chunk's weight: a signed nibble times its group's scale. -/
def weight (q : FVec Ideal S512x256 .bf16) (lo hi : FVec Ideal S8x2x256 .bf16) (P : Fin 512) (j : Fin 256) : EReal :=
  q (ix2 P j) * if P.val / 2 % 2 = 0 then lo (ix3 ⟨P.val / 64, by omega⟩ ⟨P.val % 2, by omega⟩ j) else hi (ix3 ⟨P.val / 64, by omega⟩ ⟨P.val % 2, by omega⟩ j)

theorem piece_at (g : Fin 8) (k : Fin 4) (q : FVec Ideal S512x256 .bf16) (lo hi : FVec Ideal S8x2x256 .bf16) (r : Fin 16) (j : Fin 256)
    (P : Fin 512) (hP : P.val = 64 * g.val + 16 * k.val + r.val) :
    piece (F := Ideal) q lo hi g k (ix2 r j) = weight q lo hi P j := by
  pointwise [piece]
  rw [scale16_at, weight]
  have e0 : (ix2 (⟨64 * g.val + 16 * k.val + r.val, by omega⟩ : Fin 512) j : S512x256.Idx) = ix2 P j := congrArg (fun P => ix2 P j) (Fin.ext hP.symm)
  have e1 : (⟨P.val / 64, by omega⟩ : Fin 8) = g := Fin.ext (by simp only; omega)
  have e2 : P.val % 2 = r.val % 2 := by omega
  have e3 : P.val / 2 % 2 = r.val / 2 % 2 := by omega
  simp only [e1, e2, e3]
  exact congrArg (· * _) (congrArg q e0)

theorem weights_at (t : Fin 2) (q : FVec Ideal S512x256 .bf16) (lo hi : FVec Ideal S8x2x256 .bf16) (P : Fin 256) (j : Fin 256) :
    weights (F := Ideal) t q lo hi (ix2 P j) = weight q lo hi ⟨256 * t.val + P.val, by omega⟩ j := by
  have e := concatenate_ofFn_apply (t := S256x256) (s₁ := S16x256) (0 : Fin 2) (N := 16)
    (fun n => piece (F := Ideal) q lo hi ⟨4 * t.val + n.val / 4, by omega⟩ ⟨n.val % 4, by omega⟩)
    concatenates_S16x256_S16x256_S16x256_S16x256_S16x256_S16x256_S16x256_S16x256_S16x256_S16x256_S16x256_S16x256_S16x256_S16x256_S16x256_S16x256_S256x256_d0
    rfl 16 rfl (ix2 P j) ⟨P.val / 16, by omega⟩ rfl (ix2 (⟨P.val % 16, by omega⟩ : Fin 16) j) rfl
    (fun b hb => match b, hb with
      | ⟨0, _⟩, hb => absurd rfl hb
      | ⟨1, _⟩, _ => rfl)
  refine Eq.trans ?_ (e.trans (piece_at _ _ _ _ _ _ _ _ (by simp only; omega)))
  rfl

end Cert.KernelIdeal.Body
-- ==== Proof.Sums.lean ====
/- A step's logits are the reference's sums over the packed columns. -/
module

public import proofs.«01_k».proof.Proof.Spread
public import proofs.«01_k».proof.Proof.Quant
public import proofs.«01_k».proof.Proof.Weights

@[expose] public section

set_option maxRecDepth 16384

noncomputable section

namespace Cert.KernelIdeal.Body

open Cert.KernelIdeal
open Cert.KernelIdeal.Facts₀
open Idealize.ShloMosaic Idealize.ShloMosaic.TcCoe Idealize.SL.Sem

/-- The sum of all chunks' terms is the sum over packed columns of the low and the high nibble's terms. -/
theorem sum_chunks (m : Fin 2) (g : Fin 32 → Fin 512 → EReal) (f : Fin 4096 → Fin 2 → EReal)
    (hg : ∀ (c : Fin 32) (u : Fin 128) (d : Fin 4), g c ⟨u.val * 4 + d.val, by omega⟩ = if d.val / 2 = m.val then f ⟨c.val * 128 + u.val, by omega⟩ ⟨d.val % 2, by omega⟩ else 0) :
    ∑ c, ∑ P, g c P = ∑ k, f k 0 + ∑ k, f k 1 := by
  rw [← Finset.sum_add_distrib, Fin.sum_univ_tiles 32 128 rfl (fun k => f k 0 + f k 1)]
  refine Finset.sum_congr rfl fun c _ => ?_
  rw [Fin.sum_univ_tiles 128 4 rfl (g c)]
  refine Finset.sum_congr rfl fun u _ => ?_
  rw [Finset.sum_congr rfl fun d _ => hg c u d]
  rw [Fin.sum_univ_four]
  have hm : m = 0 ∨ m = 1 := by omega
  rcases hm with rfl | rfl
  · simp
  · simp

theorem addDot_at (a : FVec Ideal S32x256 .f32) (x : FVec Ideal S32x256 .bf16) (w : FVec Ideal S256x256 .bf16) (R : Fin 32) (j : Fin 256) :
    addDot (F := Ideal) a x w (ix2 R j) = a (ix2 R j) + ∑ p : Fin 256, x (ix2 R p) * w (ix2 p j) := by
  pointwise [addDot]

/-- A chunk's term: a spread activation times a signed nibble times its scale. -/
def term (W : S512x4096.Idx → BitVec 8) (X : FVec Ideal S32x16384 .bf16) (S : FVec Ideal S512x256 .bf16) (R : Fin 32) (j : Fin 256) (c : Fin 32) (P : Fin 512) : EReal :=
  X (ix2 R ⟨512 * c.val + P.val, by omega⟩)
    * (nibble (W (ix2 ⟨2 * j.val + P.val / 2 % 2, by omega⟩ ⟨128 * c.val + P.val / 4, by omega⟩)) (P.val % 2)
      * S (ix2 ⟨2 * j.val + P.val / 2 % 2, by omega⟩ ⟨8 * c.val + P.val / 64, by omega⟩))

/-- A chunk's weight is a signed nibble times its scale. -/
theorem weight_chunk (W : S512x4096.Idx → BitVec 8) (S : FVec Ideal S512x256 .bf16) (c : Fin 32) (P : Fin 512) (j : Fin 256) :
    weight (quant (F := Ideal) (fun i => W ((Rect.unit (s := S512x4096) ![0, 128 * c.val] S512x128.size (inbW c)).emb i)))
        (fun i => scaleWords (F := Ideal) 0 S ((Rect.unit (s := S256x2x256) ![8 * c.val, 0, 0] S8x2x256.size (inbSc c)).emb i))
        (fun i => scaleWords (F := Ideal) 1 S ((Rect.unit (s := S256x2x256) ![8 * c.val, 0, 0] S8x2x256.size (inbSc c)).emb i)) P j
      = nibble (W (ix2 ⟨2 * j.val + P.val / 2 % 2, by omega⟩ ⟨128 * c.val + P.val / 4, by omega⟩)) (P.val % 2)
      * S (ix2 ⟨2 * j.val + P.val / 2 % 2, by omega⟩ ⟨8 * c.val + P.val / 64, by omega⟩) := by
  unfold weight
  rw [quant_at]
  have ew : (Rect.unit (s := S512x4096) ![0, 128 * c.val] S512x128.size (inbW c)).emb (ix2 (⟨2 * j.val + P.val / 2 % 2, by omega⟩ : Fin 512) (⟨P.val / 4, by omega⟩ : Fin 128) : S512x128.Idx)
      = (ix2 (⟨2 * j.val + P.val / 2 % 2, by omega⟩ : Fin 512) (⟨128 * c.val + P.val / 4, by omega⟩ : Fin 4096) : S512x4096.Idx) := by
    idx_ext
  have es : (Rect.unit (s := S256x2x256) ![8 * c.val, 0, 0] S8x2x256.size (inbSc c)).emb (ix3 (⟨P.val / 64, by omega⟩ : Fin 8) (⟨P.val % 2, by omega⟩ : Fin 2) j : S8x2x256.Idx)
      = (ix3 (⟨8 * c.val + P.val / 64, by omega⟩ : Fin 256) (⟨P.val % 2, by omega⟩ : Fin 2) j : S256x2x256.Idx) := by
    idx_ext
  simp only [ew, es]
  rw [scaleWords_at, scaleWords_at]
  have h2 : P.val / 2 % 2 = 0 ∨ P.val / 2 % 2 = 1 := by omega
  rcases h2 with h2 | h2
  · rw [if_pos h2]
    simp only [h2]
    rfl
  · rw [if_neg (by omega)]
    simp only [h2]
    rfl

/-- One chunk adds its terms to the two accumulators' total. -/
theorem chunkStep_at (W : S512x4096.Idx → BitVec 8) (X : FVec Ideal S32x16384 .bf16) (S : FVec Ideal S512x256 .bf16) (R : Fin 32) (j : Fin 256) (c : Fin 32)
    (p : FVec Ideal S32x256 .f32 × FVec Ideal S32x256 .f32) :
    (chunkStep (F := Ideal) W X (scaleWords (F := Ideal) 0 S) (scaleWords (F := Ideal) 1 S) c p).1 (ix2 R j)
        + (chunkStep (F := Ideal) W X (scaleWords (F := Ideal) 0 S) (scaleWords (F := Ideal) 1 S) c p).2 (ix2 R j)
      = (p.1 (ix2 R j) + p.2 (ix2 R j) : EReal) + ∑ P, term W X S R j c P := by
  unfold chunkStep
  dsimp only
  rw [addDot_at, addDot_at, Fin.sum_univ_two_halves 256 256 rfl (term W X S R j c)]
  have h : ∀ (t : Fin 2) (P : Fin 256),
      X ((Rect.unit (s := S32x16384) ![0, 512 * c.val + 256 * t.val] S32x256.size (inbXc c t)).emb (ix2 R P : S32x256.Idx))
        * weights (F := Ideal) t (quant (F := Ideal) (fun i => W ((Rect.unit (s := S512x4096) ![0, 128 * c.val] S512x128.size (inbW c)).emb i)))
        (fun i => scaleWords (F := Ideal) 0 S ((Rect.unit (s := S256x2x256) ![8 * c.val, 0, 0] S8x2x256.size (inbSc c)).emb i))
        (fun i => scaleWords (F := Ideal) 1 S ((Rect.unit (s := S256x2x256) ![8 * c.val, 0, 0] S8x2x256.size (inbSc c)).emb i)) (ix2 P j)
      = term W X S R j c ⟨256 * t.val + P.val, by omega⟩ := by
    intro t P
    rw [weights_at, weight_chunk, term]
    refine congrArg (fun z => X z * _) ?_
    idx_ext
  rw [Finset.sum_congr rfl fun P _ => h 0 P, Finset.sum_congr rfl fun P _ => h 1 P]
  have e0 : ∀ P : Fin 256, (⟨256 * ((0 : Fin 2) : ℕ) + P.val, by omega⟩ : Fin 512) = ⟨P.val, by omega⟩ := fun P => Fin.ext (by simp)
  have e1 : ∀ P : Fin 256, (⟨256 * ((1 : Fin 2) : ℕ) + P.val, by omega⟩ : Fin 512) = ⟨256 + P.val, by omega⟩ := fun P => Fin.ext (by simp)
  simp only [e0, e1]
  exact add_add_add_comm _ _ _ _

/-- Steps that each add to a total. -/
theorem steps_total {σ : Type} (step : Fin 32 → σ → σ) (tot : σ → EReal) (T : Fin 32 → EReal) (h : ∀ c p, tot (step c p) = tot p + T c) :
    ∀ n p, tot (Cert.Mem.steps step n p) = tot p + ∑ k ∈ Finset.range n, T (Cert.Mem.ix k)
  | 0, p => by simp [Cert.Mem.steps]
  | n + 1, p => by
    rw [Cert.Mem.steps, steps_total step tot T h n, h, Finset.sum_range_succ, add_assoc, add_comm (T _)]

/-- The two accumulators' total after all chunks. -/
theorem sums_at (W : S512x4096.Idx → BitVec 8) (X : FVec Ideal S32x16384 .bf16) (S : FVec Ideal S512x256 .bf16) (R : Fin 32) (j : Fin 256) :
    addf (F := Ideal) (sums (F := Ideal) W X S).1 (sums (F := Ideal) W X S).2 (ix2 R j) = ∑ c, ∑ P, term W X S R j c P := by
  have h := steps_total (chunkStep (F := Ideal) W X (scaleWords (F := Ideal) 0 S) (scaleWords (F := Ideal) 1 S)) (fun p => (p.1 (ix2 R j) + p.2 (ix2 R j) : EReal))
    (fun c => ∑ P, term W X S R j c P) (fun c p => chunkStep_at W X S R j c p) 32
    (broadcast S32x256 (Scalar.ofBits .f32 0x00000000#32 : Ideal .f32), broadcast S32x256 (Scalar.ofBits .f32 0x00000000#32 : Ideal .f32))
  refine (show _ = _ from h).trans ?_
  have hz : ((Scalar.ofBits .f32 0x00000000#32 : Ideal .f32) : EReal) = 0 := by
    show Ideal.ofBits .f32 0x00000000#32 = 0
    simp [Ideal.ofBits, Ideal.ieee]
  show ((Scalar.ofBits .f32 0x00000000#32 : Ideal .f32) + (Scalar.ofBits .f32 0x00000000#32 : Ideal .f32) : EReal) + _ = _
  rw [hz, add_zero, zero_add, Finset.sum_range]
  rw [← Equiv.sum_comp Fin.revPerm (fun c : Fin 32 => ∑ P, term W X S R j c P)]
  refine Finset.sum_congr rfl fun k _ => ?_
  refine congrArg (fun c => ∑ P, term W X S R j c P) (Fin.ext ?_)
  simp [Cert.Mem.ix, Fin.rev]

/-- A step's unmasked logit, as the reference sums it. -/
theorem logit_at (W : S512x4096.Idx → BitVec 8) (x : FVec Ideal S16x8192 .bf16) (Y7 : FVec Ideal S512x256 .bf16) (Y8 : FVec Ideal S32x16384 .bf16) (S : FVec Ideal S512x256 .bf16)
    (m : Fin 2) (b : Fin 16) (j : Fin 256) (R : Fin 32) (hR : R.val = 16 * m.val + b.val) (r : Fin 512) (hr : r.val = 2 * j.val + m.val) :
    addf (F := Ideal) (sums (F := Ideal) W (spreadAll (F := Ideal) (stacked (F := Ideal) x Y7) Y8) S).1 (sums (F := Ideal) W (spreadAll (F := Ideal) (stacked (F := Ideal) x Y7) Y8) S).2 (ix2 R j)
      = ∑ k : Fin 4096, x (ix2 b ⟨k.val / 16 * 32 + k.val % 16, by omega⟩) * (nibble (W (ix2 r k)) 0 * S (ix2 r ⟨k.val / 16, by omega⟩))
        + ∑ k : Fin 4096, x (ix2 b ⟨k.val / 16 * 32 + 16 + k.val % 16, by omega⟩) * (nibble (W (ix2 r k)) 1 * S (ix2 r ⟨k.val / 16, by omega⟩)) := by
  rw [sums_at]
  refine (sum_chunks m _ (fun k h => x (ix2 b ⟨k.val / 16 * 32 + 16 * h.val + k.val % 16, by omega⟩) * (nibble (W (ix2 r k)) h.val * S (ix2 r ⟨k.val / 16, by omega⟩))) ?_).trans ?_
  · intro c u d
    unfold term
    rw [spreadAll_at x Y7 Y8 m b c ⟨u.val * 4 + d.val, by omega⟩ R _ hR rfl]
    by_cases h : d.val / 2 = m.val
    · have h1 : (u.val * 4 + d.val) / 2 % 2 = m.val := by omega
      have h2 : (u.val * 4 + d.val) / 4 = u.val := by omega
      have h3 : (u.val * 4 + d.val) % 2 = d.val % 2 := by omega
      have h4 : (u.val * 4 + d.val) / 64 = u.val / 16 := by omega
      have h5 : (c.val * 128 + u.val) / 16 = 8 * c.val + u.val / 16 := by omega
      have h6 : (c.val * 128 + u.val) % 16 = u.val % 16 := by omega
      have h7 : (⟨2 * j.val + m.val, by omega⟩ : Fin 512) = r := Fin.ext hr.symm
      have h8 : 128 * c.val + u.val = c.val * 128 + u.val := by omega
      have h9 : 256 * c.val + (32 * (u.val / 16) + 16 * (d.val % 2) + u.val % 16) = (8 * c.val + u.val / 16) * 32 + 16 * (d.val % 2) + u.val % 16 := by omega
      simp only [source, h1, h2, h3, h4, h5, h6, h7, h8, h9, h, if_true]
    · have h1 : ¬ ((u.val * 4 + d.val) / 2 % 2 = m.val) := by omega
      rw [if_neg h1, if_neg h, zero_mul]
  · rfl

end Cert.KernelIdeal.Body
-- ==== Proof.Blocks.lean ====
/- The staged blocks, read as elements of the argument arrays. -/
module

public import proofs.«01_k».proof.Proof.Gen.KernelIdeal
public import proofs.«01_k».proof.Proof.Gen.KernelIdeal.Frame
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe
open Idealize.SL.Sem
open Idealize.ShloMosaic.Pipeline (Window)

theorem idx_tab : ∀ t : Fin grid0.N, win0_0.index t 0 = 0 ∧ win0_0.index t 1 = 0 ∧ win0_1.index t 0 = t.val ∧ win0_1.index t 1 = 0
    ∧ win0_2.index t 0 = t.val ∧ win0_2.index t 1 = 0 := by decide +kernel

theorem size_tab : ∀ t : Fin grid0.N, win0_1.xsize (grid0.coords t) 0 = min 512 (32000 - 512 * t.val) ∧ win0_1.xsize (grid0.coords t) 1 = 4096
    ∧ win0_2.xsize (grid0.coords t) 0 = min 512 (32000 - 512 * t.val) ∧ win0_2.xsize (grid0.coords t) 1 = 256 := by decide +kernel

variable (m : (ℓ : Loc nD τ sig) → Buf (Elt Ideal) ℓ)

/-- The activations' block is the whole array. -/
theorem x_at (c : Dev nD) (t : Fin cfg0.N) (b : Fin 16) (k : Fin 8192) :
    (show FVec Ideal S16x8192 .bf16 from iblk m c 0 t) (ix2 b k) = m ((c : Thread nD τ).loc main_arg0) (ix3 b 0 k) := by
  have hi := idx_tab t
  have e : (win0_0.blk t).view.emb (ix2 b k : S16x8192.Idx) = (ix2 b k : S16x8192.Idx) := by blk_ext [hi]
  blk_simp [iblk, hi]
  refine (congrArg (V m c main_v0) e).trans ?_
  entry_read
  pointwise

/-- A row of the packed weights' block that lies in the array is a row of the array. -/
theorem w_at (c : Dev nD) (t : Fin cfg0.N) (d : S512x4096.Idx → BitVec 8) (r : Fin 512) (k : Fin 4096) (h : 512 * t.val + r.val < 32000) :
    win0_1.fill (grid0.coords t) d (iblk m c 1 t) (ix2 r k : S512x4096.Idx)
      = m ((c : Thread nD τ).loc main_arg1) (ix2 (⟨512 * t.val + r.val, h⟩ : Fin 32000) k) := by
  have hi := idx_tab t
  have hs := size_tab t
  unfold Window.fill
  rw [dif_pos ((win0_1.moved_iff (grid0.coords t) (ix2 r k : S512x4096.Idx)).mpr (fun a => by
    match a with
    | ⟨0, _⟩ => exact lt_of_lt_of_eq (show r.val < min 512 (32000 - 512 * t.val) by omega) hs.1.symm
    | ⟨1, _⟩ => exact lt_of_lt_of_eq (show k.val < 4096 from k.isLt) hs.2.1.symm))]
  blk_ext [iblk, V, hi]

/-- A row of the scales' block that lies in the array is a row of the array. -/
theorem s_at (c : Dev nD) (t : Fin cfg0.N) (d : S512x256.Idx → EReal) (r : Fin 512) (k : Fin 256) (h : 512 * t.val + r.val < 32000) :
    win0_2.fill (grid0.coords t) d (iblk m c 2 t) (ix2 r k : S512x256.Idx)
      = m ((c : Thread nD τ).loc main_arg2) (ix2 (⟨512 * t.val + r.val, h⟩ : Fin 32000) k) := by
  have hi := idx_tab t
  have hs := size_tab t
  unfold Window.fill
  rw [dif_pos ((win0_2.moved_iff (grid0.coords t) (ix2 r k : S512x256.Idx)).mpr (fun a => by
    match a with
    | ⟨0, _⟩ => exact lt_of_lt_of_eq (show r.val < min 512 (32000 - 512 * t.val) by omega) hs.2.2.1.symm
    | ⟨1, _⟩ => exact lt_of_lt_of_eq (show k.val < 256 from k.isLt) hs.2.2.2.symm))]
  blk_ext [iblk, V, hi]

end Cert.KernelIdeal.Value
-- ==== Proof.IdealFrame.lean ====
/- The idealized kernel's run: what its result arrays hold at the end, from what the steps' logits are. -/
module

public import proofs.«01_k».proof.Proof.IdealRun
public import proofs.«01_k».proof.Proof.Gen.KernelIdeal
public import Idealize.ShloMosaic.Lib.Pipeline.Value

@[expose] public section

noncomputable section

namespace Cert.KernelIdeal.Value

open Cert.KernelIdeal Cert.KernelIdeal.Gen Cert.KernelIdeal.Body
open Cert.Mem
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

/-- The running maxima, runners-up and rows after `n` steps of logits `L`. -/
def scan (L : ℕ → S32x256.Idx → Elt F .f32) : ℕ → (S32x256.Idx → Elt F .f32) × (S32x256.Idx → Elt F .f32) × (S32x256.Idx → Elt F .i32)
  | 0 => (lowest, lowest, noIds)
  | n + 1 => (newTop (L n) (scan L n).1, newNext (L n) (scan L n).1 (scan L n).2.1,
      shapeCast S32x256 (select (cmpf .ogt (L n) (scan L n).1) (ids (BitVec.ofNat 32 n)) (scan L n).2.2) Facts₀.shapeCasts_S32x256_S32x256)

/-- The token result. -/
def tokRes (L : ℕ → S32x256.Idx → Elt F .f32) : S16x1.Idx → Elt F .i32 := tokOf (fold (scan L 63).1) (fold (scan L 63).2.2)
/-- The margin result. -/
def marginRes (L : ℕ → S32x256.Idx → Elt F .f32) : S16x1.Idx → Elt F .f32 := marginOf (scan L 63).1 (scan L 63).2.1 (scan L 63).2.2
/-- The top-logit result. -/
def topRes (L : ℕ → S32x256.Idx → Elt F .f32) : S16x1.Idx → Elt F .f32 := topOf (fold (scan L 63).1)

theorem coord_val : ∀ t : Fin grid0.N, (grid0.coords t 0).val = t.val := by decide +kernel

theorem newIds_eq (t : Fin cfg0.N) (l m1 : S32x256.Idx → Elt F .f32) (d : S32x256.Idx → Elt F .i32) :
    newIds (grid0.coords t) l m1 d = shapeCast S32x256 (select (cmpf .ogt l m1) (ids (BitVec.ofNat 32 t.val)) d) Facts₀.shapeCasts_S32x256_S32x256 := by
  unfold newIds; rw [coord_val]

theorem first_iff : ∀ t : Fin grid0.N, isFirst (grid0.coords t) = 1#1 ↔ t.val = 0 := by decide +kernel
theorem last_iff : ∀ t : Fin grid0.N, k0_cond2 (grid0.coords t) = 1#1 ↔ t.val = 62 := by decide +kernel
theorem is_last (t : Fin cfg0.N) (h : t.val = 62) : k0_cond2 (grid0.coords t) = 1#1 := (last_iff t).mpr h
theorem not_last (t : Fin cfg0.N) (h : t.val ≠ 62) : ¬ k0_cond2 (grid0.coords t) = 1#1 := fun e => h ((last_iff t).mp e)

variable (m : (ℓ : Loc nD τ sig) → Buf (Elt F) ℓ) (ρ : Dev nD → PrngReg)
variable (XP : Dev nD → S32x16384.Idx → Elt F .bf16) (L : Dev nD → ℕ → S32x256.Idx → Elt F .f32)

/-- Between steps: after the first, the spread activations and the running values are known. -/
def inv (c : Dev nD) (n : ℕ) : sProp 𝕄 :=
  iprop((∃ s7 s8 s9 s10 s11 s12 s13, ⌜n ≠ 0 → s8 = XP c ∧ s11 = (scan (L c) n).1 ∧ s12 = (scan (L c) n).2.1 ∧ s13 = (scan (L c) n).2.2⌝
    ∗ owns (c : Thread nD τ) (Memref.whole cc0_scratch0) fullShare s7 ∗ owns (c : Thread nD τ) (Memref.whole cc0_scratch1) fullShare s8 ∗ owns (c : Thread nD τ) (Memref.whole cc0_scratch2) fullShare s9 ∗ owns (c : Thread nD τ) (Memref.whole cc0_scratch3) fullShare s10 ∗ owns (c : Thread nD τ) (Memref.whole cc0_scratch4) fullShare s11 ∗ owns (c : Thread nD τ) (Memref.whole cc0_scratch5) fullShare s12 ∗ owns (c : Thread nD τ) (Memref.whole cc0_scratch6) fullShare s13) ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#8) (iblk m c 1 t)
    | ⟨2, _⟩ => win0_2.fill (grid0.coords t) (fun _ => Scalar.ofBits .bf16 0#16) (iblk m c 2 t)
    | ⟨3, _⟩ => tokRes (L c)
    | ⟨4, _⟩ => marginRes (L c)
    | ⟨5, _⟩ => topRes (L c)
  Φ t := inv XP L c t.val
  q _ := fullShare
  owed _ := 0

theorem before_1 (c : Dev nD) (t : Fin cfg0.N) (d) :
    (dats m XP L 0 c).before (1 : Fin 6) t d = win0_1.fill (grid0.coords t) d (iblk m c 1 t) := by
  unfold Dat.before; rw [if_pos (fetch0_1 t)]; rfl
theorem before_2 (c : Dev nD) (t : Fin cfg0.N) (d) :
    (dats m XP L 0 c).before (2 : Fin 6) t d = win0_2.fill (grid0.coords t) d (iblk m c 2 t) := by
  unfold Dat.before; rw [if_pos (fetch0_2 t)]; rfl
theorem cut_1 (c : Dev nD) (t : Fin cfg0.N) : (cfg0.win 1).cut (grid0.coords t) ((dats m XP L 0 c).after 1 t) = iblk m c 1 t := Window.cut_fill _ _ _ _
theorem cut_2 (c : Dev nD) (t : Fin cfg0.N) : (cfg0.win 2).cut (grid0.coords t) ((dats m XP L 0 c).after 2 t) = iblk m c 2 t := Window.cut_fill _ _ _ _

/-- What the pipeline asks of the body at step `t`. -/
def stepOk (c : Dev nD) (t : Fin cfg0.N) : Prop :=
  iprop((dats m XP L 0 c).Φ t.castSucc ∗ (dats m XP L 0 c).owesAt () t.castSucc
        ∗ bigSep Finset.univ fun w : Fin cfg0.W => iprop(∃ d, owns (c : Thread nD τ) ((cfg0.win w).stage (cfg0.slots t w)) fullShare ((dats m XP L 0 c).before w t d)))
      ⊢ wp frame (wpE (defs₀ (F := F)) Variants.none (c : Thread nD τ) none) Set.univ (defs₀ .tc cfg0.body (cfg0.bodyArgs t (cfg0.slots t))) fun _ =>
          iprop((dats m XP L 0 c).Φ t.succ ∗ (dats m XP L 0 c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((dats m XP L 0 c).before w t d))
                    | true =>
                      match cfg0.loose w with
                      | true => iprop(∃ d, owns (c : Thread nD τ) ((cfg0.win w).stage (cfg0.slots t w)) fullShare ((cfg0.win w).fill (cfg0.grid.coords t) d ((cfg0.win w).cut (cfg0.grid.coords t) ((dats m XP L 0 c).after w t))))
                      | false => owns (c : Thread nD τ) ((cfg0.win w).stage (cfg0.slots t w)) fullShare ((dats m XP L 0 c).after w t)
                  | false =>
                    match cfg0.loose w with
                    | true => iprop(∃ d, owns (c : Thread nD τ) ((cfg0.win w).stage (cfg0.slots t w)) fullShare ((cfg0.win w).fill (cfg0.grid.coords t) d ((cfg0.win w).cut (cfg0.grid.coords t) ((dats m XP L 0 c).after w t))))
                    | false => owns (c : Thread nD τ) ((cfg0.win w).stage (cfg0.slots t w)) fullShare ((dats m XP L 0 c).after w t))

attribute [local irreducible] tokRes marginRes topRes

variable (hXP : ∀ c t g7 g8, spreadAll (stacked (iblk m c 0 t) g7) g8 = XP c)
variable (hL : ∀ c (t : Fin cfg0.N) d1 d2, lanes (grid0.coords t) (win0_1.fill (grid0.coords t) d1 (iblk m c 1 t)) (XP c) (win0_2.fill (grid0.coords t) d2 (iblk m c 2 t)) = L c t.val)

include hL

/-- A step that is neither the first nor the last. -/
theorem ok_mid (c : Dev nD) (t : Fin cfg0.N) (h0 : t.val ≠ 0) (h62 : t.val ≠ 62) : stepOk m XP L c t := by
  unfold stepOk
  rw [bigSep_W0, bigSep_W0]
  have hi3 : cfg0.idle 3 (grid0.coords t) = true := by
    show (!(k0_cond2 (grid0.coords t) == 1#1)) = true
    simp [not_last t h62]
  have hi4 : cfg0.idle 4 (grid0.coords t) = true := hi3
  have hi5 : cfg0.idle 5 (grid0.coords t) = true := hi3
  have hf3 : (cfg0.win 3).flush t = false := Bool.eq_false_iff.mpr fun h => h62 (by have := (flush0_3 t).mp h; have := t.isLt; have : cfg0.N = 63 := N_0; omega)
  have hf4 : (cfg0.win 4).flush t = false := Bool.eq_false_iff.mpr fun h => h62 (by have := (flush0_4 t).mp h; have := t.isLt; have : cfg0.N = 63 := N_0; omega)
  have hf5 : (cfg0.win 5).flush t = false := Bool.eq_false_iff.mpr fun h => h62 (by have := (flush0_5 t).mp h; have := t.isLt; have : cfg0.N = 63 := N_0; omega)
  have hj3 : idle0 3 (grid0.coords t) = true := hi3
  have hj4 : idle0 4 (grid0.coords t) = true := hi4
  have hj5 : idle0 5 (grid0.coords t) = true := hi5
  have hg3 : (win0 3).flush t = false := hf3
  have hg4 : (win0 4).flush t = false := hf4
  have hg5 : (win0 5).flush t = false := hf5
  simp only [hi3, hi4, hi5, hf3, hf4, hf5, hj3, hj4, hj5, hg3, hg4, hg5]
  rw [show (dats m XP L 0 c).Φ t.castSucc = inv XP L c t.val from rfl, show (dats m XP L 0 c).Φ t.succ = inv XP L c (t.val + 1) from rfl,
    show (dats m XP L 0 c).owesAt () t.succ = (dats m XP L 0 c).owesAt () t.castSucc from rfl]
  unfold inv
  rw [show defs₀ (F := F) .tc cfg0.body (cfg0.bodyArgs t (cfg0.slots t)) = bodyAt0 t from rfl]
  unfold bodyAt0
  simp only [body_eq]
  iintro ⟨⟨⟨%s7, %s8, %s9, %s10, %s11, %s12, %s13, %hs, H7, H8, H9, H10, H11, H12, H13⟩, Hp⟩, Ho, ⟨%d0, H0⟩, ⟨%d1, H1⟩, ⟨%d2, H2⟩, ⟨%d3, H4⟩, ⟨%d4, H5⟩, ⟨%d5, H6⟩⟩
  rw [before0_0_of m (dats m XP L 0 c) rfl (fun _ => rfl) t d0, before_1 m XP L c t d1, before_2 m XP L c t d2]
  have hb := body_run_mid (F := F) (d := c) (defs := defs₀ (F := F)) (E := Set.univ)
    (arg1 := win0_0.stage (cfg0.slots t 0)) (harg1 := hstage0_0 ((cfg0.slots t 0).cast nbuf0_0))
    (arg2 := win0_1.stage (cfg0.slots t 1)) (harg2 := hstage0_1 ((cfg0.slots t 1).cast nbuf0_1))
    (arg3 := win0_2.stage (cfg0.slots t 2)) (harg3 := hstage0_2 ((cfg0.slots t 2).cast nbuf0_2))
    (arg4 := win0_3.stage (cfg0.slots t 3)) (harg4 := hstage0_3 ((cfg0.slots t 3).cast nbuf0_3))
    (arg5 := win0_4.stage (cfg0.slots t 4)) (harg5 := hstage0_4 ((cfg0.slots t 4).cast nbuf0_4))
    (arg6 := win0_5.stage (cfg0.slots t 5)) (harg6 := hstage0_5 ((cfg0.slots t 5).cast nbuf0_5))
    (arg7 := Memref.whole cc0_scratch0) (harg7 := Memref.isWhole_whole _)
    (arg8 := Memref.whole cc0_scratch1) (harg8 := Memref.isWhole_whole _)
    (arg9 := Memref.whole cc0_scratch2) (harg9 := Memref.isWhole_whole _)
    (arg10 := Memref.whole cc0_scratch3) (harg10 := Memref.isWhole_whole _)
    (arg11 := Memref.whole cc0_scratch4) (harg11 := Memref.isWhole_whole _)
    (arg12 := Memref.whole cc0_scratch5) (harg12 := Memref.isWhole_whole _)
    (arg13 := Memref.whole cc0_scratch6) (harg13 := Memref.isWhole_whole _) (grid0.coords t) (fun e => h0 ((first_iff t).mp e)) (not_last t h62)
    (iblk m c 0 t) (win0_1.fill (grid0.coords t) d1 (iblk m c 1 t)) (win0_2.fill (grid0.coords t) d2 (iblk m c 2 t)) ((dats m XP L 0 c).before 3 t d3) ((dats m XP L 0 c).before 4 t d4) ((dats m XP L 0 c).before 5 t d5) s7 s8 s9 s10 s11 s12 s13
  obtain ⟨rfl, rfl, rfl, rfl⟩ := hs h0
  rw [hL, newIds_eq] at hb
  iapply hb.wand
  isplitl [H7 H8 H9 H10 H11 H12 H13 H0 H1 H2 H4 H5 H6]
  · simp only [All, Cons, Nil]
    isplitl [H0]; · iexact H0
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iempintro
  simp only [All, Cons, Nil]
  iintro ⟨H0, H1, H2, H4, H5, H6, H7, H8, H9, H10, H11, H12, H13, -⟩
  isplitl [H7 H8 H9 H10 H11 H12 H13 Hp]
  · isplitr [Hp]
    · iexists _, _, _, _, _, _, _
      isplitr
      · ipureintro; exact fun _ => ⟨rfl, rfl, rfl, rfl⟩
      isplitl [H7]; · iexact H7
      isplitl [H8]; · iexact H8
      isplitl [H9]; · iexact H9
      isplitl [H10]; · iexact H10
      isplitl [H11]; · iexact H11
      isplitl [H12]; · iexact H12
      iexact H13
    · iexact Hp
  isplitl [Ho]; · iexact Ho
  isplitl [H0]; · iexact H0
  isplitl [H1]
  · iexists d1
    rw [cut_1]; iexact H1
  isplitl [H2]
  · iexists d2
    rw [cut_2]; iexact H2
  isplitl [H4]; · iexists d3; iexact H4
  isplitl [H5]; · iexists d4; iexact H5
  iexists d5; iexact H6

/-- The last step. -/
theorem ok_last (c : Dev nD) (t : Fin cfg0.N) (h62 : t.val = 62) : stepOk m XP L c t := by
  unfold stepOk
  rw [bigSep_W0, bigSep_W0]
  have hi3 : cfg0.idle 3 (grid0.coords t) = false := by
    show (!(k0_cond2 (grid0.coords t) == 1#1)) = false
    simp [is_last t h62]
  have hi4 : cfg0.idle 4 (grid0.coords t) = false := hi3
  have hi5 : cfg0.idle 5 (grid0.coords t) = false := hi3
  have hj3 : idle0 3 (grid0.coords t) = false := hi3
  have hj4 : idle0 4 (grid0.coords t) = false := hi4
  have hj5 : idle0 5 (grid0.coords t) = false := hi5
  simp only [hi3, hi4, hi5, hj3, hj4, hj5]
  rw [show (dats m XP L 0 c).Φ t.castSucc = inv XP L c t.val from rfl, show (dats m XP L 0 c).Φ t.succ = inv XP L c (t.val + 1) from rfl,
    show (dats m XP L 0 c).owesAt () t.succ = (dats m XP L 0 c).owesAt () t.castSucc from rfl]
  unfold inv
  rw [show defs₀ (F := F) .tc cfg0.body (cfg0.bodyArgs t (cfg0.slots t)) = bodyAt0 t from rfl]
  unfold bodyAt0
  simp only [body_eq]
  iintro ⟨⟨⟨%s7, %s8, %s9, %s10, %s11, %s12, %s13, %hs, H7, H8, H9, H10, H11, H12, H13⟩, Hp⟩, Ho, ⟨%d0, H0⟩, ⟨%d1, H1⟩, ⟨%d2, H2⟩, ⟨%d3, H4⟩, ⟨%d4, H5⟩, ⟨%d5, H6⟩⟩
  rw [before0_0_of m (dats m XP L 0 c) rfl (fun _ => rfl) t d0, before_1 m XP L c t d1, before_2 m XP L c t d2]
  have hb := body_run_last (F := F) (d := c) (defs := defs₀ (F := F)) (E := Set.univ)
    (arg1 := win0_0.stage (cfg0.slots t 0)) (harg1 := hstage0_0 ((cfg0.slots t 0).cast nbuf0_0))
    (arg2 := win0_1.stage (cfg0.slots t 1)) (harg2 := hstage0_1 ((cfg0.slots t 1).cast nbuf0_1))
    (arg3 := win0_2.stage (cfg0.slots t 2)) (harg3 := hstage0_2 ((cfg0.slots t 2).cast nbuf0_2))
    (arg4 := win0_3.stage (cfg0.slots t 3)) (harg4 := hstage0_3 ((cfg0.slots t 3).cast nbuf0_3))
    (arg5 := win0_4.stage (cfg0.slots t 4)) (harg5 := hstage0_4 ((cfg0.slots t 4).cast nbuf0_4))
    (arg6 := win0_5.stage (cfg0.slots t 5)) (harg6 := hstage0_5 ((cfg0.slots t 5).cast nbuf0_5))
    (arg7 := Memref.whole cc0_scratch0) (harg7 := Memref.isWhole_whole _)
    (arg8 := Memref.whole cc0_scratch1) (harg8 := Memref.isWhole_whole _)
    (arg9 := Memref.whole cc0_scratch2) (harg9 := Memref.isWhole_whole _)
    (arg10 := Memref.whole cc0_scratch3) (harg10 := Memref.isWhole_whole _)
    (arg11 := Memref.whole cc0_scratch4) (harg11 := Memref.isWhole_whole _)
    (arg12 := Memref.whole cc0_scratch5) (harg12 := Memref.isWhole_whole _)
    (arg13 := Memref.whole cc0_scratch6) (harg13 := Memref.isWhole_whole _) (grid0.coords t) (fun e => by have := (first_iff t).mp e; omega) (is_last t h62)
    (iblk m c 0 t) (win0_1.fill (grid0.coords t) d1 (iblk m c 1 t)) (win0_2.fill (grid0.coords t) d2 (iblk m c 2 t)) ((dats m XP L 0 c).before 3 t d3) ((dats m XP L 0 c).before 4 t d4) ((dats m XP L 0 c).before 5 t d5) s7 s8 s9 s10 s11 s12 s13
  obtain ⟨rfl, rfl, rfl, rfl⟩ := hs (by omega)
  rw [hL, newIds_eq] at hb
  have e62 : t.val + 1 = 63 := by omega
  rw [show tokOf (fold (newTop (L c t.val) (scan (L c) t.val).1)) (fold (shapeCast S32x256 (select (cmpf .ogt (L c t.val) (scan (L c) t.val).1) (ids (BitVec.ofNat 32 t.val)) (scan (L c) t.val).2.2) Facts₀.shapeCasts_S32x256_S32x256)) = tokRes (L c) from by
      unfold tokRes; rw [← e62]; rfl,
    show marginOf (newTop (L c t.val) (scan (L c) t.val).1) (newNext (L c t.val) (scan (L c) t.val).1 (scan (L c) t.val).2.1) (shapeCast S32x256 (select (cmpf .ogt (L c t.val) (scan (L c) t.val).1) (ids (BitVec.ofNat 32 t.val)) (scan (L c) t.val).2.2) Facts₀.shapeCasts_S32x256_S32x256) = marginRes (L c) from by
      unfold marginRes; rw [← e62]; rfl,
    show topOf (fold (newTop (L c t.val) (scan (L c) t.val).1)) = topRes (L c) from by unfold topRes; rw [← e62]; rfl] at hb
  iapply hb.wand
  isplitl [H7 H8 H9 H10 H11 H12 H13 H0 H1 H2 H4 H5 H6]
  · simp only [All, Cons, Nil]
    isplitl [H0]; · iexact H0
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iempintro
  simp only [All, Cons, Nil]
  iintro ⟨H0, H1, H2, H4, H5, H6, H7, H8, H9, H10, H11, H12, H13, -⟩
  isplitl [H7 H8 H9 H10 H11 H12 H13 Hp]
  · isplitr [Hp]
    · iexists _, _, _, _, _, _, _
      isplitr
      · ipureintro; exact fun _ => ⟨rfl, rfl, rfl, rfl⟩
      isplitl [H7]; · iexact H7
      isplitl [H8]; · iexact H8
      isplitl [H9]; · iexact H9
      isplitl [H10]; · iexact H10
      isplitl [H11]; · iexact H11
      isplitl [H12]; · iexact H12
      iexact H13
    · iexact Hp
  isplitl [Ho]; · iexact Ho
  isplitl [H0]; · iexact H0
  isplitl [H1]
  · iexists d1
    rw [cut_1]; iexact H1
  isplitl [H2]
  · iexists d2
    rw [cut_2]; iexact H2
  isplitl [H4]; · iexact H4
  isplitl [H5]; · iexact H5
  iexact H6

include hXP

/-- The first step. -/
theorem ok_first (c : Dev nD) (t : Fin cfg0.N) (h0 : t.val = 0) : stepOk m XP L c t := by
  unfold stepOk
  rw [bigSep_W0, bigSep_W0]
  have h62 : t.val ≠ 62 := by omega
  have hi3 : cfg0.idle 3 (grid0.coords t) = true := by
    show (!(k0_cond2 (grid0.coords t) == 1#1)) = true
    simp [not_last t h62]
  have hi4 : cfg0.idle 4 (grid0.coords t) = true := hi3
  have hi5 : cfg0.idle 5 (grid0.coords t) = true := hi3
  have hf3 : (cfg0.win 3).flush t = false := Bool.eq_false_iff.mpr fun h => h62 (by have := (flush0_3 t).mp h; have := t.isLt; have : cfg0.N = 63 := N_0; omega)
  have hf4 : (cfg0.win 4).flush t = false := Bool.eq_false_iff.mpr fun h => h62 (by have := (flush0_4 t).mp h; have := t.isLt; have : cfg0.N = 63 := N_0; omega)
  have hf5 : (cfg0.win 5).flush t = false := Bool.eq_false_iff.mpr fun h => h62 (by have := (flush0_5 t).mp h; have := t.isLt; have : cfg0.N = 63 := N_0; omega)
  have hj3 : idle0 3 (grid0.coords t) = true := hi3
  have hj4 : idle0 4 (grid0.coords t) = true := hi4
  have hj5 : idle0 5 (grid0.coords t) = true := hi5
  have hg3 : (win0 3).flush t = false := hf3
  have hg4 : (win0 4).flush t = false := hf4
  have hg5 : (win0 5).flush t = false := hf5
  simp only [hi3, hi4, hi5, hf3, hf4, hf5, hj3, hj4, hj5, hg3, hg4, hg5]
  rw [show (dats m XP L 0 c).Φ t.castSucc = inv XP L c t.val from rfl, show (dats m XP L 0 c).Φ t.succ = inv XP L c (t.val + 1) from rfl,
    show (dats m XP L 0 c).owesAt () t.succ = (dats m XP L 0 c).owesAt () t.castSucc from rfl]
  unfold inv
  rw [show defs₀ (F := F) .tc cfg0.body (cfg0.bodyArgs t (cfg0.slots t)) = bodyAt0 t from rfl]
  unfold bodyAt0
  simp only [body_eq]
  iintro ⟨⟨⟨%s7, %s8, %s9, %s10, %s11, %s12, %s13, %hs, H7, H8, H9, H10, H11, H12, H13⟩, Hp⟩, Ho, ⟨%d0, H0⟩, ⟨%d1, H1⟩, ⟨%d2, H2⟩, ⟨%d3, H4⟩, ⟨%d4, H5⟩, ⟨%d5, H6⟩⟩
  rw [before0_0_of m (dats m XP L 0 c) rfl (fun _ => rfl) t d0, before_1 m XP L c t d1, before_2 m XP L c t d2]
  have hb := body_run_first (F := F) (d := c) (defs := defs₀ (F := F)) (E := Set.univ)
    (arg1 := win0_0.stage (cfg0.slots t 0)) (harg1 := hstage0_0 ((cfg0.slots t 0).cast nbuf0_0))
    (arg2 := win0_1.stage (cfg0.slots t 1)) (harg2 := hstage0_1 ((cfg0.slots t 1).cast nbuf0_1))
    (arg3 := win0_2.stage (cfg0.slots t 2)) (harg3 := hstage0_2 ((cfg0.slots t 2).cast nbuf0_2))
    (arg4 := win0_3.stage (cfg0.slots t 3)) (harg4 := hstage0_3 ((cfg0.slots t 3).cast nbuf0_3))
    (arg5 := win0_4.stage (cfg0.slots t 4)) (harg5 := hstage0_4 ((cfg0.slots t 4).cast nbuf0_4))
    (arg6 := win0_5.stage (cfg0.slots t 5)) (harg6 := hstage0_5 ((cfg0.slots t 5).cast nbuf0_5))
    (arg7 := Memref.whole cc0_scratch0) (harg7 := Memref.isWhole_whole _)
    (arg8 := Memref.whole cc0_scratch1) (harg8 := Memref.isWhole_whole _)
    (arg9 := Memref.whole cc0_scratch2) (harg9 := Memref.isWhole_whole _)
    (arg10 := Memref.whole cc0_scratch3) (harg10 := Memref.isWhole_whole _)
    (arg11 := Memref.whole cc0_scratch4) (harg11 := Memref.isWhole_whole _)
    (arg12 := Memref.whole cc0_scratch5) (harg12 := Memref.isWhole_whole _)
    (arg13 := Memref.whole cc0_scratch6) (harg13 := Memref.isWhole_whole _) (grid0.coords t) ((first_iff t).mpr h0) (not_last t h62)
    (iblk m c 0 t) (win0_1.fill (grid0.coords t) d1 (iblk m c 1 t)) (win0_2.fill (grid0.coords t) d2 (iblk m c 2 t)) ((dats m XP L 0 c).before 3 t d3) ((dats m XP L 0 c).before 4 t d4) ((dats m XP L 0 c).before 5 t d5) s7 s8 s9 s10 s11 s12 s13
  rw [hXP] at hb
  rw [hL, newIds_eq] at hb
  rw [h0] at hb ⊢
  iapply hb.wand
  isplitl [H7 H8 H9 H10 H11 H12 H13 H0 H1 H2 H4 H5 H6]
  · simp only [All, Cons, Nil]
    isplitl [H0]; · iexact H0
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iempintro
  simp only [All, Cons, Nil]
  iintro ⟨H0, H1, H2, H4, H5, H6, H7, H8, H9, H10, H11, H12, H13, -⟩
  isplitl [H7 H8 H9 H10 H11 H12 H13 Hp]
  · isplitr [Hp]
    · iexists _, _, _, _, _, _, _
      isplitr
      · ipureintro; exact fun _ => ⟨rfl, rfl, rfl, rfl⟩
      isplitl [H7]; · iexact H7
      isplitl [H8]; · iexact H8
      isplitl [H9]; · iexact H9
      isplitl [H10]; · iexact H10
      isplitl [H11]; · iexact H11
      isplitl [H12]; · iexact H12
      iexact H13
    · iexact Hp
  isplitl [Ho]; · iexact Ho
  isplitl [H0]; · iexact H0
  isplitl [H1]
  · iexists d1
    rw [cut_1]; iexact H1
  isplitl [H2]
  · iexists d2
    rw [cut_2]; iexact H2
  isplitl [H4]; · iexists d3; iexact H4
  isplitl [H5]; · iexists d4; iexact H5
  iexists d5; iexact H6

/-- The body does what the pipeline asks of it at every step. -/
theorem body_obligation (c : Dev nD) : BodyObligationLoose (dats m XP L 0 c) (defs₀ (F := F)) Variants.none () Set.univ := fun t => by
  by_cases h0 : t.val = 0
  · exact ok_first m XP L hXP hL c t h0
  by_cases h62 : t.val = 62
  · exact ok_last m XP L hL c t h62
  exact ok_mid m XP L hL c t h0 h62

omit hXP hL

/-- Before the first step nothing is asked of the scratch buffers. -/
theorem enter (c : Dev nD) : Pipeline.ΦA spec0 c ⊢ (dats m XP L 0 c).Φ 0 := by
  rw [show (dats m XP L 0 c).Φ 0 = inv XP L c 0 from rfl,
    show Pipeline.ΦA spec0 c = iprop(Pipeline.scopedRest (Ix := Unit) (Name := ℕ) (U := UR sig nD τ) (Lvl := ℕ) (Val := Elt F) spec0 c ∗ ∃ r, prngReg c r) from rfl,
    scopedRest0_eq]
  unfold inv
  simp only [owns_whole_eq]
  iintro ⟨⟨⟨%f7, H7⟩, ⟨%f8, H8⟩, ⟨%f9, H9⟩, ⟨%f10, H10⟩, ⟨%f11, H11⟩, ⟨%f12, H12⟩, ⟨%f13, H13⟩⟩, Hp⟩
  isplitr [Hp]
  · iexists f7, f8, f9, f10, f11, f12, f13
    isplitr; · ipureintro; exact fun h => absurd rfl h
    isplitl [H7]; · iexists f7; isplitr; (· ipureintro; rfl); iexact H7
    isplitl [H8]; · iexists f8; isplitr; (· ipureintro; rfl); iexact H8
    isplitl [H9]; · iexists f9; isplitr; (· ipureintro; rfl); iexact H9
    isplitl [H10]; · iexists f10; isplitr; (· ipureintro; rfl); iexact H10
    isplitl [H11]; · iexists f11; isplitr; (· ipureintro; rfl); iexact H11
    isplitl [H12]; · iexists f12; isplitr; (· ipureintro; rfl); iexact H12
    iexists f13; isplitr; (· ipureintro; rfl); iexact H13
  · iexact Hp

/-- After the last step the scratch buffers are given back. -/
theorem leave (c : Dev nD) : (dats m XP L 0 c).Φ (Fin.last cfg0.N) ⊢ Pipeline.ΦA spec0 c := by
  rw [show (dats m XP L 0 c).Φ (Fin.last cfg0.N) = inv XP L c (Fin.last cfg0.N).val from rfl,
    show Pipeline.ΦA spec0 c = iprop(Pipeline.scopedRest (Ix := Unit) (Name := ℕ) (U := UR sig nD τ) (Lvl := ℕ) (Val := Elt F) spec0 c ∗ ∃ r, prngReg c r) from rfl,
    scopedRest0_eq]
  unfold inv
  simp only [owns_whole_eq]
  iintro ⟨⟨%s7, %s8, %s9, %s10, %s11, %s12, %s13, -, ⟨%g7, -, H7⟩, ⟨%g8, -, H8⟩, ⟨%g9, -, H9⟩, ⟨%g10, -, H10⟩, ⟨%g11, -, H11⟩, ⟨%g12, -, H12⟩, ⟨%g13, -, H13⟩⟩, Hp⟩
  isplitr [Hp]
  · isplitl [H7]; · iexists g7; iexact H7
    isplitl [H8]; · iexists g8; iexact H8
    isplitl [H9]; · iexists g9; iexact H9
    isplitl [H10]; · iexists g10; iexact H10
    isplitl [H11]; · iexists g11; iexact H11
    isplitl [H12]; · iexists g12; iexact H12
    iexists g13; iexact H13
  · iexact Hp

/-- The last step. -/
abbrev tLast : Fin cfg0.N := ⟨62, by rw [show cfg0.N = 63 from N_0]; decide⟩

theorem final3 (c : Dev nD) : (dats m XP L 0 c).arrAt 3 cfg0.N = tokRes (L c) := by
  refine (dats m XP L 0 c).arrAt_eq_of_cover 3 (tokRes (L c)) (fun t hf => ?_) fun i => ⟨tLast, (flush0_3 tLast).mpr rfl, ?_⟩
  · show (cfg0.win 3).cut (grid0.coords t) (tokRes (L c)) = _
    have hz' : (fun a => win0_3.index t a * main_v1_0.ty.shape.size a) = fun _ => 0 := funext fun a => by fin_cases a <;> exact Nat.zero_mul _
    exact (Memref.read_access_unit_zero (Elt F) main_v1_0 hz' (fun a => by rw [congrFun hz' a]; simp) (tokRes (L c))).symm
  · show i ∈ ((View.whole main_v1_0).slice (win0_3.rect tLast)).set
    rw [View.set_slice_whole, Rect.mem_set_unit]
    have e : ∀ a, win0_3.index tLast a * win0_3.size a = 0 ∧ win0_3.xsize (grid0.coords tLast) a = S16x1.size a := by
      decide +kernel
    intro a
    show win0_3.index tLast a * win0_3.size a ≤ (i a : Nat) ∧ (i a : Nat) < win0_3.index tLast a * win0_3.size a + win0_3.xsize (grid0.coords tLast) a
    rw [(e a).1, (e a).2, Nat.zero_add]
    exact ⟨Nat.zero_le _, (i a).isLt⟩

theorem final4 (c : Dev nD) : (dats m XP L 0 c).arrAt 4 cfg0.N = marginRes (L c) := by
  refine (dats m XP L 0 c).arrAt_eq_of_cover 4 (marginRes (L c)) (fun t hf => ?_) fun i => ⟨tLast, (flush0_4 tLast).mpr rfl, ?_⟩
  · show (cfg0.win 4).cut (grid0.coords t) (marginRes (L c)) = _
    have hz' : (fun a => win0_4.index t a * main_v1_1.ty.shape.size a) = fun _ => 0 := funext fun a => by fin_cases a <;> exact Nat.zero_mul _
    exact (Memref.read_access_unit_zero (Elt F) main_v1_1 hz' (fun a => by rw [congrFun hz' a]; simp) (marginRes (L c))).symm
  · show i ∈ ((View.whole main_v1_1).slice (win0_4.rect tLast)).set
    rw [View.set_slice_whole, Rect.mem_set_unit]
    have e : ∀ a, win0_4.index tLast a * win0_4.size a = 0 ∧ win0_4.xsize (grid0.coords tLast) a = S16x1.size a := by
      decide +kernel
    intro a
    show win0_4.index tLast a * win0_4.size a ≤ (i a : Nat) ∧ (i a : Nat) < win0_4.index tLast a * win0_4.size a + win0_4.xsize (grid0.coords tLast) a
    rw [(e a).1, (e a).2, Nat.zero_add]
    exact ⟨Nat.zero_le _, (i a).isLt⟩

theorem final5 (c : Dev nD) : (dats m XP L 0 c).arrAt 5 cfg0.N = topRes (L c) := by
  refine (dats m XP L 0 c).arrAt_eq_of_cover 5 (topRes (L c)) (fun t hf => ?_) fun i => ⟨tLast, (flush0_5 tLast).mpr rfl, ?_⟩
  · show (cfg0.win 5).cut (grid0.coords t) (topRes (L c)) = _
    have hz' : (fun a => win0_5.index t a * main_v1_2.ty.shape.size a) = fun _ => 0 := funext fun a => by fin_cases a <;> exact Nat.zero_mul _
    exact (Memref.read_access_unit_zero (Elt F) main_v1_2 hz' (fun a => by rw [congrFun hz' a]; simp) (topRes (L c))).symm
  · show i ∈ ((View.whole main_v1_2).slice (win0_5.rect tLast)).set
    rw [View.set_slice_whole, Rect.mem_set_unit]
    have e : ∀ a, win0_5.index tLast a * win0_5.size a = 0 ∧ win0_5.xsize (grid0.coords tLast) a = S16x1.size a := by
      decide +kernel
    intro a
    show win0_5.index tLast a * win0_5.size a ≤ (i a : Nat) ∧ (i a : Nat) < win0_5.index tLast a * win0_5.size a + win0_5.xsize (grid0.coords tLast) a
    rw [(e a).1, (e a).2, Nat.zero_add]
    exact ⟨Nat.zero_le _, (i a).isLt⟩

include hXP hL in
/-- The run: the results hold the running values' reading after the last step, the arguments are unchanged and every
    counter is at zero. -/
theorem run : θ_run (defs (F := F)) (onTc (τ := τ) (main (F := F))) ⟨m, fun _ => 0, ρ⟩ (fun r => (∀ c : Dev nD,
      r.2.mem ((c.tc : Thread nD τ).loc main_v1_0) = tokRes (L c)
      ∧ r.2.mem ((c.tc : Thread nD τ).loc main_v1_1) = marginRes (L c)
      ∧ r.2.mem ((c.tc : Thread nD τ).loc main_v1_2) = topRes (L c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_track cfgs (dats m XP L) 0 launch0 defs₀ Variants.none m ρ main (body_obligation m XP L hXP hL)
    (fun c => (dats m XP L 0 c).share_full fun _ => rfl) (fun _ _ => rfl)
    (V m) (hmain m _) (fun _ _ => rfl) (enter m XP L) (leave m XP L) _ (fun r h => ⟨fun c =>
      ⟨((h.1 c).1 3).trans (final3 m XP L c), ((h.1 c).1 4).trans (final4 m XP L c), ((h.1 c).1 5).trans (final5 m XP L c),
        ((h.1 c).2 main_arg0 (Pipeline.mem_restRefs_of main_arg0 (by decide) (by decide))).trans (V_main_arg0 m c),
        ((h.1 c).1 1).trans (((dats m XP L 0 c).arrAt_in 1 rfl _).trans (V_main_arg1 m c)),
        ((h.1 c).1 2).trans (((dats m XP L 0 c).arrAt_in 2 rfl _).trans (V_main_arg2 m c))⟩, h.2⟩)

end Cert.KernelIdeal.Value

end
-- ==== Proof.TopTwo.lean ====
module

public import Idealize.ShloMosaic.Lib.Pointwise

@[expose] public section

/-!
  The two greatest values of a row, found lane by lane.

  A lane is handed values one at a time and keeps the greatest, the identifier of the first value
  that reached it, and the greatest of the values under other identifiers. Over all lanes these give
  the greatest value, its least position, and the greatest of the values at other positions.
-/

noncomputable section

namespace Cert.TopTwo

open Idealize.ShloMosaic

/-- What a lane holds after `n` values: the greatest, the next, and the greatest's identifier. -/
def lane (a : ℕ → EReal) (i : ℕ → BitVec 32) : ℕ → EReal × EReal × BitVec 32
  | 0 => (⊥, ⊥, 0#32)
  | n + 1 =>
    let s := lane a i n
    (max s.1 (a n), max s.2.1 (if s.1 < a n then s.1 else a n), if s.1 < a n then i n else s.2.2)

/-- What the three values a lane holds say of the first `n` values. -/
structure Held (a : ℕ → EReal) (i : ℕ → BitVec 32) (n : ℕ) (m1 m2 : EReal) (d : BitVec 32) : Prop where
  le1 : ∀ t < n, a t ≤ m1
  bot : m1 = ⊥ → d = 0#32
  att1 : m1 ≠ ⊥ → ∃ t < n, d = i t ∧ a t = m1 ∧ ∀ u < n, a u = m1 → t ≤ u
  le2 : ∀ t < n, i t ≠ d → a t ≤ m2
  att2 : m2 = ⊥ ∨ ∃ t < n, i t ≠ d ∧ a t = m2

/-- Every lane holds what it should, when its identifiers are distinct. -/
theorem held (a : ℕ → EReal) (i : ℕ → BitVec 32) (N : ℕ) (hi : ∀ s < N, ∀ t < N, i s = i t → s = t) :
    ∀ n ≤ N, Held a i n (lane a i n).1 (lane a i n).2.1 (lane a i n).2.2
  | 0, _ => ⟨by simp, fun _ => rfl, fun h => absurd rfl h, by simp, Or.inl rfl⟩
  | n + 1, hn => by
    have h := held a i N hi n (by omega)
    rcases hl : lane a i n with ⟨m1, m2, d⟩
    rw [hl] at h
    simp only [lane, hl]
    obtain ⟨le1, bot, att1, le2, att2⟩ := h
    dsimp only at le1 bot att1 le2 att2
    by_cases hc : m1 < a n
    · simp only [hc, if_true, max_eq_right hc.le]
      refine ⟨?_, ?_, ?_, ?_, ?_⟩
      · intro t ht
        rcases Nat.lt_succ_iff_lt_or_eq.mp ht with ht | rfl
        · exact (le1 t ht).trans hc.le
        · exact le_rfl
      · intro hb
        rw [hb] at hc
        exact absurd hc not_lt_bot
      · intro _
        refine ⟨n, by omega, rfl, rfl, ?_⟩
        intro u hu hau
        rcases Nat.lt_succ_iff_lt_or_eq.mp hu with hu | rfl
        · exact absurd (le1 u hu) (by rw [hau]; exact not_le.mpr hc)
        · exact le_rfl
      · intro t ht hne
        rcases Nat.lt_succ_iff_lt_or_eq.mp ht with ht | rfl
        · exact (le1 t ht).trans (le_max_right _ _)
        · exact absurd rfl hne
      · rcases eq_or_ne m1 ⊥ with hb | hb
        · rcases att2 with h2 | ⟨t, ht, _, h2⟩
          · left; rw [h2, hb, max_self]
          · left
            have := le1 t ht
            rw [hb] at this ⊢
            rw [← h2, le_bot_iff.mp this, max_self]
        · right
          rcases le_total m2 m1 with hm | hm
          · obtain ⟨t, ht, _, hat, _⟩ := att1 hb
            refine ⟨t, by omega, ?_, by rw [max_eq_right hm, hat]⟩
            intro he
            have := hi t (by omega) n (by omega) he
            omega
          · rcases att2 with h2 | ⟨t, ht, _, h2⟩
            · exact absurd (le_bot_iff.mp (h2 ▸ hm)) hb
            · refine ⟨t, by omega, ?_, by rw [max_eq_left hm, h2]⟩
              intro he
              have := hi t (by omega) n (by omega) he
              omega
    · have hle : a n ≤ m1 := not_lt.mp hc
      simp only [hc, if_false, max_eq_left hle]
      refine ⟨?_, bot, ?_, ?_, ?_⟩
      · intro t ht
        rcases Nat.lt_succ_iff_lt_or_eq.mp ht with ht | rfl
        · exact le1 t ht
        · exact hle
      · intro hb
        obtain ⟨t, ht, hd, hat, hmin⟩ := att1 hb
        refine ⟨t, by omega, hd, hat, ?_⟩
        intro u hu hau
        rcases Nat.lt_succ_iff_lt_or_eq.mp hu with hu | rfl
        · exact hmin u hu hau
        · omega
      · intro t ht hne
        rcases Nat.lt_succ_iff_lt_or_eq.mp ht with ht | rfl
        · exact (le2 t ht hne).trans (le_max_left _ _)
        · exact le_max_right _ _
      · rcases le_total (a n) m2 with hm | hm
        · rw [max_eq_left hm]
          rcases att2 with h2 | ⟨t, ht, hne, h2⟩
          · exact Or.inl h2
          · exact Or.inr ⟨t, by omega, hne, h2⟩
        · rw [max_eq_right hm]
          rcases eq_or_ne m1 ⊥ with hb | hb
          · left; rw [hb] at hle; exact le_bot_iff.mp hle
          · right
            refine ⟨n, by omega, ?_, rfl⟩
            obtain ⟨t, ht, hd, _, _⟩ := att1 hb
            intro he
            have := hi n (by omega) t (by omega) (he.trans hd)
            omega

/-- `K` is the least position of the greatest of the values `l 0, …, l (N - 1)`. -/
def First (N : ℕ) (l : ℕ → EReal) (K : ℕ) : Prop :=
  K < N ∧ (∀ v < N, l v ≤ l K) ∧ ∀ v < N, l v = l K → K ≤ v

theorem First.unique {N : ℕ} {l : ℕ → EReal} {K K' : ℕ} (h : First N l K) (h' : First N l K') : K = K' :=
  le_antisymm (h.2.2 K' h'.1 (le_antisymm (h.2.1 _ h'.1) (h'.2.1 _ h.1)))
    (h'.2.2 K h.1 (le_antisymm (h'.2.1 _ h.1) (h.2.1 _ h'.1)))

/-- `B` is the greatest of the values `f q`, `q < Q`, or the least value of all if there is none. -/
def Sup (Q : ℕ) (f : ℕ → EReal) (B : EReal) : Prop :=
  (∀ q < Q, f q ≤ B) ∧ (B = ⊥ ∨ ∃ q < Q, f q = B)

theorem Sup.unique {Q : ℕ} {f : ℕ → EReal} {B B' : EReal} (h : Sup Q f B) (h' : Sup Q f B') : B = B' := by
  apply le_antisymm
  · rcases h.2 with hb | ⟨q, hq, hb⟩
    · rw [hb]; exact bot_le
    · rw [← hb]; exact h'.1 q hq
  · rcases h'.2 with hb | ⟨q, hq, hb⟩
    · rw [hb]; exact bot_le
    · rw [← hb]; exact h.1 q hq

/-- `K` is below every identifier `d q` with `f q = B`, and one of them or else `N`. -/
structure LeastOf (Q N : ℕ) (f : ℕ → EReal) (d : ℕ → ℕ) (B : EReal) (K : ℕ) : Prop where
  le : ∀ q < Q, f q = B → K ≤ d q
  att : K = N ∨ ∃ q < Q, f q = B ∧ d q = K

/-- Folding the least of two words, none negative, gives the least of all. -/
theorem min_fold {n : ℕ} (hn : 0 < n) (g : Fin n → BitVec 32) (hg : ∀ q, (g q).toNat < 2 ^ 31) :
    (∀ q, ((Finset.univ : Finset (Fin n)).fold IntOp.minsi 2147483647#32 g).toNat ≤ (g q).toNat)
      ∧ ∃ q, (Finset.univ : Finset (Fin n)).fold IntOp.minsi 2147483647#32 g = g q := by
  have key : ∀ S : Finset (Fin n), (∀ q ∈ S, (S.fold IntOp.minsi 2147483647#32 g).toNat ≤ (g q).toNat)
      ∧ (S.fold IntOp.minsi 2147483647#32 g).toNat < 2 ^ 31
      ∧ (S.fold IntOp.minsi 2147483647#32 g = 2147483647#32 ∨ ∃ q ∈ S, S.fold IntOp.minsi 2147483647#32 g = g q) := by
    intro S
    induction S using Finset.induction_on with
    | empty => exact ⟨by simp, by rw [Finset.fold_empty]; decide, Or.inl (Finset.fold_empty ..)⟩
    | insert q S hq ih =>
      obtain ⟨h1, h2, h3⟩ := ih
      rw [Finset.fold_insert hq]
      generalize S.fold IntOp.minsi 2147483647#32 g = T at h1 h2 h3
      have hs : (g q).slt T = decide ((g q).toNat < T.toNat) := by
        rw [BitVec.slt, BitVec.toInt_eq_toNat_of_lt (by have := hg q; omega), BitVec.toInt_eq_toNat_of_lt (by omega)]
        simp
      rw [IntOp.minsi, hs]
      by_cases hc : (g q).toNat < T.toNat
      · simp only [hc, decide_true, if_true]
        refine ⟨?_, hg q, Or.inr ⟨q, Finset.mem_insert_self _ _, rfl⟩⟩
        intro p hp
        rcases Finset.mem_insert.mp hp with rfl | hp
        · exact le_rfl
        · exact hc.le.trans (h1 p hp)
      · simp only [hc, decide_false, Bool.false_eq_true, if_false]
        refine ⟨?_, h2, ?_⟩
        · intro p hp
          rcases Finset.mem_insert.mp hp with rfl | hp
          · omega
          · exact h1 p hp
        · rcases h3 with h3 | ⟨p, hp, h3⟩
          · exact Or.inl h3
          · exact Or.inr ⟨p, Finset.mem_insert_of_mem hp, h3⟩
  obtain ⟨h1, h2, h3⟩ := key Finset.univ
  refine ⟨fun q => h1 q (Finset.mem_univ _), ?_⟩
  rcases h3 with h3 | ⟨q, _, h3⟩
  · refine ⟨⟨0, hn⟩, ?_⟩
    have h4 := h1 ⟨0, hn⟩ (Finset.mem_univ _)
    have h5 := hg ⟨0, hn⟩
    rw [h3] at h4 ⊢
    apply BitVec.eq_of_toNat_eq
    have e : (2147483647#32).toNat = 2147483647 := rfl
    rw [e] at h4 ⊢
    omega
  · exact ⟨q, h3⟩

section Lanes

variable (N T Q : ℕ) (l : ℕ → EReal) (off : ℕ → ℕ)

/-- The value handed to lane `q` at step `t`: the one at position `T·t + off q`, the least past the end. -/
def val (q t : ℕ) : EReal := if T * t + off q < N then l (T * t + off q) else ⊥

/-- Its identifier. -/
def ident (q t : ℕ) : BitVec 32 := BitVec.ofNat 32 (T * t + off q)

variable {N T Q l off} {S : ℕ} {m1 m2 : ℕ → EReal} {d : ℕ → BitVec 32}

/-- Over all lanes: the greatest value, its least position, the greatest of the others. -/
theorem combine (hN : 0 < N) (hQ : 0 < Q) (hT : T * S < 2 ^ 31) (hNT : N ≤ T * S) (hoff : ∀ q < Q, off q < T)
    (hcov : ∀ r < T, ∃ q < Q, off q = r)
    (hh : ∀ q < Q, Held (val N T l off q) (ident T off q) S (m1 q) (m2 q) (d q))
    {B C : EReal} {K : ℕ} (hB : Sup Q m1 B) (hK : LeastOf Q N m1 (fun q => (d q).toNat) B K)
    (hC : Sup Q (fun q => if d q = BitVec.ofNat 32 K then m2 q else m1 q) C) :
    First N l K ∧ l K = B ∧ Sup N (fun v => if v = K then ⊥ else l v) C := by
  have hTpos : 0 < T := Nat.pos_of_ne_zero (by rintro rfl; simp at hNT; omega)
  -- a position's lane and step
  have hpos : ∀ v < N, ∃ q < Q, ∃ t < S, T * t + off q = v := by
    intro v hv
    obtain ⟨q, hq, ho⟩ := hcov (v % T) (Nat.mod_lt _ hTpos)
    refine ⟨q, hq, v / T, ?_, by rw [ho]; exact Nat.div_add_mod v T⟩
    exact Nat.div_lt_of_lt_mul (lt_of_lt_of_le hv hNT)
  have hlt : ∀ q < Q, ∀ t < S, T * t + off q < 2 ^ 31 := by
    intro q hq t ht
    have := hoff q hq
    have : T * (t + 1) ≤ T * S := Nat.mul_le_mul_left _ ht
    rw [Nat.mul_add] at this
    omega
  have hid : ∀ q < Q, ∀ t < S, (ident T off q t).toNat = T * t + off q := by
    intro q hq t ht
    rw [ident, BitVec.toNat_ofNat, Nat.mod_eq_of_lt]
    have := hlt q hq t ht
    omega
  have hval : ∀ q t, T * t + off q < N → val N T l off q t = l (T * t + off q) := fun q t h => if_pos h
  have hval' : ∀ q t, val N T l off q t ≠ ⊥ → T * t + off q < N := by
    intro q t h
    by_contra hn
    exact h (if_neg hn)
  -- every lane's greatest below `B`
  have hle : ∀ v < N, l v ≤ B := by
    intro v hv
    obtain ⟨q, hq, t, ht, rfl⟩ := hpos v hv
    rw [← hval q t hv]
    exact ((hh q hq).le1 t ht).trans (hB.1 q hq)
  -- a lane holding a proper value holds its position
  have hheld : ∀ q < Q, m1 q ≠ ⊥ → (d q).toNat < N ∧ l (d q).toNat = m1 q := by
    intro q hq hne
    obtain ⟨t, ht, hd, ha, _⟩ := (hh q hq).att1 hne
    have hv := hval' q t (by rw [ha]; exact hne)
    rw [hd, hid q hq t ht, ← ha, hval q t hv]
    exact ⟨hv, rfl⟩
  have hKfirst : First N l K ∧ l K = B := by
    rcases eq_or_ne B ⊥ with hb | hb
    · -- nothing above the least value: position zero
      have hz : ∀ q < Q, m1 q = ⊥ := fun q hq => le_bot_iff.mp (hb ▸ hB.1 q hq)
      have hK0 : K = 0 := by
        have := hK.le 0 hQ (by rw [hz 0 hQ, hb])
        rw [(hh 0 hQ).bot (hz 0 hQ)] at this
        simpa using this
      subst hK0
      have h0 : ∀ v < N, l v = ⊥ := fun v hv => le_bot_iff.mp (hb ▸ hle v hv)
      exact ⟨⟨hN, fun v hv => by rw [h0 v hv]; exact bot_le, fun _ _ _ => Nat.zero_le _⟩, by rw [h0 0 hN, hb]⟩
    · -- some lane attains `B`
      obtain ⟨q0, hq0, hm0⟩ := hB.2.resolve_left hb
      have hd0 := hheld q0 hq0 (by rw [hm0]; exact hb)
      have hKN : K < N := lt_of_le_of_lt (hK.le q0 hq0 hm0) hd0.1
      obtain ⟨q, hq, hmq, hdq⟩ := hK.att.resolve_left hKN.ne
      have hlK : l K = B := by
        have := (hheld q hq (by rw [hmq]; exact hb)).2
        rw [← hmq, ← this, ← hdq]
      refine ⟨⟨hKN, fun v hv => hlK ▸ hle v hv, ?_⟩, hlK⟩
      intro v hv hlv
      obtain ⟨p, hp, t, ht, rfl⟩ := hpos v hv
      have hvt : val N T l off p t = B := by rw [hval p t hv, hlv, hlK]
      have hmp : m1 p = B := le_antisymm (hB.1 p hp) (hvt ▸ (hh p hp).le1 t ht)
      obtain ⟨u, hu, hd, hau, hmin⟩ := (hh p hp).att1 (by rw [hmp]; exact hb)
      have hut := hmin t ht (by rw [hvt, hmp])
      have := hK.le p hp hmp
      simp only [hd, hid p hp u hu] at this
      have : T * u ≤ T * t := Nat.mul_le_mul_left _ hut
      omega
  obtain ⟨hF, hlK⟩ := hKfirst
  have hK31 : (BitVec.ofNat 32 K).toNat = K := by
    rw [BitVec.toNat_ofNat, Nat.mod_eq_of_lt]
    have := hF.1
    omega
  refine ⟨hF, hlK, ?_, ?_⟩
  · -- every other value is below `C`
    intro v hv
    dsimp only
    split
    · exact bot_le
    · rename_i hvK
      obtain ⟨q, hq, t, ht, rfl⟩ := hpos v hv
      have hq' := hC.1 q hq
      dsimp only at hq'
      split at hq'
      · rename_i hdq
        rw [← hval q t hv]
        refine ((hh q hq).le2 t ht ?_).trans hq'
        intro he
        apply hvK
        rw [← hid q hq t ht, he, hdq, hK31]
      · rw [← hval q t hv]
        exact ((hh q hq).le1 t ht).trans hq'
  · -- `C` is attained away from `K`
    rcases eq_or_ne C ⊥ with hc | hc
    · exact Or.inl hc
    right
    obtain ⟨q, hq, hmq⟩ := hC.2.resolve_left hc
    dsimp only at hmq
    split at hmq
    · rename_i hdq
      rcases (hh q hq).att2 with h2 | ⟨t, ht, hne, h2⟩
      · exact absurd (hmq.symm.trans h2) hc
      · have hv := hval' q t (by rw [h2, hmq]; exact hc)
        refine ⟨T * t + off q, hv, ?_⟩
        dsimp only
        rw [if_neg, ← hval q t hv, h2, hmq]
        intro he
        apply hne
        rw [hdq, ident, he]
    · rename_i hdq
      have h1 := hheld q hq (by rw [hmq]; exact hc)
      refine ⟨(d q).toNat, h1.1, ?_⟩
      dsimp only
      rw [if_neg, h1.2, hmq]
      intro he
      apply hdq
      rw [← he, BitVec.ofNat_toNat, BitVec.setWidth_eq]

end Lanes

/-- Folding the maximum from the least value gives the greatest. -/
theorem sup_fold {n : ℕ} (f : ℕ → EReal) : Sup n f (Finset.fold max (⊥ : EReal) (fun v : Fin n => f v.val) Finset.univ) := by
  refine ⟨fun q hq => (Finset.le_fold_max _).mpr (Or.inr ⟨⟨q, hq⟩, Finset.mem_univ _, le_rfl⟩), ?_⟩
  have h := (Finset.le_fold_max (s := Finset.univ) (f := fun v : Fin n => f v.val) (b := (⊥ : EReal)) _).mp le_rfl
  rcases h with h | ⟨v, _, h⟩
  · exact Or.inl (le_bot_iff.mp h)
  · exact Or.inr ⟨v.val, v.isLt, le_antisymm ((Finset.le_fold_max _).mpr (Or.inr ⟨v, Finset.mem_univ _, le_rfl⟩)) h⟩

/-- The choice between two values under their identifiers: the greater value, and of equal values
    the lesser identifier. -/
def pick (p q : EReal × BitVec 32) : EReal × BitVec 32 :=
  (if q.1 < p.1 then p.1 else q.1, if q.1 < p.1 ∨ (p.1 = q.1 ∧ p.2.toNat < q.2.toNat) then p.2 else q.2)

/-- Folding the choice over a list keeps a greatest value and the least identifier of one. -/
theorem pick_fold (l : ℕ → EReal) (N : ℕ) (hN : N ≤ 2 ^ 31) : ∀ (vs : List ℕ) (_ : ∀ v ∈ vs, v < N) (seen : ℕ → Prop) (p : EReal × BitVec 32)
    (_ : ∀ v < N, seen v → l v ≤ p.1 ∧ (l v = p.1 → p.2.toNat ≤ v)) (_ : p = (⊥, 0#32) ∨ ∃ v < N, p = (l v, BitVec.ofNat 32 v)),
    let r := vs.foldl (fun acc v => pick acc (l v, BitVec.ofNat 32 v)) p
    (∀ v < N, seen v ∨ v ∈ vs → l v ≤ r.1 ∧ (l v = r.1 → r.2.toNat ≤ v))
      ∧ (r = (⊥, 0#32) ∨ ∃ v < N, r = (l v, BitVec.ofNat 32 v))
  | [], _, seen, p, h, h' => by
    refine ⟨fun v hv hs => h v hv ?_, h'⟩
    simpa using hs
  | w :: vs, hvs, seen, p, h, h' => by
    have hw : w < N := hvs w (by simp)
    have hw' : (BitVec.ofNat 32 w).toNat = w := by
      rw [BitVec.toNat_ofNat, Nat.mod_eq_of_lt]
      omega
    have := pick_fold l N hN vs (fun v hv => hvs v (by simp [hv])) (fun v => seen v ∨ v = w) (pick p (l w, BitVec.ofNat 32 w)) ?_ ?_
    · refine ⟨fun v hv hs => this.1 v hv ?_, this.2⟩
      simp only [List.mem_cons] at hs
      tauto
    · intro v hv hs
      simp only [pick, hw']
      by_cases hc : l w < p.1
      · simp only [hc, if_true, true_or]
        rcases hs with hs | rfl
        · exact h v hv hs
        · exact ⟨hc.le, fun he => absurd he hc.ne⟩
      · simp only [hc, if_false, false_or]
        have hle := not_lt.mp hc
        rcases hs with hs | rfl
        · obtain ⟨h1, h2⟩ := h v hv hs
          refine ⟨h1.trans hle, fun he => ?_⟩
          have hp : l v = p.1 := le_antisymm h1 (he ▸ hle)
          have hpw : p.1 = l w := hp ▸ he
          have := h2 hp
          split
          · exact this
          · rename_i hn
            rw [hw']
            have : ¬ p.2.toNat < w := fun hh => hn ⟨hpw, hh⟩
            omega
        · refine ⟨le_rfl, fun _ => ?_⟩
          split
          · rename_i hh
            exact hh.2.le
          · rw [hw']
    · simp only [pick, hw']
      by_cases hc : l w < p.1
      · simp only [hc, if_true, true_or]
        exact h'
      · simp only [hc, if_false, false_or]
        split
        · rename_i hh
          rcases h' with h' | ⟨v, hv, h'⟩
          · left; rw [← hh.1, h']
          · right; exact ⟨v, hv, by rw [← hh.1, h']⟩
        · exact Or.inr ⟨w, hw, rfl⟩

/-- The fold over all positions ends at the least position of the greatest value. -/
theorem pick_first (l : ℕ → EReal) (N : ℕ) (hN : N ≤ 2 ^ 31) (hpos : 0 < N) (vs : List ℕ) (hvs : ∀ v, v ∈ vs ↔ v < N) :
    ∃ K, First N l K ∧ vs.foldl (fun acc v => pick acc (l v, BitVec.ofNat 32 v)) (⊥, 0#32) = (l K, BitVec.ofNat 32 K) := by
  have h := pick_fold l N hN vs (fun v hv => (hvs v).mp hv) (fun _ => False) (⊥, 0#32) (fun _ _ h => h.elim) (Or.inl rfl)
  dsimp only at h
  generalize vs.foldl (fun acc v => pick acc (l v, BitVec.ofNat 32 v)) (⊥, 0#32) = r at h
  obtain ⟨h1, h2⟩ := h
  have h1 : ∀ v < N, l v ≤ r.1 ∧ (l v = r.1 → r.2.toNat ≤ v) := fun v hv => h1 v hv (Or.inr ((hvs v).mpr hv))
  rcases h2 with rfl | ⟨K, hK, rfl⟩
  · have h0 : ∀ v < N, l v = ⊥ := fun v hv => le_bot_iff.mp (h1 v hv).1
    exact ⟨0, ⟨hpos, fun v hv => by rw [h0 v hv]; exact bot_le, fun _ _ _ => Nat.zero_le _⟩, by rw [h0 0 hpos]⟩
  · have hK' : (BitVec.ofNat 32 K).toNat = K := by
      rw [BitVec.toNat_ofNat, Nat.mod_eq_of_lt]
      omega
    refine ⟨K, ⟨hK, fun v hv => (h1 v hv).1, fun v hv he => ?_⟩, rfl⟩
    have := (h1 v hv).2 he
    rwa [hK'] at this

end Cert.TopTwo
-- ==== Proof.KernelRead.lean ====
/- The idealized kernel's results, read at an index from the steps' logits. -/
module

public import proofs.«01_k».proof.Proof.IdealFrame
public import proofs.«01_k».proof.Proof.TopTwo

@[expose] public section

set_option maxRecDepth 16384

noncomputable section

namespace Cert.KernelIdeal.Value

open Cert.KernelIdeal Cert.KernelIdeal.Body
open Idealize.ShloMosaic Idealize.ShloMosaic.TcCoe Idealize.SL.Sem
open Cert.TopTwo

theorem ofBits_low : Ideal.ofBits .f32 0xFF800000#32 = ⊥ := by
  simp [Ideal.ofBits, Ideal.ieee]

/-- A lane's row and column among 32 × 256, from its row and column among 16 × 512. -/
def lane2 (b : Fin 16) (q : Fin 512) : S32x256.Idx := ix2 (⟨16 * (q.val / 256) + b.val, by omega⟩ : Fin 32) (⟨q.val % 256, by omega⟩ : Fin 256)

theorem fold_at {α : Type} (v : S32x256.Idx → α) (b : Fin 16) (q : Fin 512) : fold v (ix2 b q) = v (lane2 b q) := by
  unfold lane2
  pointwise [fold]
  by_cases h : q.val < 256
  · rw [dif_pos h]
    refine congrArg v ?_
    idx_ext
  · rw [dif_neg h]
    refine congrArg v ?_
    idx_ext

/-- The row of the vocabulary block that lane `q` holds. -/
def off (q : ℕ) : ℕ := 2 * (q % 256) + q / 256

/-- The half a lane lies in, computed by division rounded down. -/
theorem half_row : ∀ R : Fin 32,
    Scalar.select
      (IntOp.andi
        (IntOp.cmpi CmpIPredicate.ne
          (IntOp.subi
            (BitVec.setWidth 32 (IntOp.cmpi CmpIPredicate.sgt (BitVec.ofNat 32 R.val) 0#32))
            (BitVec.setWidth 32 (IntOp.cmpi CmpIPredicate.slt (BitVec.ofNat 32 R.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 R.val) 16#32) 0#32))
      (IntOp.subi (IntOp.divsi ArithUnit.vector (BitVec.ofNat 32 R.val) 16#32) 1#32)
      (IntOp.divsi ArithUnit.vector (BitVec.ofNat 32 R.val) 16#32) = BitVec.ofNat 32 (R.val / 16) := by
  decide +kernel

theorem ids_at (n : ℕ) (b : Fin 16) (q : Fin 512) :
    ids (BitVec.ofNat 32 n) (lane2 b q) = BitVec.ofNat 32 (512 * n + off q.val) := by
  unfold lane2
  pointwise [ids]
  refine (congrArg (IntOp.addi _) (half_row (⟨16 * (q.val / 256) + b.val, by omega⟩ : Fin 32))).trans ?_
  apply BitVec.eq_of_toNat_eq
  have e : (16 * (q.val / 256) + b.val) / 16 = q.val / 256 := by omega
  simp only [IntOp.addi, IntOp.muli, Scalar.muli, e, off, BitVec.toNat_add, BitVec.toNat_mul, BitVec.toNat_ofNat]
  omega

/-- A row of 512 lanes, by lane number. -/
def laneRow {α : Type} (z : α) (f : S16x512.Idx → α) (b : Fin 16) (q : ℕ) : α := if h : q < 512 then f (ix2 b ⟨q, h⟩) else z

theorem topOf_at (f : FVec Ideal S16x512 .f32) (b : Fin 16) : Sup 512 (laneRow ⊥ f b) (topOf f (ix2 b 0)) := by
  have e : topOf f (ix2 b 0) = Finset.fold max (⊥ : EReal) (fun q : Fin 512 => laneRow ⊥ f b q.val) Finset.univ := by
    pointwise [topOf]
    rw [ofBits_low]
    refine congrArg (fun f => Finset.fold max (⊥ : EReal) f Finset.univ) (funext fun q => ?_)
    rw [laneRow, dif_pos q.isLt]
  rw [e]
  exact sup_fold _

theorem tokOf_at (f : FVec Ideal S16x512 .f32) (d : IVec S16x512 32) (b : Fin 16) (hd : ∀ q : Fin 512, (d (ix2 b q)).toNat < 2 ^ 31) :
    LeastOf 512 32000 (laneRow ⊥ f b) (fun q => (laneRow 0 d b q).toNat) (topOf f (ix2 b 0)) (tokOf f d (ix2 b 0)).toNat := by
  unfold tokOf
  generalize topOf f = T
  pointwise
  have hg : ∀ q : Fin 512, (if f (ix2 b q) = T (ix2 b 0) then d (ix2 b q) else 32000#32).toNat < 2 ^ 31 := by
    intro q
    split
    · exact hd q
    · decide
  obtain ⟨h1, q0, h2⟩ := min_fold (by norm_num) (fun q : Fin 512 => if f (ix2 b q) = T (ix2 b 0) then d (ix2 b q) else 32000#32) hg
  refine ⟨fun q hq he => ?_, ?_⟩
  · have h := h1 ⟨q, hq⟩
    simp only [laneRow, dif_pos hq] at he ⊢
    rw [if_pos he] at h
    exact h
  · rw [h2]
    by_cases hc : f (ix2 b q0) = T (ix2 b 0)
    · refine Or.inr ⟨q0.val, q0.isLt, ?_, ?_⟩
      · simpa only [laneRow, dif_pos q0.isLt] using hc
      · simp only [laneRow, dif_pos q0.isLt, if_pos hc]
    · refine Or.inl ?_
      simp only [if_neg hc]
      rfl

theorem secondOf_at (f g : FVec Ideal S16x512 .f32) (d : IVec S16x512 32) (b : Fin 16) :
    Sup 512 (fun q => if laneRow 0 d b q = tokOf f d (ix2 b 0) then laneRow ⊥ g b q else laneRow ⊥ f b q) (secondOf f g d (ix2 b 0)) := by
  unfold secondOf
  generalize tokOf f d = T
  have h := topOf_at (select (cmpi .eq d (broadcastTo S16x512 T Facts₀.broadcasts_S16x1_S16x512)) g f) b
  have e : ∀ q < 512, laneRow ⊥ (select (cmpi .eq d (broadcastTo S16x512 T Facts₀.broadcasts_S16x1_S16x512)) g f) b q
      = if laneRow 0 d b q = T (ix2 b 0) then laneRow ⊥ g b q else laneRow ⊥ f b q := by
    intro q hq
    simp only [laneRow, dif_pos hq]
    pointwise
    by_cases hc : d (ix2 b ⟨q, hq⟩) = T (ix2 b 0)
    · simp [hc, IntOp.cmpi, Scalar.select]
    · rw [if_neg hc, IntOp.cmpi]
      simp only [beq_eq_false_iff_ne.mpr hc]
      rfl
  refine ⟨fun v hv => (e v hv).symm.trans_le (h.1 v hv), ?_⟩
  rcases h.2 with hb | ⟨v, hv, hb⟩
  · exact Or.inl hb
  · exact Or.inr ⟨v, hv, (e v hv).symm.trans hb⟩

theorem lowest_at (j : S32x256.Idx) : lowest (F := Ideal) j = (⊥ : EReal) := by
  idx_vars j
  pointwise [lowest]
  exact ofBits_low

/-- The maximum as a choice. -/
theorem max_def' (a b : EReal) : max a b = if a < b then b else a := by
  by_cases h : a < b
  · rw [if_pos h, max_eq_right h.le]
  · rw [if_neg h, max_eq_left (not_lt.mp h)]

/-- What a lane holds depends on the values it has been offered. -/
theorem lane_congr (a a' : ℕ → EReal) (i : ℕ → BitVec 32) : ∀ n, (∀ t < n, a t = a' t) → lane a i n = lane a' i n
  | 0, _ => rfl
  | n + 1, h => by
    simp only [lane, lane_congr a a' i n (fun t ht => h t (by omega)), h n (by omega)]

/-- A lane's identifier is not negative. -/
theorem held_small {l : ℕ → EReal} {q : ℕ} {m1 m2 : EReal} {d : BitVec 32} (h : Held (val 32000 512 l off q) (ident 512 off q) 63 m1 m2 d)
    (h63 : 512 * 63 < 2 ^ 31) (hq : off q < 512) : d.toNat < 2 ^ 31 := by
  by_cases hb : m1 = ⊥
  · rw [h.bot hb]; decide
  · obtain ⟨t, ht, hd, _⟩ := h.att1 hb
    rw [hd, ident, BitVec.toNat_ofNat]
    omega

/-- What the kernel's buffers hold of a lane after `n` steps is what the lane holds. -/
theorem scan_at (L : ℕ → FVec Ideal S32x256 .f32) (b : Fin 16) (q : Fin 512) : ∀ n,
    ((scan (F := Ideal) L n).1 (lane2 b q), (scan (F := Ideal) L n).2.1 (lane2 b q), (scan (F := Ideal) L n).2.2 (lane2 b q))
      = lane (fun t => L t (lane2 b q)) (ident 512 off q.val) n
  | 0 => by
    refine Prod.ext ?_ (Prod.ext ?_ ?_)
    · exact lowest_at (lane2 b q)
    · exact lowest_at (lane2 b q)
    · show noIds (lane2 b q) = 0#32
      generalize lane2 b q = j
      idx_vars j
      pointwise [noIds]
  | n + 1 => by
    have ih := scan_at L b q n
    simp only [lane, ← ih]
    have hi : ids (BitVec.ofNat 32 n) (lane2 b q) = ident 512 off q.val n := ids_at n b q
    simp only [scan, newTop, newNext, ← hi]
    generalize lane2 b q = j
    generalize scan (F := Ideal) L n = s
    generalize L n = l
    generalize ids (BitVec.ofNat 32 n) = d
    idx_vars j
    pointwise
    refine Prod.ext (max_def' _ _).symm rfl

/-- The three results: the first greatest logit's row, the logit, and how far it is above the greatest of the others. -/
theorem results (L : ℕ → FVec Ideal S32x256 .f32) (b : Fin 16) (l : ℕ → EReal)
    (hL : ∀ (q : Fin 512), ∀ t < 63, L t (lane2 b q) = val 32000 512 l off q.val t) :
    ∃ K C, First 32000 l K ∧ Sup 32000 (fun v => if v = K then ⊥ else l v) C
      ∧ tokRes (F := Ideal) L (ix2 b 0) = BitVec.ofNat 32 K ∧ topRes (F := Ideal) L (ix2 b 0) = l K ∧ marginRes (F := Ideal) L (ix2 b 0) = l K - C := by
  have hs : ∀ q : Fin 512, ((scan (F := Ideal) L 63).1 (lane2 b q), (scan (F := Ideal) L 63).2.1 (lane2 b q), (scan (F := Ideal) L 63).2.2 (lane2 b q))
      = lane (val 32000 512 l off q.val) (ident 512 off q.val) 63 := by
    intro q
    rw [scan_at]
    exact lane_congr _ _ _ 63 fun t ht => hL q t ht
  have hoff : ∀ q < 512, off q < 512 := by intro q hq; unfold off; omega
  have hheld : ∀ q : Fin 512, Held (val 32000 512 l off q.val) (ident 512 off q.val) 63 ((scan (F := Ideal) L 63).1 (lane2 b q)) ((scan (F := Ideal) L 63).2.1 (lane2 b q)) ((scan (F := Ideal) L 63).2.2 (lane2 b q)) := by
    intro q
    have h := held (val 32000 512 l off q.val) (ident 512 off q.val) 63 (fun s hs t ht e => ?_) 63 le_rfl
    · rw [← hs q] at h
      exact h
    · have := hoff q.val q.isLt
      have e' := congrArg BitVec.toNat e
      simp only [ident, BitVec.toNat_ofNat] at e'
      omega
  unfold tokRes topRes marginRes marginOf
  generalize scan (F := Ideal) L 63 = s at hheld
  have hB := topOf_at (fold s.1) b
  have hd : ∀ q : Fin 512, (fold s.2.2 (ix2 b q)).toNat < 2 ^ 31 := by
    intro q
    rw [fold_at]
    exact held_small (hheld q) (by norm_num) (hoff q.val q.isLt)
  have hK := tokOf_at (fold s.1) (fold s.2.2) b hd
  have hC := secondOf_at (fold s.1) (fold s.2.1) (fold s.2.2) b
  have hC' : Sup 512 (fun q => if laneRow 0 (fold s.2.2) b q = BitVec.ofNat 32 (tokOf (F := Ideal) (fold s.1) (fold s.2.2) (ix2 b 0)).toNat then laneRow ⊥ (fold s.2.1) b q else laneRow ⊥ (fold s.1) b q)
      (secondOf (F := Ideal) (fold s.1) (fold s.2.1) (fold s.2.2) (ix2 b 0)) := by
    rw [BitVec.ofNat_toNat, BitVec.setWidth_eq]
    exact hC
  obtain ⟨h1, h2, h3⟩ := combine (l := l) (N := 32000) (T := 512) (S := 63) (Q := 512) (off := off) (by norm_num) (by norm_num) (by norm_num) (by norm_num) hoff
    (fun r hr => ⟨256 * (r % 2) + r / 2, by omega, by unfold off; omega⟩)
    (m1 := laneRow ⊥ (fold s.1) b) (m2 := laneRow ⊥ (fold s.2.1) b) (d := laneRow 0 (fold s.2.2) b)
    (fun q hq => by
      simp only [laneRow, dif_pos hq, fold_at]
      exact hheld ⟨q, hq⟩)
    hB hK hC'
  refine ⟨_, _, h1, h3, ?_, h2.symm, ?_⟩
  · rw [BitVec.ofNat_toNat, BitVec.setWidth_eq]
  · rw [h2]
    rfl

end Cert.KernelIdeal.Value
-- ==== Proof.RefRun.lean ====
/-
  The run of the reference program: a straight line of host operations, so every buffer ends at the
  operations' results folded over the launch contents.  The three results are stated here as plain
  terms of the three arguments.
-/
module

public import Idealize.ShloMosaic.Lib.StableHlo.Run
public import Idealize.ShloMosaic.Lib.Quiescent
public import proofs.«01_k».proof.Proof.Gen.ReferenceIdeal

@[expose] public section

set_option maxRecDepth 100000

noncomputable section

namespace Cert.ReferenceIdeal.HostRun

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order, the two helper calls inlined. -/
abbrev ops : List (HloOp τ sig (Elt F)) :=
  [ reshape main_arg0 main_v0 (rfl : (.bf16 : EltTy) = .bf16) shapeCasts_S16x1x8192_S16x256x2x16,
    unary main_v0 main_v1 ((extractStridedSlice S16x256x1x16 ![0, 0, 0, 0] · slices_S16x256x2x16_S16x256x1x16_0_0_0_0) : (⟨S16x256x2x16, .bf16⟩ : BufTy).Contents (Elt F) → (⟨S16x256x1x16, .bf16⟩ : BufTy).Contents (Elt F)),
    reshape main_v1 main_v2 (rfl : (.bf16 : EltTy) = .bf16) shapeCasts_S16x256x1x16_S16x256x16,
    reshape main_v2 main_v3 (rfl : (.bf16 : EltTy) = .bf16) shapeCasts_S16x256x16_S16x4096,
    unary main_v0 main_v4 ((extractStridedSlice S16x256x1x16 ![0, 0, 1, 0] · slices_S16x256x2x16_S16x256x1x16_0_0_1_0) : (⟨S16x256x2x16, .bf16⟩ : BufTy).Contents (Elt F) → (⟨S16x256x1x16, .bf16⟩ : BufTy).Contents (Elt F)),
    reshape main_v4 main_v5 (rfl : (.bf16 : EltTy) = .bf16) shapeCasts_S16x256x1x16_S16x256x16,
    reshape main_v5 main_v6 (rfl : (.bf16 : EltTy) = .bf16) shapeCasts_S16x256x16_S16x4096,
    unary main_arg2 main_v7 (broadcastInDim S32000x256x1 ![0, 1] bcast_S32000x256_S32000x256x1_0_1 : (⟨S32000x256, .bf16⟩ : BufTy).Contents (Elt F) → (⟨S32000x256x1, .bf16⟩ : BufTy).Contents (Elt F)),
    unary main_v7 main_v8 (broadcastInDim S32000x256x16 ![0, 1, 2] bcast_S32000x256x1_S32000x256x16_0_1_2 : (⟨S32000x256x1, .bf16⟩ : BufTy).Contents (Elt F) → (⟨S32000x256x16, .bf16⟩ : BufTy).Contents (Elt F)),
    reshape main_v8 main_v9 (rfl : (.bf16 : EltTy) = .bf16) shapeCasts_S32000x256x16_S32000x4096,
    unary main_arg1 main_v10 ((extui 32 · natLt_8_32) : (⟨S32000x4096, .i8⟩ : BufTy).Contents (Elt F) → (⟨S32000x4096, .i32⟩ : BufTy).Contents (Elt F)),
    nullary main_c (constantI S_ 32 0#32),
    unary main_c main_v11 (broadcastInDim S32000x4096 ![] bcast_S_S32000x4096 : (⟨S_, .i32⟩ : BufTy).Contents (Elt F) → (⟨S32000x4096, .i32⟩ : BufTy).Contents (Elt F)),
    binary main_v10 main_v11 main_v12 (Host.shrsi : (⟨S32000x4096, .i32⟩ : BufTy).Contents (Elt F) → (⟨S32000x4096, .i32⟩ : BufTy).Contents (Elt F) → (⟨S32000x4096, .i32⟩ : BufTy).Contents (Elt F)),
    nullary main_c_0 (constantI S_ 32 15#32),
    unary main_c_0 main_v13 (broadcastInDim S32000x4096 ![] bcast_S_S32000x4096 : (⟨S_, .i32⟩ : BufTy).Contents (Elt F) → (⟨S32000x4096, .i32⟩ : BufTy).Contents (Elt F)),
    binary main_v12 main_v13 main_v14 (andi : (⟨S32000x4096, .i32⟩ : BufTy).Contents (Elt F) → (⟨S32000x4096, .i32⟩ : BufTy).Contents (Elt F) → (⟨S32000x4096, .i32⟩ : BufTy).Contents (Elt F)),
    unary main_v14 main_v15 (sitofp .bf16 : (⟨S32000x4096, .i32⟩ : BufTy).Contents (Elt F) → (⟨S32000x4096, .bf16⟩ : BufTy).Contents (Elt F)),
    nullary main_cst (constant S_ .bf16 0x4100#16),
    unary main_cst main_v16 (broadcastInDim S32000x4096 ![] bcast_S_S32000x4096 : (⟨S_, .bf16⟩ : BufTy).Contents (Elt F) → (⟨S32000x4096, .bf16⟩ : BufTy).Contents (Elt F)),
    binary main_v15 main_v16 main_v17 (subf : (⟨S32000x4096, .bf16⟩ : BufTy).Contents (Elt F) → (⟨S32000x4096, .bf16⟩ : BufTy).Contents (Elt F) → (⟨S32000x4096, .bf16⟩ : BufTy).Contents (Elt F)),
    binary main_v17 main_v9 main_v18 (mulf : (⟨S32000x4096, .bf16⟩ : BufTy).Contents (Elt F) → (⟨S32000x4096, .bf16⟩ : BufTy).Contents (Elt F) → (⟨S32000x4096, .bf16⟩ : BufTy).Contents (Elt F)),
    unary main_arg1 main_v19 ((extui 32 · natLt_8_32) : (⟨S32000x4096, .i8⟩ : BufTy).Contents (Elt F) → (⟨S32000x4096, .i32⟩ : BufTy).Contents (Elt F)),
    nullary main_c_1 (constantI S_ 32 4#32),
    unary main_c_1 main_v20 (broadcastInDim S32000x4096 ![] bcast_S_S32000x4096 : (⟨S_, .i32⟩ : BufTy).Contents (Elt F) → (⟨S32000x4096, .i32⟩ : BufTy).Contents (Elt F)),
    binary main_v19 main_v20 main_v21 (Host.shrsi : (⟨S32000x4096, .i32⟩ : BufTy).Contents (Elt F) → (⟨S32000x4096, .i32⟩ : BufTy).Contents (Elt F) → (⟨S32000x4096, .i32⟩ : BufTy).Contents (Elt F)),
    nullary main_c_2 (constantI S_ 32 15#32),
    unary main_c_2 main_v22 (broadcastInDim S32000x4096 ![] bcast_S_S32000x4096 : (⟨S_, .i32⟩ : BufTy).Contents (Elt F) → (⟨S32000x4096, .i32⟩ : BufTy).Contents (Elt F)),
    binary main_v21 main_v22 main_v23 (andi : (⟨S32000x4096, .i32⟩ : BufTy).Contents (Elt F) → (⟨S32000x4096, .i32⟩ : BufTy).Contents (Elt F) → (⟨S32000x4096, .i32⟩ : BufTy).Contents (Elt F)),
    unary main_v23 main_v24 (sitofp .bf16 : (⟨S32000x4096, .i32⟩ : BufTy).Contents (Elt F) → (⟨S32000x4096, .bf16⟩ : BufTy).Contents (Elt F)),
    nullary main_cst_3 (constant S_ .bf16 0x4100#16),
    unary main_cst_3 main_v25 (broadcastInDim S32000x4096 ![] bcast_S_S32000x4096 : (⟨S_, .bf16⟩ : BufTy).Contents (Elt F) → (⟨S32000x4096, .bf16⟩ : BufTy).Contents (Elt F)),
    binary main_v24 main_v25 main_v26 (subf : (⟨S32000x4096, .bf16⟩ : BufTy).Contents (Elt F) → (⟨S32000x4096, .bf16⟩ : BufTy).Contents (Elt F) → (⟨S32000x4096, .bf16⟩ : BufTy).Contents (Elt F)),
    binary main_v26 main_v9 main_v27 (mulf : (⟨S32000x4096, .bf16⟩ : BufTy).Contents (Elt F) → (⟨S32000x4096, .bf16⟩ : BufTy).Contents (Elt F) → (⟨S32000x4096, .bf16⟩ : BufTy).Contents (Elt F)),
    binary main_v3 main_v18 main_v28 ((fun l r => Host.dotGeneral dot_S16x4096_S32000x4096_S16x32000_1_1_0_0_n_n none l r) : (⟨S16x4096, .bf16⟩ : BufTy).Contents (Elt F) → (⟨S32000x4096, .bf16⟩ : BufTy).Contents (Elt F) → (⟨S16x32000, .f32⟩ : BufTy).Contents (Elt F)),
    binary main_v6 main_v27 main_v29 ((fun l r => Host.dotGeneral dot_S16x4096_S32000x4096_S16x32000_1_1_0_0_n_n none l r) : (⟨S16x4096, .bf16⟩ : BufTy).Contents (Elt F) → (⟨S32000x4096, .bf16⟩ : BufTy).Contents (Elt F) → (⟨S16x32000, .f32⟩ : BufTy).Contents (Elt F)),
    binary main_v28 main_v29 main_v30 (addf : (⟨S16x32000, .f32⟩ : BufTy).Contents (Elt F) → (⟨S16x32000, .f32⟩ : BufTy).Contents (Elt F) → (⟨S16x32000, .f32⟩ : BufTy).Contents (Elt F)),
    nullary main_cst_4 (constant S_ .f32 0xFF800000#32),
    binary main_v30 main_cst_4 main_v31 ((fun x v => Host.reduce FloatOps.maximumf x v reducesTo_S16x32000_S16_d1 h_S_) : (⟨S16x32000, .f32⟩ : BufTy).Contents (Elt F) → (⟨S_, .f32⟩ : BufTy).Contents (Elt F) → (⟨S16, .f32⟩ : BufTy).Contents (Elt F)),
    nullary main_call0_v0 (iotaInDim S16x32000 32 1),
    nullary main_call0_cst (constant S_ .f32 0xFF800000#32),
    nullary main_call0_c (constantI S_ 32 0#32),
    quaternary main_v30 main_call0_v0 main_call0_cst main_call0_c main_call0_v1_0 ((fun x y u v j => (Host.argReduce reducer_argmax_f32_i32 x y u v reducesTo_S16x32000_S16_d1 h_S_ j).1) : (⟨S16x32000, .f32⟩ : BufTy).Contents (Elt F) → (⟨S16x32000, .i32⟩ : BufTy).Contents (Elt F) → (⟨S_, .f32⟩ : BufTy).Contents (Elt F) → (⟨S_, .i32⟩ : BufTy).Contents (Elt F) → (⟨S16, .f32⟩ : BufTy).Contents (Elt F)),
    quaternary main_v30 main_call0_v0 main_call0_cst main_call0_c main_v32 ((fun x y u v j => (Host.argReduce reducer_argmax_f32_i32 x y u v reducesTo_S16x32000_S16_d1 h_S_ j).2) : (⟨S16x32000, .f32⟩ : BufTy).Contents (Elt F) → (⟨S16x32000, .i32⟩ : BufTy).Contents (Elt F) → (⟨S_, .f32⟩ : BufTy).Contents (Elt F) → (⟨S_, .i32⟩ : BufTy).Contents (Elt F) → (⟨S16, .i32⟩ : BufTy).Contents (Elt F)),
    nullary main_v33 (iotaInDim S16x32000 32 1),
    unary main_v32 main_v34 (broadcastInDim S16x1 ![0] bcast_S16_S16x1_0 : (⟨S16, .i32⟩ : BufTy).Contents (Elt F) → (⟨S16x1, .i32⟩ : BufTy).Contents (Elt F)),
    unary main_v34 main_v35 (broadcastInDim S16x32000 ![0, 1] bcast_S16x1_S16x32000_0_1 : (⟨S16x1, .i32⟩ : BufTy).Contents (Elt F) → (⟨S16x32000, .i32⟩ : BufTy).Contents (Elt F)),
    binary main_v33 main_v35 main_v36 (cmpi .eq : (⟨S16x32000, .i32⟩ : BufTy).Contents (Elt F) → (⟨S16x32000, .i32⟩ : BufTy).Contents (Elt F) → (⟨S16x32000, .i1⟩ : BufTy).Contents (Elt F)),
    nullary main_cst_5 (constant S_ .f32 0xFF800000#32),
    unary main_cst_5 main_call1_v0 (id : (⟨S_, .f32⟩ : BufTy).Contents (Elt F) → (⟨S_, .f32⟩ : BufTy).Contents (Elt F)),
    unary main_call1_v0 main_call1_v1 (broadcastInDim S16x32000 ![] bcast_S_S16x32000 : (⟨S_, .f32⟩ : BufTy).Contents (Elt F) → (⟨S16x32000, .f32⟩ : BufTy).Contents (Elt F)),
    ternary main_v36 main_call1_v1 main_v30 main_v37 (select : (⟨S16x32000, .i1⟩ : BufTy).Contents (Elt F) → (⟨S16x32000, .f32⟩ : BufTy).Contents (Elt F) → (⟨S16x32000, .f32⟩ : BufTy).Contents (Elt F) → (⟨S16x32000, .f32⟩ : BufTy).Contents (Elt F)),
    nullary main_cst_6 (constant S_ .f32 0xFF800000#32),
    binary main_v37 main_cst_6 main_v38 ((fun x v => Host.reduce FloatOps.maximumf x v reducesTo_S16x32000_S16_d1 h_S_) : (⟨S16x32000, .f32⟩ : BufTy).Contents (Elt F) → (⟨S_, .f32⟩ : BufTy).Contents (Elt F) → (⟨S16, .f32⟩ : BufTy).Contents (Elt F)),
    reshape main_v32 main_v39 (rfl : (.i32 : EltTy) = .i32) shapeCasts_S16_S16x1,
    reshape main_v31 main_v40 (rfl : (.f32 : EltTy) = .f32) shapeCasts_S16_S16x1,
    binary main_v31 main_v38 main_v41 (subf : (⟨S16, .f32⟩ : BufTy).Contents (Elt F) → (⟨S16, .f32⟩ : BufTy).Contents (Elt F) → (⟨S16, .f32⟩ : BufTy).Contents (Elt F)),
    reshape main_v41 main_v42 (rfl : (.f32 : EltTy) = .f32) shapeCasts_S16_S16x1 ]

/-- The reference is that straight line. -/
theorem main_eq (c : Dev nD) : main (F := F) c = seq ops := rfl

/-- The activations that the low nibbles meet: of each group of 32, the first 16. -/
def xLo (x : FVec F S16x1x8192 .bf16) : FVec F S16x4096 .bf16 :=
  shapeCast S16x4096 (shapeCast S16x256x16 (extractStridedSlice S16x256x1x16 ![0, 0, 0, 0] (shapeCast S16x256x2x16 x shapeCasts_S16x1x8192_S16x256x2x16) slices_S16x256x2x16_S16x256x1x16_0_0_0_0) shapeCasts_S16x256x1x16_S16x256x16) shapeCasts_S16x256x16_S16x4096

/-- The activations that the high nibbles meet: of each group of 32, the last 16. -/
def xHi (x : FVec F S16x1x8192 .bf16) : FVec F S16x4096 .bf16 :=
  shapeCast S16x4096 (shapeCast S16x256x16 (extractStridedSlice S16x256x1x16 ![0, 0, 1, 0] (shapeCast S16x256x2x16 x shapeCasts_S16x1x8192_S16x256x2x16) slices_S16x256x2x16_S16x256x1x16_0_0_1_0) shapeCasts_S16x256x1x16_S16x256x16) shapeCasts_S16x256x16_S16x4096

/-- Each packed byte's scale: its group's. -/
def scaleFlat (s : FVec F S32000x256 .bf16) : FVec F S32000x4096 .bf16 :=
  shapeCast S32000x4096 (broadcastInDim S32000x256x16 ![0, 1, 2] bcast_S32000x256x1_S32000x256x16_0_1_2 (broadcastInDim S32000x256x1 ![0, 1] bcast_S32000x256_S32000x256x1_0_1 s)) shapeCasts_S32000x256x16_S32000x4096

/-- The weights of one nibble: the nibble at bit `k`, less eight, times the scale. -/
def wNib (k : BitVec 32) (w : IVec S32000x4096 8) (s : FVec F S32000x256 .bf16) : FVec F S32000x4096 .bf16 :=
  mulf (subf (sitofp .bf16 (andi (Host.shrsi (extui 32 w natLt_8_32) (broadcastInDim S32000x4096 ![] bcast_S_S32000x4096 (constantI S_ 32 k))) (broadcastInDim S32000x4096 ![] bcast_S_S32000x4096 (constantI S_ 32 15#32))))
    (broadcastInDim S32000x4096 ![] bcast_S_S32000x4096 (constant S_ .bf16 0x4100#16))) (scaleFlat s)

/-- The reference's logits. -/
def logits (x : FVec F S16x1x8192 .bf16) (w : IVec S32000x4096 8) (s : FVec F S32000x256 .bf16) : FVec F S16x32000 .f32 :=
  addf (Host.dotGeneral dot_S16x4096_S32000x4096_S16x32000_1_1_0_0_n_n none (xLo x) (wNib 0#32 w s))
    (Host.dotGeneral dot_S16x4096_S32000x4096_S16x32000_1_1_0_0_n_n none (xHi x) (wNib 4#32 w s))

/-- The greatest logit of each row. -/
def top (l : FVec F S16x32000 .f32) : FVec F S16 .f32 :=
  Host.reduce FloatOps.maximumf l (constant S_ .f32 0xFF800000#32) reducesTo_S16x32000_S16_d1 h_S_

/-- Its column. -/
def token (l : FVec F S16x32000 .f32) : IVec S16 32 :=
  fun j => (Host.argReduce reducer_argmax_f32_i32 l (iotaInDim S16x32000 32 1) (constant S_ .f32 0xFF800000#32) (constantI S_ 32 0#32) reducesTo_S16x32000_S16_d1 h_S_ j).2

/-- The greatest of the other logits. -/
def second (l : FVec F S16x32000 .f32) : FVec F S16 .f32 :=
  top (select (cmpi .eq (iotaInDim S16x32000 32 1) (broadcastInDim S16x32000 ![0, 1] bcast_S16x1_S16x32000_0_1 (broadcastInDim S16x1 ![0] bcast_S16_S16x1_0 (token l))))
    (broadcastInDim S16x32000 ![] bcast_S_S16x32000 (constant S_ .f32 0xFF800000#32)) l)

theorem token_eq (V : Valuation τ sig (Elt F)) :
    after ops V (main_v39 : DevRef τ sig)
      = shapeCast S16x1 (token (logits (V (main_arg0 : DevRef τ sig)) (V (main_arg1 : DevRef τ sig)) (V (main_arg2 : DevRef τ sig)))) shapeCasts_S16_S16x1 := by
  after_results_simp
  rfl

theorem top_eq (V : Valuation τ sig (Elt F)) :
    after ops V (main_v40 : DevRef τ sig)
      = shapeCast S16x1 (top (logits (V (main_arg0 : DevRef τ sig)) (V (main_arg1 : DevRef τ sig)) (V (main_arg2 : DevRef τ sig)))) shapeCasts_S16_S16x1 := by
  after_results_simp
  rfl

theorem margin_eq (V : Valuation τ sig (Elt F)) :
    after ops V (main_v42 : DevRef τ sig)
      = shapeCast S16x1 (subf (top (logits (V (main_arg0 : DevRef τ sig)) (V (main_arg1 : DevRef τ sig)) (V (main_arg2 : DevRef τ sig))))
          (second (logits (V (main_arg0 : DevRef τ sig)) (V (main_arg1 : DevRef τ sig)) (V (main_arg2 : DevRef τ sig))))) shapeCasts_S16_S16x1 := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., unary_bufs_sub .., reshape_bufs_sub .., reshape_bufs_sub .., unary_bufs_sub .., reshape_bufs_sub .., reshape_bufs_sub .., unary_bufs_sub .., unary_bufs_sub .., reshape_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., binary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., unary_bufs_sub .., binary_bufs_sub .., nullary_bufs_sub .., unary_bufs_sub .., unary_bufs_sub .., ternary_bufs_sub .., nullary_bufs_sub .., binary_bufs_sub .., reshape_bufs_sub .., reshape_bufs_sub .., binary_bufs_sub .., reshape_bufs_sub ..⟩

/-- From any memory with zero counters every weakly fair execution of the reference terminates with its
    three results at the terms above and its arguments unchanged, every counter still at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v39) = shapeCast S16x1 (token (logits (m ((c.tc : Thread nD τ).loc main_arg0)) (m ((c.tc : Thread nD τ).loc main_arg1)) (m ((c.tc : Thread nD τ).loc main_arg2)))) shapeCasts_S16_S16x1
        ∧ r.2.mem ((c.tc : Thread nD τ).loc main_v42) = shapeCast S16x1 (subf (top (logits (m ((c.tc : Thread nD τ).loc main_arg0)) (m ((c.tc : Thread nD τ).loc main_arg1)) (m ((c.tc : Thread nD τ).loc main_arg2)))) (second (logits (m ((c.tc : Thread nD τ).loc main_arg0)) (m ((c.tc : Thread nD τ).loc main_arg1)) (m ((c.tc : Thread nD τ).loc main_arg2))))) shapeCasts_S16_S16x1
        ∧ r.2.mem ((c.tc : Thread nD τ).loc main_v40) = shapeCast S16x1 (top (logits (m ((c.tc : Thread nD τ).loc main_arg0)) (m ((c.tc : Thread nD τ).loc main_arg1)) (m ((c.tc : Thread nD τ).loc main_arg2)))) shapeCasts_S16_S16x1
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => ⟨(h c main_v39).trans (token_eq _), (h c main_v42).trans (margin_eq _), (h c main_v40).trans (top_eq _),
      (h c main_arg0).trans (arg0_eq _), (h c main_arg1).trans (arg1_eq _), (h c main_arg2).trans (arg2_eq _)⟩,
      sem_eq_zero_of_no_sems rfl r.2⟩)
    (run_seq scopedRefs_eq scopedSems_eq defs main (fun _ => ops) main_eq (fun _ => ops_sub) m ρ)

end Cert.ReferenceIdeal.HostRun

end
-- ==== Proof.RefRead.lean ====
/- The reference's results, read at an index. -/
module

public import proofs.«01_k».proof.Proof.RefRun
public import proofs.«01_k».proof.Proof.TopTwo

@[expose] public section

set_option maxRecDepth 16384

noncomputable section

namespace Cert.ReferenceIdeal.HostRun

open Cert.ReferenceIdeal Cert.ReferenceIdeal.Gen
open Idealize.ShloMosaic Idealize.ShloMosaic.TcCoe Idealize.SL.Sem

/-- The nibbles of a byte, less eight. -/
def nibble (w : BitVec 8) (h : ℕ) : EReal := (((((w.toNat / 16 ^ h % 16 : ℕ) : ℤ) - 8 : ℤ) : ℝ) : EReal)

theorem ofBits_eight : Ideal.ofBits .bf16 0x4100#16 = ((8 : ℝ) : EReal) := by
  simp [Ideal.ofBits, Ideal.ieee, -EReal.coe_mul]; norm_num

theorem ofBits_low : Ideal.ofBits .f32 0xFF800000#32 = ⊥ := by
  simp [Ideal.ofBits, Ideal.ieee]

theorem xLo_at (x : FVec Ideal S16x1x8192 .bf16) (b : Fin 16) (k : Fin 4096) :
    xLo x (ix2 b k) = x (ix3 b 0 ⟨k.val / 16 * 32 + k.val % 16, by omega⟩) := by
  pointwise [xLo]

theorem xHi_at (x : FVec Ideal S16x1x8192 .bf16) (b : Fin 16) (k : Fin 4096) :
    xHi x (ix2 b k) = x (ix3 b 0 ⟨k.val / 16 * 32 + 16 + k.val % 16, by omega⟩) := by
  pointwise [xHi]

theorem masked_nibble (h : Fin 2) (b : BitVec 8) :
    (IntOp.andi (IntOp.shrsi .host (BitVec.setWidth 32 b) (BitVec.ofNat 32 (4 * h.val))) 15#32).toInt = (b.toNat / 16 ^ h.val % 16 : ℕ) := by
  revert h b
  decide +kernel

theorem wNib_at (h : Fin 2) (w : IVec S32000x4096 8) (s : FVec Ideal S32000x256 .bf16) (v : Fin 32000) (k : Fin 4096) :
    wNib (BitVec.ofNat 32 (4 * h.val)) w s (ix2 v k) = nibble (w (ix2 v k)) h.val * s (ix2 v ⟨k.val / 16, by omega⟩) := by
  pointwise [wNib, scaleFlat]
  refine congrArg (· * _) ?_
  rw [ofBits_eight]
  show (((IntOp.andi (IntOp.shrsi .host (BitVec.setWidth 32 (w (ix2 v k))) (BitVec.ofNat 32 (4 * h.val))) 15#32).toInt : ℝ) : EReal) - ((8 : ℝ) : EReal) = _
  rw [masked_nibble, ← EReal.coe_sub, nibble]
  congr 1
  push_cast
  rfl

theorem logits_at (x : FVec Ideal S16x1x8192 .bf16) (w : IVec S32000x4096 8) (s : FVec Ideal S32000x256 .bf16) (b : Fin 16) (v : Fin 32000) :
    logits x w s (ix2 b v)
      = ∑ k : Fin 4096, x (ix3 b 0 ⟨k.val / 16 * 32 + k.val % 16, by omega⟩) * (nibble (w (ix2 v k)) 0 * s (ix2 v ⟨k.val / 16, by omega⟩))
        + ∑ k : Fin 4096, x (ix3 b 0 ⟨k.val / 16 * 32 + 16 + k.val % 16, by omega⟩) * (nibble (w (ix2 v k)) 1 * s (ix2 v ⟨k.val / 16, by omega⟩)) := by
  pointwise [logits]
  refine congrArg₂ (· + ·) (Finset.sum_congr rfl fun k _ => ?_) (Finset.sum_congr rfl fun k _ => ?_)
  · rw [xLo_at]
    exact congrArg (_ * ·) (wNib_at 0 w s v k)
  · rw [xHi_at]
    exact congrArg (_ * ·) (wNib_at 1 w s v k)

open Cert.TopTwo (Sup First pick pick_first sup_fold)

/-- A row of logits, by column number. -/
def row (l : FVec Ideal S16x32000 .f32) (b : Fin 16) (v : ℕ) : EReal := if h : v < 32000 then l (ix2 b ⟨v, h⟩) else ⊥

theorem top_at (l : FVec Ideal S16x32000 .f32) (b : Fin 16) : Sup 32000 (row l b) (top l (ix1 b)) := by
  have e : top l (ix1 b) = Finset.fold max (⊥ : EReal) (fun v : Fin 32000 => row l b v.val) Finset.univ := by
    pointwise [top]
    rw [ofBits_low]
    refine congrArg (fun f => Finset.fold max (⊥ : EReal) f Finset.univ) (funext fun v => ?_)
    rw [row, dif_pos v.isLt]
  rw [e]
  exact sup_fold _

theorem second_at (l : FVec Ideal S16x32000 .f32) (b : Fin 16) (K : ℕ) (hK : K < 32000) (ht : token l (ix1 b) = BitVec.ofNat 32 K) :
    Sup 32000 (fun v => if v = K then ⊥ else row l b v) (second l (ix1 b)) := by
  have h := top_at (select (cmpi .eq (iotaInDim S16x32000 32 1) (broadcastInDim S16x32000 ![0, 1] Facts₀.bcast_S16x1_S16x32000_0_1 (broadcastInDim S16x1 ![0] Facts₀.bcast_S16_S16x1_0 (token l))))
    (broadcastInDim S16x32000 ![] Facts₀.bcast_S_S16x32000 (constant S_ .f32 0xFF800000#32)) l) b
  have e : ∀ v < 32000, row (select (cmpi .eq (iotaInDim S16x32000 32 1) (broadcastInDim S16x32000 ![0, 1] Facts₀.bcast_S16x1_S16x32000_0_1 (broadcastInDim S16x1 ![0] Facts₀.bcast_S16_S16x1_0 (token l))))
      (broadcastInDim S16x32000 ![] Facts₀.bcast_S_S16x32000 (constant S_ .f32 0xFF800000#32)) l) b v = if v = K then ⊥ else row l b v := by
    intro v hv
    rw [row, row, dif_pos hv, dif_pos hv]
    generalize hT : token l = T at ht
    pointwise
    rw [ht, ofBits_low]
    have : (BitVec.ofNat 32 v = BitVec.ofNat 32 K) ↔ v = K := by
      rw [← BitVec.toNat_inj, BitVec.toNat_ofNat, BitVec.toNat_ofNat, Nat.mod_eq_of_lt (by omega), Nat.mod_eq_of_lt (by omega)]
    by_cases hvK : v = K
    · subst hvK
      simp [IntOp.cmpi, Scalar.select]
    · have h' : ¬ (BitVec.ofNat 32 v = BitVec.ofNat 32 K) := fun hh => hvK (this.mp hh)
      rw [if_neg hvK, IntOp.cmpi]
      simp only [beq_eq_false_iff_ne.mpr h']
      rfl
  unfold second
  refine ⟨fun v hv => ?_, ?_⟩
  · exact (e v hv).symm.trans_le (h.1 v hv)
  · rcases h.2 with hb | ⟨v, hv, hb⟩
    · exact Or.inl hb
    · exact Or.inr ⟨v, hv, (e v hv).symm.trans hb⟩

/-- The reference's choice between two logits under their columns. -/
theorem reducer_eq (p q : EReal × BitVec 32) (hp : p.2.toNat < 2 ^ 31) (hq : q.2.toNat < 2 ^ 31) :
    reducer_argmax_f32_i32 (F := Ideal) p q = pick p q := by
  have hs : p.2.slt q.2 = decide (p.2.toNat < q.2.toNat) := by
    rw [BitVec.slt, BitVec.toInt_eq_toNat_of_lt (by omega), BitVec.toInt_eq_toNat_of_lt (by omega)]
    simp
  unfold reducer_argmax_f32_i32 pick
  simp only [Ideal.cmpf_def, Ideal.cmp, IntOp.cmpi, hs]
  by_cases h1 : q.1 < p.1
  · have e : ∀ x : BitVec 1, 1#1 ||| x = 1#1 := by decide
    simp [h1, IntOp.ori, IntOp.andi, Scalar.select, e]
  · by_cases h2 : p.1 = q.1
    · by_cases h3 : p.2.toNat < q.2.toNat <;> simp [h1, h2, h3, IntOp.ori, IntOp.andi, Scalar.select]
    · simp [h1, h2, IntOp.ori, IntOp.andi, Scalar.select]

theorem foldl_reducer : ∀ (ps : List (EReal × BitVec 32)) (_ : ∀ p ∈ ps, p.2.toNat < 2 ^ 31) (a : EReal × BitVec 32) (_ : a.2.toNat < 2 ^ 31),
    ps.foldl (reducer_argmax_f32_i32 (F := Ideal)) a = ps.foldl pick a
  | [], _, _, _ => rfl
  | p :: ps, h, a, ha => by
    have hp := h p (by simp)
    rw [List.foldl_cons, List.foldl_cons, reducer_eq a p ha hp]
    refine foldl_reducer ps (fun q hq => h q (by simp [hq])) _ ?_
    simp only [pick]
    split
    · exact ha
    · exact hp

theorem token_at (l : FVec Ideal S16x32000 .f32) (b : Fin 16) :
    ∃ K, First 32000 (row l b) K ∧ token l (ix1 b) = BitVec.ofNat 32 K := by
  unfold token
  rw [Ideal.argReduce_eq_reduce2, Host.reduce2_eq_foldl_fiber]
  let ns := (List.finRange S16x32000.numel).filter fun n => Facts₀.reducesTo_S16x32000_S16_d1.drop (S16x32000.rowMajor.symm n) = ix1 b
  have hns : ∀ n ∈ ns, ∃ k : Fin 32000, S16x32000.rowMajor.symm n = ix2 b k := by
    intro n hn
    have h := (List.mem_filter.mp hn).2
    obtain ⟨k, hk⟩ := (Shape.ReducesTo.fiber_r2_a1 (n0 := 16) (n1 := 32000) Facts₀.reducesTo_S16x32000_S16_d1 (ix1 b) _).mp (of_decide_eq_true h)
    exact ⟨k, hk.symm⟩
  have hfib : Host.argReduceFiber l (iotaInDim S16x32000 32 1) Facts₀.reducesTo_S16x32000_S16_d1 (ix1 b)
      = (ns.map fun n => (S16x32000.rowMajor.symm n 1).val).map fun v => (row l b v, BitVec.ofNat 32 v) := by
    rw [List.map_map]
    refine List.map_congr_left fun n hn => ?_
    obtain ⟨k, hk⟩ := hns n hn
    show (l (S16x32000.rowMajor.symm n), iotaInDim S16x32000 32 1 (S16x32000.rowMajor.symm n)) = (row l b (S16x32000.rowMajor.symm n 1).val, BitVec.ofNat 32 (S16x32000.rowMajor.symm n 1).val)
    rw [hk]
    refine Prod.ext ?_ rfl
    show l (ix2 b k) = row l b k.val
    rw [row, dif_pos k.isLt]
  have hmem : ∀ v, v ∈ (ns.map fun n => (S16x32000.rowMajor.symm n 1).val) ↔ v < 32000 := by
    intro v
    rw [List.mem_map]
    constructor
    · rintro ⟨n, _, rfl⟩
      exact (S16x32000.rowMajor.symm n 1).isLt
    · intro hv
      refine ⟨S16x32000.rowMajor (ix2 b ⟨v, hv⟩), ?_, by rw [Equiv.symm_apply_apply]; rfl⟩
      refine List.mem_filter.mpr ⟨List.mem_finRange _, decide_eq_true ?_⟩
      rw [Equiv.symm_apply_apply]
      exact (Shape.ReducesTo.fiber_r2_a1 (n0 := 16) (n1 := 32000) Facts₀.reducesTo_S16x32000_S16_d1 (ix1 b) _).mpr ⟨⟨v, hv⟩, rfl⟩
  rw [hfib]
  generalize (ns.map fun n => (S16x32000.rowMajor.symm n 1).val) = vs at hmem
  obtain ⟨K, hK, hf⟩ := pick_first (row l b) 32000 (by norm_num) (by norm_num) vs hmem
  refine ⟨K, hK, ?_⟩
  rw [foldl_reducer]
  · rw [List.foldl_map]
    have h0 : (constant (F := Ideal) S_ .f32 0xFF800000#32 (Shape.Idx.first h_S_), constantI S_ 32 0#32 (Shape.Idx.first h_S_)) = ((⊥ : EReal), 0#32) :=
      Prod.ext ofBits_low rfl
    exact (congrArg (fun z => (vs.foldl (fun acc v => pick acc (row l b v, BitVec.ofNat 32 v)) z).2) h0).trans (congrArg Prod.snd hf)
  · intro p hp
    obtain ⟨v, hv, rfl⟩ := List.mem_map.mp hp
    have := (hmem v).mp hv
    show (BitVec.ofNat 32 v).toNat < _
    rw [BitVec.toNat_ofNat, Nat.mod_eq_of_lt] <;> omega
  · decide

end Cert.ReferenceIdeal.HostRun
-- ==== Proof.Match.lean ====
/- The idealized kernel's three results are the reference's. -/
module

public import proofs.«01_k».proof.Proof.Sums
public import proofs.«01_k».proof.Proof.Blocks
public import proofs.«01_k».proof.Proof.KernelRead
public import proofs.«01_k».proof.Proof.RefRead

@[expose] public section

set_option maxRecDepth 16384

noncomputable section

namespace Cert.KernelIdeal.Value

open Cert.KernelIdeal Cert.KernelIdeal.Gen Cert.KernelIdeal.Body
open Idealize.ShloMosaic Idealize.ShloMosaic.TcCoe
open Idealize.SL.Sem
open Cert.TopTwo
open Cert.ReferenceIdeal.HostRun (row logits logits_at token top second token_at top_at second_at)

/-- Lanes whose row is past the vocabulary are at minus infinity. -/
theorem masked_at (n : ℕ) (hn : n < 63) (v : FVec Ideal S32x256 .f32) (b : Fin 16) (q : Fin 512) :
    masked (F := Ideal) (BitVec.ofNat 32 n) v (lane2 b q) = if 512 * n + off q.val < 32000 then v (lane2 b q) else (⊥ : EReal) := by
  have hq : off q.val < 512 := by unfold off; omega
  show Scalar.select (IntOp.cmpi .slt (ids (BitVec.ofNat 32 n) (lane2 b q)) 32000#32) (v (lane2 b q)) (Ideal.ofBits .f32 0xFF800000#32) = _
  rw [ids_at, ofBits_low]
  have hs : (BitVec.ofNat 32 (512 * n + off q.val)).slt 32000#32 = decide (512 * n + off q.val < 32000) := by
    rw [BitVec.slt, BitVec.toInt_eq_toNat_of_lt (by rw [BitVec.toNat_ofNat]; omega), BitVec.toInt_eq_toNat_of_lt (by decide), BitVec.toNat_ofNat,
      Nat.mod_eq_of_lt (by omega)]
    refine decide_eq_decide.mpr ?_
    have e : ((32000#32).toNat : ℤ) = 32000 := rfl
    rw [e]
    omega
  rw [IntOp.cmpi]
  simp only [hs]
  by_cases h : 512 * n + off q.val < 32000
  · simp [h, Scalar.select]
  · simp [h, Scalar.select]

/-- The spread activations do not depend on what the buffers held before. -/
theorem spread_indep (X : FVec Ideal S16x8192 .bf16) (Y7 Y7' : FVec Ideal S512x256 .bf16) (Y8 Y8' : FVec Ideal S32x16384 .bf16) :
    spreadAll (F := Ideal) (stacked (F := Ideal) X Y7) Y8 = spreadAll (F := Ideal) (stacked (F := Ideal) X Y7') Y8' := by
  funext j
  idx_vars j
  have hR : j0.val = 16 * (⟨j0.val / 16, by omega⟩ : Fin 2).val + (⟨j0.val % 16, by omega⟩ : Fin 16).val := by simp only; omega
  have hC : j1.val = 512 * (⟨j1.val / 512, by omega⟩ : Fin 32).val + (⟨j1.val % 512, by omega⟩ : Fin 512).val := by simp only; omega
  exact (spreadAll_at X Y7 Y8 _ _ _ _ j0 j1 hR hC).trans (spreadAll_at X Y7' Y8' _ _ _ _ j0 j1 hR hC).symm

variable (m : (ℓ : Loc nD τ sig) → Buf (Elt Ideal) ℓ)

/-- The activations as a matrix. -/
def acts (c : Dev nD) : FVec Ideal S16x8192 .bf16 := fun i => m ((c : Thread nD τ).loc main_arg0) (ix3 (i 0) (0 : Fin 1) (i 1))

theorem acts_eq (c : Dev nD) (t : Fin cfg0.N) : (show FVec Ideal S16x8192 .bf16 from iblk m c 0 t) = acts m c := by
  funext i
  idx_vars i
  exact x_at m c t i0 i1

/-- The spread activations. -/
def XP (c : Dev nD) : FVec Ideal S32x16384 .bf16 := spreadAll (F := Ideal) (stacked (F := Ideal) (acts m c) (fun _ => (0 : EReal))) (fun _ => (0 : EReal))

theorem hXP (c : Dev nD) (t : Fin cfg0.N) (g7 : FVec Ideal S512x256 .bf16) (g8 : FVec Ideal S32x16384 .bf16) :
    spreadAll (F := Ideal) (stacked (F := Ideal) (show FVec Ideal S16x8192 .bf16 from iblk m c 0 t) g7) g8 = XP m c := by
  rw [acts_eq]
  exact spread_indep _ _ _ _ _

/-- The reference's logits of row `b`. -/
def refRow (c : Dev nD) (b : Fin 16) : ℕ → EReal :=
  row (logits (F := Ideal) (m ((c : Thread nD τ).loc main_arg0)) (m ((c : Thread nD τ).loc main_arg1)) (m ((c : Thread nD τ).loc main_arg2))) b

/-- The step's logits. -/
def L (c : Dev nD) (n : ℕ) : FVec Ideal S32x256 .f32 := fun j =>
  val 32000 512 (refRow m c ⟨(j 0).val % 16, Nat.mod_lt _ (by norm_num)⟩) off (256 * ((j 0).val / 16) + (j 1).val) n

theorem L_at (c : Dev nD) (n : ℕ) (b : Fin 16) (q : Fin 512) : L m c n (lane2 b q) = val 32000 512 (refRow m c b) off q.val n := by
  show val 32000 512 (refRow m c ⟨(16 * (q.val / 256) + b.val) % 16, _⟩) off (256 * ((16 * (q.val / 256) + b.val) / 16) + q.val % 256) n = _
  have e1 : (16 * (q.val / 256) + b.val) % 16 = b.val := by omega
  have e2 : 256 * ((16 * (q.val / 256) + b.val) / 16) + q.val % 256 = q.val := by omega
  simp only [e1, e2]

theorem hL_at (c : Dev nD) (t : Fin cfg0.N) (d1 : S512x4096.Idx → BitVec 8) (d2 : S512x256.Idx → EReal) (b : Fin 16) (q : Fin 512) :
    lanes (F := Ideal) (grid0.coords t) (win0_1.fill (grid0.coords t) d1 (iblk m c 1 t)) (XP m c) (win0_2.fill (grid0.coords t) d2 (iblk m c 2 t)) (lane2 b q)
      = L m c t.val (lane2 b q) := by
  have ht : t.val < 63 := lt_of_lt_of_eq t.isLt N_0
  unfold lanes
  rw [coord_val, masked_at t.val ht, L_at, val]
  by_cases h : 512 * t.val + off q.val < 32000
  · rw [if_pos h, if_pos h, refRow, row, dif_pos h, logits_at]
    have hoff : off q.val < 512 := by unfold off; omega
    unfold XP lane2
    rw [logit_at _ (acts m c) _ _ _ ⟨q.val / 256, by omega⟩ b ⟨q.val % 256, by omega⟩ _ rfl ⟨off q.val, hoff⟩ rfl]
    have hw := fun k => w_at m c t d1 ⟨off q.val, hoff⟩ k h
    have hs := fun k => s_at m c t d2 ⟨off q.val, hoff⟩ k h
    refine congrArg₂ (· + ·) (Finset.sum_congr rfl fun k _ => ?_) (Finset.sum_congr rfl fun k _ => ?_)
    · rw [hw, hs]; rfl
    · rw [hw, hs]; rfl
  · rw [if_neg h, if_neg h]

theorem hL (c : Dev nD) (t : Fin cfg0.N) (d1 : S512x4096.Idx → BitVec 8) (d2 : S512x256.Idx → EReal) :
    lanes (F := Ideal) (grid0.coords t) (win0_1.fill (grid0.coords t) d1 (iblk m c 1 t)) (XP m c) (win0_2.fill (grid0.coords t) d2 (iblk m c 2 t)) = L m c t.val := by
  funext j
  idx_vars j
  have e : (ix2 j0 j1 : S32x256.Idx) = lane2 ⟨j0.val % 16, by omega⟩ ⟨256 * (j0.val / 16) + j1.val, by omega⟩ := by
    unfold lane2
    refine congrArg₂ ix2 (Fin.ext ?_) (Fin.ext ?_) <;> simp only <;> omega
  rw [e]
  exact hL_at m c t d1 d2 _ _

/-- The reference's logits. -/
def refLogits (c : Dev nD) : FVec Ideal Cert.ReferenceIdeal.S16x32000 .f32 :=
  logits (F := Ideal) (m ((c : Thread nD τ).loc main_arg0)) (m ((c : Thread nD τ).loc main_arg1)) (m ((c : Thread nD τ).loc main_arg2))

/-- At each row, the kernel's three results are the reference's token, margin and top logit. -/
theorem results_eq (c : Dev nD) (b : Fin 16) :
    tokRes (F := Ideal) (L m c) (ix2 b 0) = token (F := Ideal) (refLogits m c) (ix1 b)
      ∧ marginRes (F := Ideal) (L m c) (ix2 b 0) = (show EReal from top (F := Ideal) (refLogits m c) (ix1 b)) - (show EReal from second (F := Ideal) (refLogits m c) (ix1 b))
      ∧ topRes (F := Ideal) (L m c) (ix2 b 0) = top (F := Ideal) (refLogits m c) (ix1 b) := by
  obtain ⟨K, C, h1, h2, h3, h4, h5⟩ := results (L m c) b (refRow m c b) (fun q t _ => L_at m c t b q)
  obtain ⟨K', h1', h3'⟩ := token_at (refLogits m c) b
  have hK : K' = K := h1'.unique h1
  subst hK
  have ht : top (F := Ideal) (refLogits m c) (ix1 b) = refRow m c b K' :=
    Sup.unique (top_at (refLogits m c) b) ⟨h1.2.1, Or.inr ⟨K', h1.1, rfl⟩⟩
  have hs : second (F := Ideal) (refLogits m c) (ix1 b) = C := Sup.unique (second_at (refLogits m c) b K' h1.1 h3') h2
  refine ⟨h3.trans h3'.symm, ?_, h4.trans ht.symm⟩
  rw [h5, ht, hs]

theorem token_eq (c : Dev nD) :
    tokRes (F := Ideal) (L m c) = shapeCast S16x1 (token (F := Ideal) (refLogits m c)) Cert.ReferenceIdeal.Facts₀.shapeCasts_S16_S16x1 := by
  funext j
  idx_vars j
  obtain rfl : j1 = 0 := Subsingleton.elim _ _
  refine (results_eq m c j0).1.trans ?_
  generalize token (F := Ideal) (refLogits m c) = z
  pointwise

theorem margin_eq (c : Dev nD) :
    marginRes (F := Ideal) (L m c)
      = shapeCast S16x1 (subf (top (F := Ideal) (refLogits m c)) (second (F := Ideal) (refLogits m c))) Cert.ReferenceIdeal.Facts₀.shapeCasts_S16_S16x1 := by
  funext j
  idx_vars j
  obtain rfl : j1 = 0 := Subsingleton.elim _ _
  refine (results_eq m c j0).2.1.trans ?_
  generalize top (F := Ideal) (refLogits m c) = z
  generalize second (F := Ideal) (refLogits m c) = y
  pointwise

theorem top_eq (c : Dev nD) :
    topRes (F := Ideal) (L m c) = shapeCast S16x1 (top (F := Ideal) (refLogits m c)) Cert.ReferenceIdeal.Facts₀.shapeCasts_S16_S16x1 := by
  funext j
  idx_vars j
  obtain rfl : j1 = 0 := Subsingleton.elim _ _
  refine (results_eq m c j0).2.2.trans ?_
  generalize top (F := Ideal) (refLogits m c) = z
  pointwise

end Cert.KernelIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.Match
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

/-- The idealized kernel's run from any memory: what its results hold, its arguments unchanged, every counter at zero. -/
theorem ideal_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_v1_0) = Cert.KernelIdeal.Value.tokRes (F := Ideal) (Cert.KernelIdeal.Value.L m c)
      ∧ r.2.mem ((c.tc : Thread Cert.KernelIdeal.nD Cert.KernelIdeal.τ).loc Cert.KernelIdeal.main_v1_1) = Cert.KernelIdeal.Value.marginRes (F := Ideal) (Cert.KernelIdeal.Value.L m c)
      ∧ r.2.mem ((c.tc : Thread Cert.KernelIdeal.nD Cert.KernelIdeal.τ).loc Cert.KernelIdeal.main_v1_2) = Cert.KernelIdeal.Value.topRes (F := Ideal) (Cert.KernelIdeal.Value.L m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  Cert.KernelIdeal.Value.run (F := Ideal) m g (Cert.KernelIdeal.Value.XP m) (Cert.KernelIdeal.Value.L m)
    (Cert.KernelIdeal.Value.hXP m) (Cert.KernelIdeal.Value.hL m)

/-- The rewrites' rules hold. -/
theorem preserves : Cert.preserves_Kernel_KernelIdeal :=
  ⟨IdealRules.bf16_pair.bufferStatement _ _, IdealRules.bf16_pair.statement _ _, IdealRules.bf16_pair.halfStatement _,
    IdealRules.bf16_pair.statement _ _, IdealRules.bf16_pair.statement _ _, IdealRules.bf16_pair.statement _ _⟩

/-- The idealized kernel runs and leaves its arguments alone. -/
theorem quiescent_ideal : Cert.quiescent_KernelIdeal (hKernelIdeal := Cert.KernelIdeal.Gen.facts) := fun m g _ =>
  (θ_run _ _ _).mono (fun _ h => ⟨fun c => (h.1 c).2.2.2, h.2⟩) (ideal_run m g)

/-- The reference runs and leaves its arguments alone. -/
theorem quiescent_reference : Cert.quiescent_ReferenceIdeal (hReferenceIdeal := Cert.ReferenceIdeal.Gen.facts) := fun m g _ =>
  (θ_run _ _ _).mono (fun _ h => ⟨fun c => (h.1 c).2.2.2, h.2⟩) (Cert.ReferenceIdeal.HostRun.run (F := Ideal) m g)

/-- The idealized kernel and the reference, from equal arguments, end with equal results. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => Cert.KernelIdeal.Value.tokRes (F := Ideal) (Cert.KernelIdeal.Value.L m c), fun c => Cert.KernelIdeal.Value.marginRes (F := Ideal) (Cert.KernelIdeal.Value.L m c),
    fun c => Cert.KernelIdeal.Value.topRes (F := Ideal) (Cert.KernelIdeal.Value.L m c), ?_, ?_⟩
  · exact (θ_run _ _ _).mono (fun _ h => h.1) (ideal_run m g)
  · refine (θ_run _ _ _).mono (fun r h c => ?_) (Cert.ReferenceIdeal.HostRun.run (F := Ideal) m' g')
    obtain ⟨h0, h1, h2, h3⟩ := h.1 c
    obtain ⟨a0, a1, a2⟩ := hag c
    rw [a0, a1, a2] at h0 h1 h2
    exact ⟨h0.trans (Cert.KernelIdeal.Value.token_eq m c).symm, h1.trans (Cert.KernelIdeal.Value.margin_eq m c).symm,
      h2.trans (Cert.KernelIdeal.Value.top_eq m c).symm, h3⟩

/-- All five claims. -/
theorem claim : Cert.Claim := ⟨Cert.Kernel.Gen.facts, Cert.KernelIdeal.Gen.facts, Cert.ReferenceIdeal.Gen.facts,
  fun m g _ => Cert.Kernel.FrameRun.run m g, quiescent_ideal, quiescent_reference, preserves, algebraic⟩

end Cert.Proof

end
